-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_rows [hPre_finite_rows : Cert.Pre_finite_rows.Facts] (m : (ℓ : Loc Cert.KernelIdeal.nD Cert.KernelIdeal.τ Cert.KernelIdeal.sig) → Buf (Elt Ideal) ℓ) : Prop :=
  ∀ c : Dev Cert.KernelIdeal.nD,
    (Cert.Pre_finite_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_rows [hPre_finite_rows : Cert.Pre_finite_rows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_rows [hKernelIdeal : Cert.KernelIdeal.Facts] [hPre_finite_rows : Cert.Pre_finite_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_rows m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_rows [hReferenceIdeal : Cert.ReferenceIdeal.Facts] [hPre_finite_rows : Cert.Pre_finite_rows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_rows m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def preserves_Kernel_KernelIdeal : Prop :=
  True

def algebraic_KernelIdeal_ReferenceIdeal_pre_finite_rows [hKernelIdeal : Cert.KernelIdeal.Facts] [hReferenceIdeal : Cert.ReferenceIdeal.Facts] [hPre_finite_rows : Cert.Pre_finite_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_rows m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v61) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v31) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v30) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)) (v2 : (c : Dev Cert.Kernel5Ideal.nD) → Buf (Elt Ideal) ((c.tc : Thread Cert.Kernel5Ideal.nD Cert.Kernel5Ideal.τ).loc Cert.Kernel5Ideal.main_v0_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_v0_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v30) = v0 c
          ∧ r.2.mem ((c.tc : Thread Cert.Reference5Ideal.nD Cert.Reference5Ideal.τ).loc Cert.Reference5Ideal.main_v32) = v1 c
          ∧ r.2.mem ((c.tc : Thread Cert.Reference5Ideal.nD Cert.Reference5Ideal.τ).loc Cert.Reference5Ideal.main_v34) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)) →
    ∃ (v0 : (c : Dev Cert.Kernel6Ideal.nD) → Buf (Elt Ideal) ((c.tc : Thread Cert.Kernel6Ideal.nD Cert.Kernel6Ideal.τ).loc Cert.Kernel6Ideal.main_v49_0)) (v1 : (c : Dev Cert.Kernel6Ideal.nD) → Buf (Elt Ideal) ((c.tc : Thread Cert.Kernel6Ideal.nD Cert.Kernel6Ideal.τ).loc Cert.Kernel6Ideal.main_v49_1)) (v2 : (c : Dev Cert.Kernel6Ideal.nD) → Buf (Elt Ideal) ((c.tc : Thread Cert.Kernel6Ideal.nD Cert.Kernel6Ideal.τ).loc Cert.Kernel6Ideal.main_v49_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v49_0) = v0 c
          ∧ r.2.mem ((c.tc : Thread Cert.Kernel6Ideal.nD Cert.Kernel6Ideal.τ).loc Cert.Kernel6Ideal.main_v49_1) = v1 c
          ∧ r.2.mem ((c.tc : Thread Cert.Kernel6Ideal.nD Cert.Kernel6Ideal.τ).loc Cert.Kernel6Ideal.main_v49_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v97) = v0 c
          ∧ r.2.mem ((c.tc : Thread Cert.Reference6Ideal.nD Cert.Reference6Ideal.τ).loc Cert.Reference6Ideal.main_v98) = v1 c
          ∧ r.2.mem ((c.tc : Thread Cert.Reference6Ideal.nD Cert.Reference6Ideal.τ).loc Cert.Reference6Ideal.main_v99) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite_rows : Cert.Pre_finite_rows.Facts),
    quiescent_Kernel (hKernel := hKernel)
    ∧ quiescent_KernelIdeal (hKernelIdeal := hKernelIdeal)
    ∧ quiescent_KernelIdeal_pre_finite_rows (hKernelIdeal := hKernelIdeal) (hPre_finite_rows := hPre_finite_rows)
    ∧ quiescent_ReferenceIdeal (hReferenceIdeal := hReferenceIdeal)
    ∧ quiescent_ReferenceIdeal_pre_finite_rows (hReferenceIdeal := hReferenceIdeal) (hPre_finite_rows := hPre_finite_rows)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite_rows (hKernelIdeal := hKernelIdeal) (hReferenceIdeal := hReferenceIdeal) (hPre_finite_rows := hPre_finite_rows)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_finite_rows.lean ====
abbrev S2x8x192x16384 : Shape := ⟨4, ![2, 8, 192, 16384]⟩
abbrev S2x8x16384x208 : Shape := ⟨4, ![2, 8, 16384, 208]⟩
abbrev S2x8x64x128x256 : Shape := ⟨5, ![2, 8, 64, 128, 256]⟩
abbrev S_ : Shape := ⟨0, ![]⟩
abbrev S2x8x16384x192 : Shape := ⟨4, ![2, 8, 16384, 192]⟩
abbrev S2x8x16384x1 : Shape := ⟨4, ![2, 8, 16384, 1]⟩
abbrev S2x8x16384 : Shape := ⟨3, ![2, 8, 16384]⟩

class Facts : Prop where
  bcast_S_S2x8x192x16384 : S_.BroadcastsInDim S2x8x192x16384 (![] : Fin 0 → Fin S2x8x192x16384.rank)
  reducesTo_S2x8x192x16384_S_d0_1_2_3 : S2x8x192x16384.ReducesTo [0, 1, 2, 3] S_
  h_S_ : 0 < S_.numel
  slices_S2x8x16384x208_S2x8x16384x192_0_0_0_0 : S2x8x16384x208.Slices ![0, 0, 0, 0] S2x8x16384x192
  bcast_S_S2x8x16384x192 : S_.BroadcastsInDim S2x8x16384x192 (![] : Fin 0 → Fin S2x8x16384x192.rank)
  reducesTo_S2x8x16384x192_S_d0_1_2_3 : S2x8x16384x192.ReducesTo [0, 1, 2, 3] S_
  slices_S2x8x16384x208_S2x8x16384x1_0_0_0_192 : S2x8x16384x208.Slices ![0, 0, 0, 192] S2x8x16384x1
  shapeCasts_S2x8x16384x1_S2x8x16384 : S2x8x16384x1.ShapeCasts S2x8x16384
  bcast_S_S2x8x16384 : S_.BroadcastsInDim S2x8x16384 (![] : Fin 0 → Fin S2x8x16384.rank)
  reducesTo_S2x8x16384_S_d0_1_2 : S2x8x16384.ReducesTo [0, 1, 2] S_

variable [Facts]

def fn {F : FTy → Type} [FloatOps F] (main_arg0 : FVec F S2x8x192x16384 .bf16) (main_arg1 : FVec F S2x8x16384x208 .bf16) (main_arg2 : FVec F S2x8x64x128x256 .bf16) : IVec S_ 1 :=
  let main_v0 : FVec F S2x8x192x16384 .bf16 := Host.absf main_arg0
  let main_cst : FVec F S_ .bf16 := constant S_ .bf16 0x7F80#16
  let main_v1 : FVec F S2x8x192x16384 .bf16 := broadcastInDim S2x8x192x16384 ![] bcast_S_S2x8x192x16384 main_cst
  let main_v2 : IVec S2x8x192x16384 1 := cmpf .olt main_v0 main_v1
  let main_c : IVec S_ 1 := constantI S_ 1 1#1
  let main_v3 : IVec S_ 1 := (fun x v => Host.reduce IntOp.andi x v reducesTo_S2x8x192x16384_S_d0_1_2_3 h_S_) main_v2 main_c
  let main_v4 : FVec F S2x8x16384x192 .bf16 := (extractStridedSlice S2x8x16384x192 ![0, 0, 0, 0] · slices_S2x8x16384x208_S2x8x16384x192_0_0_0_0) main_arg1
  let main_v5 : FVec F S2x8x16384x192 .bf16 := Host.absf main_v4
  let main_cst_0 : FVec F S_ .bf16 := constant S_ .bf16 0x7F80#16
  let main_v6 : FVec F S2x8x16384x192 .bf16 := broadcastInDim S2x8x16384x192 ![] bcast_S_S2x8x16384x192 main_cst_0
  let main_v7 : IVec S2x8x16384x192 1 := cmpf .olt main_v5 main_v6
  let main_c_1 : IVec S_ 1 := constantI S_ 1 1#1
  let main_v8 : IVec S_ 1 := (fun x v => Host.reduce IntOp.andi x v reducesTo_S2x8x16384x192_S_d0_1_2_3 h_S_) main_v7 main_c_1
  let main_v9 : IVec S_ 1 := andi main_v3 main_v8
  let main_v10 : FVec F S2x8x16384x1 .bf16 := (extractStridedSlice S2x8x16384x1 ![0, 0, 0, 192] · slices_S2x8x16384x208_S2x8x16384x1_0_0_0_192) main_arg1
  let main_v11 : FVec F S2x8x16384 .bf16 := shapeCast S2x8x16384 main_v10 shapeCasts_S2x8x16384x1_S2x8x16384
  let main_cst_2 : FVec F S_ .bf16 := constant S_ .bf16 0x3F80#16
  let main_v12 : FVec F S2x8x16384 .bf16 := broadcastInDim S2x8x16384 ![] bcast_S_S2x8x16384 main_cst_2
  let main_v13 : IVec S2x8x16384 1 := cmpf .oeq main_v11 main_v12
  let main_c_3 : IVec S_ 1 := constantI S_ 1 1#1
  let main_v14 : IVec S_ 1 := (fun x v => Host.reduce IntOp.andi x v reducesTo_S2x8x16384_S_d0_1_2 h_S_) main_v13 main_c_3
  let main_v15 : IVec S_ 1 := andi main_v9 main_v14
  main_v15
-- ==== Kernel.lean ====
abbrev S2x8x192x16384 : Shape := ⟨4, ![2, 8, 192, 16384]⟩
abbrev S2x8x16384x208 : Shape := ⟨4, ![2, 8, 16384, 208]⟩
abbrev S2x8x64x128x256 : Shape := ⟨5, ![2, 8, 64, 128, 256]⟩
abbrev S2x16384x1024 : Shape := ⟨3, ![2, 16384, 1024]⟩
abbrev S1x1x192x1024 : Shape := ⟨4, ![1, 1, 192, 1024]⟩
abbrev S1x1x16384x208 : Shape := ⟨4, ![1, 1, 16384, 208]⟩
abbrev S1x1x64x128x256 : Shape := ⟨5, ![1, 1, 64, 128, 256]⟩
abbrev S1x1024x128 : Shape := ⟨3, ![1, 1024, 128]⟩
abbrev S208x1024 : Shape := ⟨2, ![208, 1024]⟩
abbrev S1x1024 : Shape := ⟨2, ![1, 1024]⟩
abbrev S32x256x1024 : Shape := ⟨3, ![32, 256, 1024]⟩
abbrev S144x1024 : Shape := ⟨2, ![144, 1024]⟩
abbrev S16x256 : Shape := ⟨2, ![16, 256]⟩
abbrev S16x1024 : Shape := ⟨2, ![16, 1024]⟩
abbrev S192x1024 : Shape := ⟨2, ![192, 1024]⟩
abbrev S1x1x256x208 : Shape := ⟨4, ![1, 1, 256, 208]⟩
abbrev S256x208 : Shape := ⟨2, ![256, 208]⟩
abbrev S256x1024 : Shape := ⟨2, ![256, 1024]⟩
abbrev S1024 : Shape := ⟨1, ![1024]⟩
abbrev S1x256x1024 : Shape := ⟨3, ![1, 256, 1024]⟩
abbrev S1x1x1024 : Shape := ⟨3, ![1, 1, 1024]⟩
abbrev S1 : Shape := ⟨1, ![1]⟩
abbrev S1x1x1 : Shape := ⟨3, ![1, 1, 1]⟩
abbrev S1x1x1x128x256 : Shape := ⟨5, ![1, 1, 1, 128, 256]⟩
abbrev S128x256 : Shape := ⟨2, ![128, 256]⟩
abbrev S144x256 : Shape := ⟨2, ![144, 256]⟩
abbrev S128x1024 : Shape := ⟨2, ![128, 1024]⟩
abbrev S1024x128 : Shape := ⟨2, ![1024, 128]⟩

abbrev nBuf : Space → Nat
  | .hbm => 4
  | .vmem => 12
  | .smem => 0
  | _ => 0

abbrev bufTy : (tb : Table) → Fin (tcTables nBuf tb) → BufTy
  | .hbm, ⟨0, _⟩ => ⟨S2x8x192x16384, .bf16⟩
  | .hbm, ⟨1, _⟩ => ⟨S2x8x16384x208, .bf16⟩
  | .hbm, ⟨2, _⟩ => ⟨S2x8x64x128x256, .bf16⟩
  | .hbm, ⟨3, _⟩ => ⟨S2x16384x1024, .bf16⟩
  | .local _ .vmem, ⟨0, _⟩ => ⟨S1x1x192x1024, .bf16⟩
  | .local _ .vmem, ⟨1, _⟩ => ⟨S1x1x192x1024, .bf16⟩
  | .local _ .vmem, ⟨2, _⟩ => ⟨S1x1x16384x208, .bf16⟩
  | .local _ .vmem, ⟨3, _⟩ => ⟨S1x1x16384x208, .bf16⟩
  | .local _ .vmem, ⟨4, _⟩ => ⟨S1x1x64x128x256, .bf16⟩
  | .local _ .vmem, ⟨5, _⟩ => ⟨S1x1x64x128x256, .bf16⟩
  | .local _ .vmem, ⟨6, _⟩ => ⟨S1x1024x128, .bf16⟩
  | .local _ .vmem, ⟨7, _⟩ => ⟨S1x1024x128, .bf16⟩
  | .local _ .vmem, ⟨8, _⟩ => ⟨S208x1024, .bf16⟩
  | .local _ .vmem, ⟨9, _⟩ => ⟨S1x1024, .f32⟩
  | .local _ .vmem, ⟨10, _⟩ => ⟨S32x256x1024, .bf16⟩
  | .local _ .vmem, ⟨11, _⟩ => ⟨S144x1024, .f32⟩
  | _, _ => ⟨S2x8x192x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 16], ![false, false, false]⟩

def k0_mult1 : BitVec 32 :=
  let c0_i32_14 : BitVec 32 := 0#32
  c0_i32_14
@[reducible] def k0_t1_loop : Scf.Loop 32 :=
  let c0_i32_29 : BitVec 32 := 0#32
  let c2_i32 : BitVec 32 := 2#32
  let v57 : BitVec 32 := Scalar.addi c0_i32_29 c2_i32
  let c1_i32 : BitVec 32 := 1#32
  ⟨c0_i32_29, v57, c1_i32⟩
def k0_mult2 (k0_t1 : Fin k0_t1_loop.trips) : BitVec 32 :=
  let c0_i32_29 : BitVec 32 := 0#32
  let c1_i32 : BitVec 32 := 1#32
  let arg11 : BitVec 32 := Scf.iv c0_i32_29 c1_i32 k0_t1
  let c32_i32 : BitVec 32 := 32#32
  let v68 : BitVec 32 := Scalar.muli arg11 c32_i32
  let c256_i32 : BitVec 32 := 256#32
  let v69 : BitVec 32 := Scalar.muli v68 c256_i32
  v69
def k0_off1 (k0_t1 : Fin k0_t1_loop.trips) : Fin 4 → Nat :=
  let c0_36 : Index := 0#32
  let c0_37 : Index := 0#32
  let c0_i32_29 : BitVec 32 := 0#32
  let c1_i32 : BitVec 32 := 1#32
  let arg11 : BitVec 32 := Scf.iv c0_i32_29 c1_i32 k0_t1
  let c32_i32 : BitVec 32 := 32#32
  let v68 : BitVec 32 := Scalar.muli arg11 c32_i32
  let c256_i32 : BitVec 32 := 256#32
  let v69 : BitVec 32 := Scalar.muli v68 c256_i32
  let v70 : BitVec 32 := v69
  let v71 : Index := Scalar.indexCast v70
  let c0_38 : Index := 0#32
  ![0, 0, v71.toNat, 0]
def k0_mult3 (k0_t1 : Fin k0_t1_loop.trips) : BitVec 32 :=
  let c0_i32_29 : BitVec 32 := 0#32
  let c1_i32 : BitVec 32 := 1#32
  let arg11 : BitVec 32 := Scf.iv c0_i32_29 c1_i32 k0_t1
  let c32_i32 : BitVec 32 := 32#32
  let v68 : BitVec 32 := Scalar.muli arg11 c32_i32
  let c1_i32_46 : BitVec 32 := 1#32
  let v83 : BitVec 32 := Scalar.addi v68 c1_i32_46
  let c256_i32_47 : BitVec 32 := 256#32
  let v84 : BitVec 32 := Scalar.muli v83 c256_i32_47
  v84
def k0_off2 (k0_t1 : Fin k0_t1_loop.trips) (c1_i32_46 : BitVec 32) : Fin 4 → Nat :=
  let c0_48 : Index := 0#32
  let c0_49 : Index := 0#32
  let c0_i32_29 : BitVec 32 := 0#32
  let c1_i32 : BitVec 32 := 1#32
  let arg11 : BitVec 32 := Scf.iv c0_i32_29 c1_i32 k0_t1
  let c32_i32 : BitVec 32 := 32#32
  let v68 : BitVec 32 := Scalar.muli arg11 c32_i32
  let v83 : BitVec 32 := Scalar.addi v68 c1_i32_46
  let c256_i32_47 : BitVec 32 := 256#32
  let v84 : BitVec 32 := Scalar.muli v83 c256_i32_47
  let v85 : BitVec 32 := v84
  let v86 : Index := Scalar.indexCast v85
  let c0_50 : Index := 0#32
  ![0, 0, v86.toNat, 0]
def k0_mult4 (k0_t1 : Fin k0_t1_loop.trips) : BitVec 32 :=
  let c0_i32_29 : BitVec 32 := 0#32
  let c1_i32 : BitVec 32 := 1#32
  let arg11 : BitVec 32 := Scf.iv c0_i32_29 c1_i32 k0_t1
  let c32_i32 : BitVec 32 := 32#32
  let v68 : BitVec 32 := Scalar.muli arg11 c32_i32
  let c2_i32_57 : BitVec 32 := 2#32
  let v99 : BitVec 32 := Scalar.addi v68 c2_i32_57
  let c256_i32_58 : BitVec 32 := 256#32
  let v100 : BitVec 32 := Scalar.muli v99 c256_i32_58
  v100
def k0_mult5 (k0_t1 : Fin k0_t1_loop.trips) : BitVec 32 :=
  let c0_i32_29 : BitVec 32 := 0#32
  let c1_i32 : BitVec 32 := 1#32
  let arg11 : BitVec 32 := Scf.iv c0_i32_29 c1_i32 k0_t1
  let c32_i32 : BitVec 32 := 32#32
  let v68 : BitVec 32 := Scalar.muli arg11 c32_i32
  let c3_i32 : BitVec 32 := 3#32
  let v115 : BitVec 32 := Scalar.addi v68 c3_i32
  let c256_i32_68 : BitVec 32 := 256#32
  let v116 : BitVec 32 := Scalar.muli v115 c256_i32_68
  v116
def k0_mult6 (k0_t1 : Fin k0_t1_loop.trips) : BitVec 32 :=
  let c0_i32_29 : BitVec 32 := 0#32
  let c1_i32 : BitVec 32 := 1#32
  let arg11 : BitVec 32 := Scf.iv c0_i32_29 c1_i32 k0_t1
  let c32_i32 : BitVec 32 := 32#32
  let v68 : BitVec 32 := Scalar.muli arg11 c32_i32
  let c4_i32 : BitVec 32 := 4#32
  let v131 : BitVec 32 := Scalar.addi v68 c4_i32
  let c256_i32_78 : BitVec 32 := 256#32
  let v132 : BitVec 32 := Scalar.muli v131 c256_i32_78
  v132
def k0_mult7 (k0_t1 : Fin k0_t1_loop.trips) : BitVec 32 :=
  let c0_i32_29 : BitVec 32 := 0#32
  let c1_i32 : BitVec 32 := 1#32
  let arg11 : BitVec 32 := Scf.iv c0_i32_29 c1_i32 k0_t1
  let c32_i32 : BitVec 32 := 32#32
  let v68 : BitVec 32 := Scalar.muli arg11 c32_i32
  let c5_i32 : BitVec 32 := 5#32
  let v147 : BitVec 32 := Scalar.addi v68 c5_i32
  let c256_i32_88 : BitVec 32 := 256#32
  let v148 : BitVec 32 := Scalar.muli v147 c256_i32_88
  v148
def k0_mult8 (k0_t1 : Fin k0_t1_loop.trips) : BitVec 32 :=
  let c0_i32_29 : BitVec 32 := 0#32
  let c1_i32 : BitVec 32 := 1#32
  let arg11 : BitVec 32 := Scf.iv c0_i32_29 c1_i32 k0_t1
  let c32_i32 : BitVec 32 := 32#32
  let v68 : BitVec 32 := Scalar.muli arg11 c32_i32
  let c6_i32 : BitVec 32 := 6#32
  let v163 : BitVec 32 := Scalar.addi v68 c6_i32
  let c256_i32_98 : BitVec 32 := 256#32
  let v164 : BitVec 32 := Scalar.muli v163 c256_i32_98
  v164
def k0_mult9 (k0_t1 : Fin k0_t1_loop.trips) : BitVec 32 :=
  let c0_i32_29 : BitVec 32 := 0#32
  let c1_i32 : BitVec 32 := 1#32
  let arg11 : BitVec 32 := Scf.iv c0_i32_29 c1_i32 k0_t1
  let c32_i32 : BitVec 32 := 32#32
  let v68 : BitVec 32 := Scalar.muli arg11 c32_i32
  let c7_i32 : BitVec 32 := 7#32
  let v179 : BitVec 32 := Scalar.addi v68 c7_i32
  let c256_i32_108 : BitVec 32 := 256#32
  let v180 : BitVec 32 := Scalar.muli v179 c256_i32_108
  v180
def k0_mult10 (k0_t1 : Fin k0_t1_loop.trips) : BitVec 32 :=
  let c0_i32_29 : BitVec 32 := 0#32
  let c1_i32 : BitVec 32 := 1#32
  let arg11 : BitVec 32 := Scf.iv c0_i32_29 c1_i32 k0_t1
  let c32_i32 : BitVec 32 := 32#32
  let v68 : BitVec 32 := Scalar.muli arg11 c32_i32
  let c8_i32 : BitVec 32 := 8#32
  let v195 : BitVec 32 := Scalar.addi v68 c8_i32
  let c256_i32_118 : BitVec 32 := 256#32
  let v196 : BitVec 32 := Scalar.muli v195 c256_i32_118
  v196
def k0_mult11 (k0_t1 : Fin k0_t1_loop.trips) : BitVec 32 :=
  let c0_i32_29 : BitVec 32 := 0#32
  let c1_i32 : BitVec 32 := 1#32
  let arg11 : BitVec 32 := Scf.iv c0_i32_29 c1_i32 k0_t1
  let c32_i32 : BitVec 32 := 32#32
  let v68 : BitVec 32 := Scalar.muli arg11 c32_i32
  let c9_i32 : BitVec 32 := 9#32
  let v211 : BitVec 32 := Scalar.addi v68 c9_i32
  let c256_i32_128 : BitVec 32 := 256#32
  let v212 : BitVec 32 := Scalar.muli v211 c256_i32_128
  v212
def k0_mult12 (k0_t1 : Fin k0_t1_loop.trips) : BitVec 32 :=
  let c0_i32_29 : BitVec 32 := 0#32
  let c1_i32 : BitVec 32 := 1#32
  let arg11 : BitVec 32 := Scf.iv c0_i32_29 c1_i32 k0_t1
  let c32_i32 : BitVec 32 := 32#32
  let v68 : BitVec 32 := Scalar.muli arg11 c32_i32
  let c10_i32 : BitVec 32 := 10#32
  let v227 : BitVec 32 := Scalar.addi v68 c10_i32
  let c256_i32_138 : BitVec 32 := 256#32
  let v228 : BitVec 32 := Scalar.muli v227 c256_i32_138
  v228
def k0_mult13 (k0_t1 : Fin k0_t1_loop.trips) : BitVec 32 :=
  let c0_i32_29 : BitVec 32 := 0#32
  let c1_i32 : BitVec 32 := 1#32
  let arg11 : BitVec 32 := Scf.iv c0_i32_29 c1_i32 k0_t1
  let c32_i32 : BitVec 32 := 32#32
  let v68 : BitVec 32 := Scalar.muli arg11 c32_i32
  let c11_i32 : BitVec 32 := 11#32
  let v243 : BitVec 32 := Scalar.addi v68 c11_i32
  let c256_i32_148 : BitVec 32 := 256#32
  let v244 : BitVec 32 := Scalar.muli v243 c256_i32_148
  v244
def k0_mult14 (k0_t1 : Fin k0_t1_loop.trips) : BitVec 32 :=
  let c0_i32_29 : BitVec 32 := 0#32
  let c1_i32 : BitVec 32 := 1#32
  let arg11 : BitVec 32 := Scf.iv c0_i32_29 c1_i32 k0_t1
  let c32_i32 : BitVec 32 := 32#32
  let v68 : BitVec 32 := Scalar.muli arg11 c32_i32
  let c12_i32 : BitVec 32 := 12#32
  let v259 : BitVec 32 := Scalar.addi v68 c12_i32
  let c256_i32_158 : BitVec 32 := 256#32
  let v260 : BitVec 32 := Scalar.muli v259 c256_i32_158
  v260
def k0_mult15 (k0_t1 : Fin k0_t1_loop.trips) : BitVec 32 :=
  let c0_i32_29 : BitVec 32 := 0#32
  let c1_i32 : BitVec 32 := 1#32
  let arg11 : BitVec 32 := Scf.iv c0_i32_29 c1_i32 k0_t1
  let c32_i32 : BitVec 32 := 32#32
  let v68 : BitVec 32 := Scalar.muli arg11 c32_i32
  let c13_i32 : BitVec 32 := 13#32
  let v275 : BitVec 32 := Scalar.addi v68 c13_i32
  let c256_i32_168 : BitVec 32 := 256#32
  let v276 : BitVec 32 := Scalar.muli v275 c256_i32_168
  v276
def k0_mult16 (k0_t1 : Fin k0_t1_loop.trips) : BitVec 32 :=
  let c0_i32_29 : BitVec 32 := 0#32
  let c1_i32 : BitVec 32 := 1#32
  let arg11 : BitVec 32 := Scf.iv c0_i32_29 c1_i32 k0_t1
  let c32_i32 : BitVec 32 := 32#32
  let v68 : BitVec 32 := Scalar.muli arg11 c32_i32
  let c14_i32 : BitVec 32 := 14#32
  let v291 : BitVec 32 := Scalar.addi v68 c14_i32
  let c256_i32_178 : BitVec 32 := 256#32
  let v292 : BitVec 32 := Scalar.muli v291 c256_i32_178
  v292
def k0_mult17 (k0_t1 : Fin k0_t1_loop.trips) : BitVec 32 :=
  let c0_i32_29 : BitVec 32 := 0#32
  let c1_i32 : BitVec 32 := 1#32
  let arg11 : BitVec 32 := Scf.iv c0_i32_29 c1_i32 k0_t1
  let c32_i32 : BitVec 32 := 32#32
  let v68 : BitVec 32 := Scalar.muli arg11 c32_i32
  let c15_i32 : BitVec 32 := 15#32
  let v307 : BitVec 32 := Scalar.addi v68 c15_i32
  let c256_i32_188 : BitVec 32 := 256#32
  let v308 : BitVec 32 := Scalar.muli v307 c256_i32_188
  v308
def k0_mult18 (k0_t1 : Fin k0_t1_loop.trips) : BitVec 32 :=
  let c0_i32_29 : BitVec 32 := 0#32
  let c1_i32 : BitVec 32 := 1#32
  let arg11 : BitVec 32 := Scf.iv c0_i32_29 c1_i32 k0_t1
  let c32_i32 : BitVec 32 := 32#32
  let v68 : BitVec 32 := Scalar.muli arg11 c32_i32
  let c16_i32 : BitVec 32 := 16#32
  let v323 : BitVec 32 := Scalar.addi v68 c16_i32
  let c256_i32_198 : BitVec 32 := 256#32
  let v324 : BitVec 32 := Scalar.muli v323 c256_i32_198
  v324
def k0_mult19 (k0_t1 : Fin k0_t1_loop.trips) : BitVec 32 :=
  let c0_i32_29 : BitVec 32 := 0#32
  let c1_i32 : BitVec 32 := 1#32
  let arg11 : BitVec 32 := Scf.iv c0_i32_29 c1_i32 k0_t1
  let c32_i32 : BitVec 32 := 32#32
  let v68 : BitVec 32 := Scalar.muli arg11 c32_i32
  let c17_i32 : BitVec 32 := 17#32
  let v339 : BitVec 32 := Scalar.addi v68 c17_i32
  let c256_i32_208 : BitVec 32 := 256#32
  let v340 : BitVec 32 := Scalar.muli v339 c256_i32_208
  v340
def k0_mult20 (k0_t1 : Fin k0_t1_loop.trips) : BitVec 32 :=
  let c0_i32_29 : BitVec 32 := 0#32
  let c1_i32 : BitVec 32 := 1#32
  let arg11 : BitVec 32 := Scf.iv c0_i32_29 c1_i32 k0_t1
  let c32_i32 : BitVec 32 := 32#32
  let v68 : BitVec 32 := Scalar.muli arg11 c32_i32
  let c18_i32 : BitVec 32 := 18#32
  let v355 : BitVec 32 := Scalar.addi v68 c18_i32
  let c256_i32_218 : BitVec 32 := 256#32
  let v356 : BitVec 32 := Scalar.muli v355 c256_i32_218
  v356
def k0_mult21 (k0_t1 : Fin k0_t1_loop.trips) : BitVec 32 :=
  let c0_i32_29 : BitVec 32 := 0#32
  let c1_i32 : BitVec 32 := 1#32
  let arg11 : BitVec 32 := Scf.iv c0_i32_29 c1_i32 k0_t1
  let c32_i32 : BitVec 32 := 32#32
  let v68 : BitVec 32 := Scalar.muli arg11 c32_i32
  let c19_i32 : BitVec 32 := 19#32
  let v371 : BitVec 32 := Scalar.addi v68 c19_i32
  let c256_i32_228 : BitVec 32 := 256#32
  let v372 : BitVec 32 := Scalar.muli v371 c256_i32_228
  v372
def k0_mult22 (k0_t1 : Fin k0_t1_loop.trips) : BitVec 32 :=
  let c0_i32_29 : BitVec 32 := 0#32
  let c1_i32 : BitVec 32 := 1#32
  let arg11 : BitVec 32 := Scf.iv c0_i32_29 c1_i32 k0_t1
  let c32_i32 : BitVec 32 := 32#32
  let v68 : BitVec 32 := Scalar.muli arg11 c32_i32
  let c20_i32 : BitVec 32 := 20#32
  let v387 : BitVec 32 := Scalar.addi v68 c20_i32
  let c256_i32_238 : BitVec 32 := 256#32
  let v388 : BitVec 32 := Scalar.muli v387 c256_i32_238
  v388
def k0_mult23 (k0_t1 : Fin k0_t1_loop.trips) : BitVec 32 :=
  let c0_i32_29 : BitVec 32 := 0#32
  let c1_i32 : BitVec 32 := 1#32
  let arg11 : BitVec 32 := Scf.iv c0_i32_29 c1_i32 k0_t1
  let c32_i32 : BitVec 32 := 32#32
  let v68 : BitVec 32 := Scalar.muli arg11 c32_i32
  let c21_i32 : BitVec 32 := 21#32
  let v403 : BitVec 32 := Scalar.addi v68 c21_i32
  let c256_i32_248 : BitVec 32 := 256#32
  let v404 : BitVec 32 := Scalar.muli v403 c256_i32_248
  v404
def k0_mult24 (k0_t1 : Fin k0_t1_loop.trips) : BitVec 32 :=
  let c0_i32_29 : BitVec 32 := 0#32
  let c1_i32 : BitVec 32 := 1#32
  let arg11 : BitVec 32 := Scf.iv c0_i32_29 c1_i32 k0_t1
  let c32_i32 : BitVec 32 := 32#32
  let v68 : BitVec 32 := Scalar.muli arg11 c32_i32
  let c22_i32 : BitVec 32 := 22#32
  let v419 : BitVec 32 := Scalar.addi v68 c22_i32
  let c256_i32_258 : BitVec 32 := 256#32
  let v420 : BitVec 32 := Scalar.muli v419 c256_i32_258
  v420
def k0_mult25 (k0_t1 : Fin k0_t1_loop.trips) : BitVec 32 :=
  let c0_i32_29 : BitVec 32 := 0#32
  let c1_i32 : BitVec 32 := 1#32
  let arg11 : BitVec 32 := Scf.iv c0_i32_29 c1_i32 k0_t1
  let c32_i32 : BitVec 32 := 32#32
  let v68 : BitVec 32 := Scalar.muli arg11 c32_i32
  let c23_i32 : BitVec 32 := 23#32
  let v435 : BitVec 32 := Scalar.addi v68 c23_i32
  let c256_i32_268 : BitVec 32 := 256#32
  let v436 : BitVec 32 := Scalar.muli v435 c256_i32_268
  v436
def k0_mult26 (k0_t1 : Fin k0_t1_loop.trips) : BitVec 32 :=
  let c0_i32_29 : BitVec 32 := 0#32
  let c1_i32 : BitVec 32 := 1#32
  let arg11 : BitVec 32 := Scf.iv c0_i32_29 c1_i32 k0_t1
  let c32_i32 : BitVec 32 := 32#32
  let v68 : BitVec 32 := Scalar.muli arg11 c32_i32
  let c24_i32 : BitVec 32 := 24#32
  let v451 : BitVec 32 := Scalar.addi v68 c24_i32
  let c256_i32_278 : BitVec 32 := 256#32
  let v452 : BitVec 32 := Scalar.muli v451 c256_i32_278
  v452
def k0_mult27 (k0_t1 : Fin k0_t1_loop.trips) : BitVec 32 :=
  let c0_i32_29 : BitVec 32 := 0#32
  let c1_i32 : BitVec 32 := 1#32
  let arg11 : BitVec 32 := Scf.iv c0_i32_29 c1_i32 k0_t1
  let c32_i32 : BitVec 32 := 32#32
  let v68 : BitVec 32 := Scalar.muli arg11 c32_i32
  let c25_i32 : BitVec 32 := 25#32
  let v467 : BitVec 32 := Scalar.addi v68 c25_i32
  let c256_i32_288 : BitVec 32 := 256#32
  let v468 : BitVec 32 := Scalar.muli v467 c256_i32_288
  v468
def k0_mult28 (k0_t1 : Fin k0_t1_loop.trips) : BitVec 32 :=
  let c0_i32_29 : BitVec 32 := 0#32
  let c1_i32 : BitVec 32 := 1#32
  let arg11 : BitVec 32 := Scf.iv c0_i32_29 c1_i32 k0_t1
  let c32_i32 : BitVec 32 := 32#32
  let v68 : BitVec 32 := Scalar.muli arg11 c32_i32
  let c26_i32 : BitVec 32 := 26#32
  let v483 : BitVec 32 := Scalar.addi v68 c26_i32
  let c256_i32_298 : BitVec 32 := 256#32
  let v484 : BitVec 32 := Scalar.muli v483 c256_i32_298
  v484
def k0_mult29 (k0_t1 : Fin k0_t1_loop.trips) : BitVec 32 :=
  let c0_i32_29 : BitVec 32 := 0#32
  let c1_i32 : BitVec 32 := 1#32
  let arg11 : BitVec 32 := Scf.iv c0_i32_29 c1_i32 k0_t1
  let c32_i32 : BitVec 32 := 32#32
  let v68 : BitVec 32 := Scalar.muli arg11 c32_i32
  let c27_i32 : BitVec 32 := 27#32
  let v499 : BitVec 32 := Scalar.addi v68 c27_i32
  let c256_i32_308 : BitVec 32 := 256#32
  let v500 : BitVec 32 := Scalar.muli v499 c256_i32_308
  v500
def k0_mult30 (k0_t1 : Fin k0_t1_loop.trips) : BitVec 32 :=
  let c0_i32_29 : BitVec 32 := 0#32
  let c1_i32 : BitVec 32 := 1#32
  let arg11 : BitVec 32 := Scf.iv c0_i32_29 c1_i32 k0_t1
  let c32_i32 : BitVec 32 := 32#32
  let v68 : BitVec 32 := Scalar.muli arg11 c32_i32
  let c28_i32 : BitVec 32 := 28#32
  let v515 : BitVec 32 := Scalar.addi v68 c28_i32
  let c256_i32_318 : BitVec 32 := 256#32
  let v516 : BitVec 32 := Scalar.muli v515 c256_i32_318
  v516
def k0_mult31 (k0_t1 : Fin k0_t1_loop.trips) : BitVec 32 :=
  let c0_i32_29 : BitVec 32 := 0#32
  let c1_i32 : BitVec 32 := 1#32
  let arg11 : BitVec 32 := Scf.iv c0_i32_29 c1_i32 k0_t1
  let c32_i32 : BitVec 32 := 32#32
  let v68 : BitVec 32 := Scalar.muli arg11 c32_i32
  let c29_i32 : BitVec 32 := 29#32
  let v531 : BitVec 32 := Scalar.addi v68 c29_i32
  let c256_i32_328 : BitVec 32 := 256#32
  let v532 : BitVec 32 := Scalar.muli v531 c256_i32_328
  v532
def k0_mult32 (k0_t1 : Fin k0_t1_loop.trips) : BitVec 32 :=
  let c0_i32_29 : BitVec 32 := 0#32
  let c1_i32 : BitVec 32 := 1#32
  let arg11 : BitVec 32 := Scf.iv c0_i32_29 c1_i32 k0_t1
  let c32_i32 : BitVec 32 := 32#32
  let v68 : BitVec 32 := Scalar.muli arg11 c32_i32
  let c30_i32 : BitVec 32 := 30#32
  let v547 : BitVec 32 := Scalar.addi v68 c30_i32
  let c256_i32_338 : BitVec 32 := 256#32
  let v548 : BitVec 32 := Scalar.muli v547 c256_i32_338
  v548
def k0_mult33 (k0_t1 : Fin k0_t1_loop.trips) : BitVec 32 :=
  let c0_i32_29 : BitVec 32 := 0#32
  let c1_i32 : BitVec 32 := 1#32
  let arg11 : BitVec 32 := Scf.iv c0_i32_29 c1_i32 k0_t1
  let c32_i32 : BitVec 32 := 32#32
  let v68 : BitVec 32 := Scalar.muli arg11 c32_i32
  let c31_i32 : BitVec 32 := 31#32
  let v563 : BitVec 32 := Scalar.addi v68 c31_i32
  let c256_i32_348 : BitVec 32 := 256#32
  let v564 : BitVec 32 := Scalar.muli v563 c256_i32_348
  v564
def k0_mult34 (k0_t1 : Fin k0_t1_loop.trips) : BitVec 32 :=
  let c0_i32_29 : BitVec 32 := 0#32
  let c1_i32 : BitVec 32 := 1#32
  let arg11 : BitVec 32 := Scf.iv c0_i32_29 c1_i32 k0_t1
  let c32_i32 : BitVec 32 := 32#32
  let v68 : BitVec 32 := Scalar.muli arg11 c32_i32
  let c0_i32_791 : BitVec 32 := 0#32
  let v1031 : BitVec 32 := Scalar.addi v68 c0_i32_791
  let c256_i32_792 : BitVec 32 := 256#32
  let v1032 : BitVec 32 := Scalar.muli v1031 c256_i32_792
  v1032
def k0_off3 (k0_t1 : Fin k0_t1_loop.trips) (c0_i32_791 : BitVec 32) : Fin 4 → Nat :=
  let c0_793 : Index := 0#32
  let c0_794 : Index := 0#32
  let c0_i32_29 : BitVec 32 := 0#32
  let c1_i32 : BitVec 32 := 1#32
  let arg11 : BitVec 32 := Scf.iv c0_i32_29 c1_i32 k0_t1
  let c32_i32 : BitVec 32 := 32#32
  let v68 : BitVec 32 := Scalar.muli arg11 c32_i32
  let v1031 : BitVec 32 := Scalar.addi v68 c0_i32_791
  let c256_i32_792 : BitVec 32 := 256#32
  let v1032 : BitVec 32 := Scalar.muli v1031 c256_i32_792
  let v1033 : BitVec 32 := v1032
  let v1034 : Index := Scalar.indexCast v1033
  let c0_795 : Index := 0#32
  ![0, 0, v1034.toNat, 0]
def k0_mult35 (k0_t1 : Fin k0_t1_loop.trips) : BitVec 32 :=
  let c0_i32_29 : BitVec 32 := 0#32
  let c1_i32 : BitVec 32 := 1#32
  let arg11 : BitVec 32 := Scf.iv c0_i32_29 c1_i32 k0_t1
  let c32_i32 : BitVec 32 := 32#32
  let v68 : BitVec 32 := Scalar.muli arg11 c32_i32
  let c1_i32_802 : BitVec 32 := 1#32
  let v1044 : BitVec 32 := Scalar.addi v68 c1_i32_802
  let c256_i32_803 : BitVec 32 := 256#32
  let v1045 : BitVec 32 := Scalar.muli v1044 c256_i32_803
  v1045
def k0_mult36 (k0_t1 : Fin k0_t1_loop.trips) : BitVec 32 :=
  let c0_i32_29 : BitVec 32 := 0#32
  let c1_i32 : BitVec 32 := 1#32
  let arg11 : BitVec 32 := Scf.iv c0_i32_29 c1_i32 k0_t1
  let c32_i32 : BitVec 32 := 32#32
  let v68 : BitVec 32 := Scalar.muli arg11 c32_i32
  let c2_i32_813 : BitVec 32 := 2#32
  let v1057 : BitVec 32 := Scalar.addi v68 c2_i32_813
  let c256_i32_814 : BitVec 32 := 256#32
  let v1058 : BitVec 32 := Scalar.muli v1057 c256_i32_814
  v1058
def k0_mult37 (k0_t1 : Fin k0_t1_loop.trips) : BitVec 32 :=
  let c0_i32_29 : BitVec 32 := 0#32
  let c1_i32 : BitVec 32 := 1#32
  let arg11 : BitVec 32 := Scf.iv c0_i32_29 c1_i32 k0_t1
  let c32_i32 : BitVec 32 := 32#32
  let v68 : BitVec 32 := Scalar.muli arg11 c32_i32
  let c3_i32_824 : BitVec 32 := 3#32
  let v1070 : BitVec 32 := Scalar.addi v68 c3_i32_824
  let c256_i32_825 : BitVec 32 := 256#32
  let v1071 : BitVec 32 := Scalar.muli v1070 c256_i32_825
  v1071
def k0_mult38 (k0_t1 : Fin k0_t1_loop.trips) : BitVec 32 :=
  let c0_i32_29 : BitVec 32 := 0#32
  let c1_i32 : BitVec 32 := 1#32
  let arg11 : BitVec 32 := Scf.iv c0_i32_29 c1_i32 k0_t1
  let c32_i32 : BitVec 32 := 32#32
  let v68 : BitVec 32 := Scalar.muli arg11 c32_i32
  let c4_i32_835 : BitVec 32 := 4#32
  let v1083 : BitVec 32 := Scalar.addi v68 c4_i32_835
  let c256_i32_836 : BitVec 32 := 256#32
  let v1084 : BitVec 32 := Scalar.muli v1083 c256_i32_836
  v1084
def k0_mult39 (k0_t1 : Fin k0_t1_loop.trips) : BitVec 32 :=
  let c0_i32_29 : BitVec 32 := 0#32
  let c1_i32 : BitVec 32 := 1#32
  let arg11 : BitVec 32 := Scf.iv c0_i32_29 c1_i32 k0_t1
  let c32_i32 : BitVec 32 := 32#32
  let v68 : BitVec 32 := Scalar.muli arg11 c32_i32
  let c5_i32_846 : BitVec 32 := 5#32
  let v1096 : BitVec 32 := Scalar.addi v68 c5_i32_846
  let c256_i32_847 : BitVec 32 := 256#32
  let v1097 : BitVec 32 := Scalar.muli v1096 c256_i32_847
  v1097
def k0_mult40 (k0_t1 : Fin k0_t1_loop.trips) : BitVec 32 :=
  let c0_i32_29 : BitVec 32 := 0#32
  let c1_i32 : BitVec 32 := 1#32
  let arg11 : BitVec 32 := Scf.iv c0_i32_29 c1_i32 k0_t1
  let c32_i32 : BitVec 32 := 32#32
  let v68 : BitVec 32 := Scalar.muli arg11 c32_i32
  let c6_i32_857 : BitVec 32 := 6#32
  let v1109 : BitVec 32 := Scalar.addi v68 c6_i32_857
  let c256_i32_858 : BitVec 32 := 256#32
  let v1110 : BitVec 32 := Scalar.muli v1109 c256_i32_858
  v1110
def k0_mult41 (k0_t1 : Fin k0_t1_loop.trips) : BitVec 32 :=
  let c0_i32_29 : BitVec 32 := 0#32
  let c1_i32 : BitVec 32 := 1#32
  let arg11 : BitVec 32 := Scf.iv c0_i32_29 c1_i32 k0_t1
  let c32_i32 : BitVec 32 := 32#32
  let v68 : BitVec 32 := Scalar.muli arg11 c32_i32
  let c7_i32_868 : BitVec 32 := 7#32
  let v1122 : BitVec 32 := Scalar.addi v68 c7_i32_868
  let c256_i32_869 : BitVec 32 := 256#32
  let v1123 : BitVec 32 := Scalar.muli v1122 c256_i32_869
  v1123
def k0_mult42 (k0_t1 : Fin k0_t1_loop.trips) : BitVec 32 :=
  let c0_i32_29 : BitVec 32 := 0#32
  let c1_i32 : BitVec 32 := 1#32
  let arg11 : BitVec 32 := Scf.iv c0_i32_29 c1_i32 k0_t1
  let c32_i32 : BitVec 32 := 32#32
  let v68 : BitVec 32 := Scalar.muli arg11 c32_i32
  let c8_i32_879 : BitVec 32 := 8#32
  let v1135 : BitVec 32 := Scalar.addi v68 c8_i32_879
  let c256_i32_880 : BitVec 32 := 256#32
  let v1136 : BitVec 32 := Scalar.muli v1135 c256_i32_880
  v1136
def k0_mult43 (k0_t1 : Fin k0_t1_loop.trips) : BitVec 32 :=
  let c0_i32_29 : BitVec 32 := 0#32
  let c1_i32 : BitVec 32 := 1#32
  let arg11 : BitVec 32 := Scf.iv c0_i32_29 c1_i32 k0_t1
  let c32_i32 : BitVec 32 := 32#32
  let v68 : BitVec 32 := Scalar.muli arg11 c32_i32
  let c9_i32_890 : BitVec 32 := 9#32
  let v1148 : BitVec 32 := Scalar.addi v68 c9_i32_890
  let c256_i32_891 : BitVec 32 := 256#32
  let v1149 : BitVec 32 := Scalar.muli v1148 c256_i32_891
  v1149
def k0_mult44 (k0_t1 : Fin k0_t1_loop.trips) : BitVec 32 :=
  let c0_i32_29 : BitVec 32 := 0#32
  let c1_i32 : BitVec 32 := 1#32
  let arg11 : BitVec 32 := Scf.iv c0_i32_29 c1_i32 k0_t1
  let c32_i32 : BitVec 32 := 32#32
  let v68 : BitVec 32 := Scalar.muli arg11 c32_i32
  let c10_i32_901 : BitVec 32 := 10#32
  let v1161 : BitVec 32 := Scalar.addi v68 c10_i32_901
  let c256_i32_902 : BitVec 32 := 256#32
  let v1162 : BitVec 32 := Scalar.muli v1161 c256_i32_902
  v1162
def k0_mult45 (k0_t1 : Fin k0_t1_loop.trips) : BitVec 32 :=
  let c0_i32_29 : BitVec 32 := 0#32
  let c1_i32 : BitVec 32 := 1#32
  let arg11 : BitVec 32 := Scf.iv c0_i32_29 c1_i32 k0_t1
  let c32_i32 : BitVec 32 := 32#32
  let v68 : BitVec 32 := Scalar.muli arg11 c32_i32
  let c11_i32_912 : BitVec 32 := 11#32
  let v1174 : BitVec 32 := Scalar.addi v68 c11_i32_912
  let c256_i32_913 : BitVec 32 := 256#32
  let v1175 : BitVec 32 := Scalar.muli v1174 c256_i32_913
  v1175
def k0_mult46 (k0_t1 : Fin k0_t1_loop.trips) : BitVec 32 :=
  let c0_i32_29 : BitVec 32 := 0#32
  let c1_i32 : BitVec 32 := 1#32
  let arg11 : BitVec 32 := Scf.iv c0_i32_29 c1_i32 k0_t1
  let c32_i32 : BitVec 32 := 32#32
  let v68 : BitVec 32 := Scalar.muli arg11 c32_i32
  let c12_i32_923 : BitVec 32 := 12#32
  let v1187 : BitVec 32 := Scalar.addi v68 c12_i32_923
  let c256_i32_924 : BitVec 32 := 256#32
  let v1188 : BitVec 32 := Scalar.muli v1187 c256_i32_924
  v1188
def k0_mult47 (k0_t1 : Fin k0_t1_loop.trips) : BitVec 32 :=
  let c0_i32_29 : BitVec 32 := 0#32
  let c1_i32 : BitVec 32 := 1#32
  let arg11 : BitVec 32 := Scf.iv c0_i32_29 c1_i32 k0_t1
  let c32_i32 : BitVec 32 := 32#32
  let v68 : BitVec 32 := Scalar.muli arg11 c32_i32
  let c13_i32_934 : BitVec 32 := 13#32
  let v1200 : BitVec 32 := Scalar.addi v68 c13_i32_934
  let c256_i32_935 : BitVec 32 := 256#32
  let v1201 : BitVec 32 := Scalar.muli v1200 c256_i32_935
  v1201
def k0_mult48 (k0_t1 : Fin k0_t1_loop.trips) : BitVec 32 :=
  let c0_i32_29 : BitVec 32 := 0#32
  let c1_i32 : BitVec 32 := 1#32
  let arg11 : BitVec 32 := Scf.iv c0_i32_29 c1_i32 k0_t1
  let c32_i32 : BitVec 32 := 32#32
  let v68 : BitVec 32 := Scalar.muli arg11 c32_i32
  let c14_i32_945 : BitVec 32 := 14#32
  let v1213 : BitVec 32 := Scalar.addi v68 c14_i32_945
  let c256_i32_946 : BitVec 32 := 256#32
  let v1214 : BitVec 32 := Scalar.muli v1213 c256_i32_946
  v1214
def k0_mult49 (k0_t1 : Fin k0_t1_loop.trips) : BitVec 32 :=
  let c0_i32_29 : BitVec 32 := 0#32
  let c1_i32 : BitVec 32 := 1#32
  let arg11 : BitVec 32 := Scf.iv c0_i32_29 c1_i32 k0_t1
  let c32_i32 : BitVec 32 := 32#32
  let v68 : BitVec 32 := Scalar.muli arg11 c32_i32
  let c15_i32_956 : BitVec 32 := 15#32
  let v1226 : BitVec 32 := Scalar.addi v68 c15_i32_956
  let c256_i32_957 : BitVec 32 := 256#32
  let v1227 : BitVec 32 := Scalar.muli v1226 c256_i32_957
  v1227
def k0_mult50 (k0_t1 : Fin k0_t1_loop.trips) : BitVec 32 :=
  let c0_i32_29 : BitVec 32 := 0#32
  let c1_i32 : BitVec 32 := 1#32
  let arg11 : BitVec 32 := Scf.iv c0_i32_29 c1_i32 k0_t1
  let c32_i32 : BitVec 32 := 32#32
  let v68 : BitVec 32 := Scalar.muli arg11 c32_i32
  let c16_i32_967 : BitVec 32 := 16#32
  let v1239 : BitVec 32 := Scalar.addi v68 c16_i32_967
  let c256_i32_968 : BitVec 32 := 256#32
  let v1240 : BitVec 32 := Scalar.muli v1239 c256_i32_968
  v1240
def k0_mult51 (k0_t1 : Fin k0_t1_loop.trips) : BitVec 32 :=
  let c0_i32_29 : BitVec 32 := 0#32
  let c1_i32 : BitVec 32 := 1#32
  let arg11 : BitVec 32 := Scf.iv c0_i32_29 c1_i32 k0_t1
  let c32_i32 : BitVec 32 := 32#32
  let v68 : BitVec 32 := Scalar.muli arg11 c32_i32
  let c17_i32_978 : BitVec 32 := 17#32
  let v1252 : BitVec 32 := Scalar.addi v68 c17_i32_978
  let c256_i32_979 : BitVec 32 := 256#32
  let v1253 : BitVec 32 := Scalar.muli v1252 c256_i32_979
  v1253
def k0_mult52 (k0_t1 : Fin k0_t1_loop.trips) : BitVec 32 :=
  let c0_i32_29 : BitVec 32 := 0#32
  let c1_i32 : BitVec 32 := 1#32
  let arg11 : BitVec 32 := Scf.iv c0_i32_29 c1_i32 k0_t1
  let c32_i32 : BitVec 32 := 32#32
  let v68 : BitVec 32 := Scalar.muli arg11 c32_i32
  let c18_i32_989 : BitVec 32 := 18#32
  let v1265 : BitVec 32 := Scalar.addi v68 c18_i32_989
  let c256_i32_990 : BitVec 32 := 256#32
  let v1266 : BitVec 32 := Scalar.muli v1265 c256_i32_990
  v1266
def k0_mult53 (k0_t1 : Fin k0_t1_loop.trips) : BitVec 32 :=
  let c0_i32_29 : BitVec 32 := 0#32
  let c1_i32 : BitVec 32 := 1#32
  let arg11 : BitVec 32 := Scf.iv c0_i32_29 c1_i32 k0_t1
  let c32_i32 : BitVec 32 := 32#32
  let v68 : BitVec 32 := Scalar.muli arg11 c32_i32
  let c19_i32_1000 : BitVec 32 := 19#32
  let v1278 : BitVec 32 := Scalar.addi v68 c19_i32_1000
  let c256_i32_1001 : BitVec 32 := 256#32
  let v1279 : BitVec 32 := Scalar.muli v1278 c256_i32_1001
  v1279
def k0_mult54 (k0_t1 : Fin k0_t1_loop.trips) : BitVec 32 :=
  let c0_i32_29 : BitVec 32 := 0#32
  let c1_i32 : BitVec 32 := 1#32
  let arg11 : BitVec 32 := Scf.iv c0_i32_29 c1_i32 k0_t1
  let c32_i32 : BitVec 32 := 32#32
  let v68 : BitVec 32 := Scalar.muli arg11 c32_i32
  let c20_i32_1011 : BitVec 32 := 20#32
  let v1291 : BitVec 32 := Scalar.addi v68 c20_i32_1011
  let c256_i32_1012 : BitVec 32 := 256#32
  let v1292 : BitVec 32 := Scalar.muli v1291 c256_i32_1012
  v1292
def k0_mult55 (k0_t1 : Fin k0_t1_loop.trips) : BitVec 32 :=
  let c0_i32_29 : BitVec 32 := 0#32
  let c1_i32 : BitVec 32 := 1#32
  let arg11 : BitVec 32 := Scf.iv c0_i32_29 c1_i32 k0_t1
  let c32_i32 : BitVec 32 := 32#32
  let v68 : BitVec 32 := Scalar.muli arg11 c32_i32
  let c21_i32_1022 : BitVec 32 := 21#32
  let v1304 : BitVec 32 := Scalar.addi v68 c21_i32_1022
  let c256_i32_1023 : BitVec 32 := 256#32
  let v1305 : BitVec 32 := Scalar.muli v1304 c256_i32_1023
  v1305
def k0_mult56 (k0_t1 : Fin k0_t1_loop.trips) : BitVec 32 :=
  let c0_i32_29 : BitVec 32 := 0#32
  let c1_i32 : BitVec 32 := 1#32
  let arg11 : BitVec 32 := Scf.iv c0_i32_29 c1_i32 k0_t1
  let c32_i32 : BitVec 32 := 32#32
  let v68 : BitVec 32 := Scalar.muli arg11 c32_i32
  let c22_i32_1033 : BitVec 32 := 22#32
  let v1317 : BitVec 32 := Scalar.addi v68 c22_i32_1033
  let c256_i32_1034 : BitVec 32 := 256#32
  let v1318 : BitVec 32 := Scalar.muli v1317 c256_i32_1034
  v1318
def k0_mult57 (k0_t1 : Fin k0_t1_loop.trips) : BitVec 32 :=
  let c0_i32_29 : BitVec 32 := 0#32
  let c1_i32 : BitVec 32 := 1#32
  let arg11 : BitVec 32 := Scf.iv c0_i32_29 c1_i32 k0_t1
  let c32_i32 : BitVec 32 := 32#32
  let v68 : BitVec 32 := Scalar.muli arg11 c32_i32
  let c23_i32_1044 : BitVec 32 := 23#32
  let v1330 : BitVec 32 := Scalar.addi v68 c23_i32_1044
  let c256_i32_1045 : BitVec 32 := 256#32
  let v1331 : BitVec 32 := Scalar.muli v1330 c256_i32_1045
  v1331
def k0_mult58 (k0_t1 : Fin k0_t1_loop.trips) : BitVec 32 :=
  let c0_i32_29 : BitVec 32 := 0#32
  let c1_i32 : BitVec 32 := 1#32
  let arg11 : BitVec 32 := Scf.iv c0_i32_29 c1_i32 k0_t1
  let c32_i32 : BitVec 32 := 32#32
  let v68 : BitVec 32 := Scalar.muli arg11 c32_i32
  let c24_i32_1055 : BitVec 32 := 24#32
  let v1343 : BitVec 32 := Scalar.addi v68 c24_i32_1055
  let c256_i32_1056 : BitVec 32 := 256#32
  let v1344 : BitVec 32 := Scalar.muli v1343 c256_i32_1056
  v1344
def k0_mult59 (k0_t1 : Fin k0_t1_loop.trips) : BitVec 32 :=
  let c0_i32_29 : BitVec 32 := 0#32
  let c1_i32 : BitVec 32 := 1#32
  let arg11 : BitVec 32 := Scf.iv c0_i32_29 c1_i32 k0_t1
  let c32_i32 : BitVec 32 := 32#32
  let v68 : BitVec 32 := Scalar.muli arg11 c32_i32
  let c25_i32_1066 : BitVec 32 := 25#32
  let v1356 : BitVec 32 := Scalar.addi v68 c25_i32_1066
  let c256_i32_1067 : BitVec 32 := 256#32
  let v1357 : BitVec 32 := Scalar.muli v1356 c256_i32_1067
  v1357
def k0_mult60 (k0_t1 : Fin k0_t1_loop.trips) : BitVec 32 :=
  let c0_i32_29 : BitVec 32 := 0#32
  let c1_i32 : BitVec 32 := 1#32
  let arg11 : BitVec 32 := Scf.iv c0_i32_29 c1_i32 k0_t1
  let c32_i32 : BitVec 32 := 32#32
  let v68 : BitVec 32 := Scalar.muli arg11 c32_i32
  let c26_i32_1077 : BitVec 32 := 26#32
  let v1369 : BitVec 32 := Scalar.addi v68 c26_i32_1077
  let c256_i32_1078 : BitVec 32 := 256#32
  let v1370 : BitVec 32 := Scalar.muli v1369 c256_i32_1078
  v1370
def k0_mult61 (k0_t1 : Fin k0_t1_loop.trips) : BitVec 32 :=
  let c0_i32_29 : BitVec 32 := 0#32
  let c1_i32 : BitVec 32 := 1#32
  let arg11 : BitVec 32 := Scf.iv c0_i32_29 c1_i32 k0_t1
  let c32_i32 : BitVec 32 := 32#32
  let v68 : BitVec 32 := Scalar.muli arg11 c32_i32
  let c27_i32_1088 : BitVec 32 := 27#32
  let v1382 : BitVec 32 := Scalar.addi v68 c27_i32_1088
  let c256_i32_1089 : BitVec 32 := 256#32
  let v1383 : BitVec 32 := Scalar.muli v1382 c256_i32_1089
  v1383
def k0_mult62 (k0_t1 : Fin k0_t1_loop.trips) : BitVec 32 :=
  let c0_i32_29 : BitVec 32 := 0#32
  let c1_i32 : BitVec 32 := 1#32
  let arg11 : BitVec 32 := Scf.iv c0_i32_29 c1_i32 k0_t1
  let c32_i32 : BitVec 32 := 32#32
  let v68 : BitVec 32 := Scalar.muli arg11 c32_i32
  let c28_i32_1099 : BitVec 32 := 28#32
  let v1395 : BitVec 32 := Scalar.addi v68 c28_i32_1099
  let c256_i32_1100 : BitVec 32 := 256#32
  let v1396 : BitVec 32 := Scalar.muli v1395 c256_i32_1100
  v1396
def k0_mult63 (k0_t1 : Fin k0_t1_loop.trips) : BitVec 32 :=
  let c0_i32_29 : BitVec 32 := 0#32
  let c1_i32 : BitVec 32 := 1#32
  let arg11 : BitVec 32 := Scf.iv c0_i32_29 c1_i32 k0_t1
  let c32_i32 : BitVec 32 := 32#32
  let v68 : BitVec 32 := Scalar.muli arg11 c32_i32
  let c29_i32_1110 : BitVec 32 := 29#32
  let v1408 : BitVec 32 := Scalar.addi v68 c29_i32_1110
  let c256_i32_1111 : BitVec 32 := 256#32
  let v1409 : BitVec 32 := Scalar.muli v1408 c256_i32_1111
  v1409
def k0_mult64 (k0_t1 : Fin k0_t1_loop.trips) : BitVec 32 :=
  let c0_i32_29 : BitVec 32 := 0#32
  let c1_i32 : BitVec 32 := 1#32
  let arg11 : BitVec 32 := Scf.iv c0_i32_29 c1_i32 k0_t1
  let c32_i32 : BitVec 32 := 32#32
  let v68 : BitVec 32 := Scalar.muli arg11 c32_i32
  let c30_i32_1121 : BitVec 32 := 30#32
  let v1421 : BitVec 32 := Scalar.addi v68 c30_i32_1121
  let c256_i32_1122 : BitVec 32 := 256#32
  let v1422 : BitVec 32 := Scalar.muli v1421 c256_i32_1122
  v1422
def k0_mult65 (k0_t1 : Fin k0_t1_loop.trips) : BitVec 32 :=
  let c0_i32_29 : BitVec 32 := 0#32
  let c1_i32 : BitVec 32 := 1#32
  let arg11 : BitVec 32 := Scf.iv c0_i32_29 c1_i32 k0_t1
  let c32_i32 : BitVec 32 := 32#32
  let v68 : BitVec 32 := Scalar.muli arg11 c32_i32
  let c31_i32_1132 : BitVec 32 := 31#32
  let v1434 : BitVec 32 := Scalar.addi v68 c31_i32_1132
  let c256_i32_1133 : BitVec 32 := 256#32
  let v1435 : BitVec 32 := Scalar.muli v1434 c256_i32_1133
  v1435
def k0_off4 (k0_t1 : Fin k0_t1_loop.trips) (c0_i32_361 : BitVec 32) : Fin 5 → Nat :=
  let c0_362 : Index := 0#32
  let c0_363 : Index := 0#32
  let c0_i32_29 : BitVec 32 := 0#32
  let c1_i32 : BitVec 32 := 1#32
  let arg11 : BitVec 32 := Scf.iv c0_i32_29 c1_i32 k0_t1
  let c32_i32 : BitVec 32 := 32#32
  let v68 : BitVec 32 := Scalar.muli arg11 c32_i32
  let v586 : BitVec 32 := Scalar.addi v68 c0_i32_361
  let v587 : Index := Scalar.indexCast v586
  let c0_364 : Index := 0#32
  let c0_365 : Index := 0#32
  ![0, 0, v587.toNat, 0, 0]
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1x192x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x16384x208 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x64x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S2x8x192x16384 : Shape := ⟨4, ![2, 8, 192, 16384]⟩
abbrev S2x8x16384x208 : Shape := ⟨4, ![2, 8, 16384, 208]⟩
abbrev S2x8x64x128x256 : Shape := ⟨5, ![2, 8, 64, 128, 256]⟩
abbrev S2x8x128x64x256 : Shape := ⟨5, ![2, 8, 128, 64, 256]⟩
abbrev S2x8x128x16384 : Shape := ⟨4, ![2, 8, 128, 16384]⟩
abbrev S2x8x16384x128 : Shape := ⟨4, ![2, 8, 16384, 128]⟩
abbrev S2x8x16384x16384 : Shape := ⟨4, ![2, 8, 16384, 16384]⟩
abbrev S2x8x64x16384 : Shape := ⟨4, ![2, 8, 64, 16384]⟩
abbrev S2x8x16384x64 : Shape := ⟨4, ![2, 8, 16384, 64]⟩
abbrev S_ : Shape := ⟨0, ![]⟩
abbrev S2x8x16384 : Shape := ⟨3, ![2, 8, 16384]⟩
abbrev S2x8x16384x1 : Shape := ⟨4, ![2, 8, 16384, 1]⟩
abbrev S2x16384x8x128 : Shape := ⟨4, ![2, 16384, 8, 128]⟩
abbrev S2x16384x1024 : Shape := ⟨3, ![2, 16384, 1024]⟩

abbrev nBuf : Space → Nat
  | .hbm => 36
  | .vmem => 0
  | .smem => 0
  | _ => 0

abbrev bufTy : (tb : Table) → Fin (tcTables nBuf tb) → BufTy
  | .hbm, ⟨0, _⟩ => ⟨S2x8x192x16384, .bf16⟩
  | .hbm, ⟨1, _⟩ => ⟨S2x8x16384x208, .bf16⟩
  | .hbm, ⟨2, _⟩ => ⟨S2x8x64x128x256, .bf16⟩
  | .hbm, ⟨3, _⟩ => ⟨S2x8x128x64x256, .bf16⟩
  | .hbm, ⟨4, _⟩ => ⟨S2x8x128x16384, .bf16⟩
  | .hbm, ⟨5, _⟩ => ⟨S2x8x128x16384, .bf16⟩
  | .hbm, ⟨6, _⟩ => ⟨S2x8x16384x128, .bf16⟩
  | .hbm, ⟨7, _⟩ => ⟨S2x8x16384x16384, .f32⟩
  | .hbm, ⟨8, _⟩ => ⟨S2x8x64x16384, .bf16⟩
  | .hbm, ⟨9, _⟩ => ⟨S2x8x16384x64, .bf16⟩
  | .hbm, ⟨10, _⟩ => ⟨S2x8x16384x16384, .f32⟩
  | .hbm, ⟨11, _⟩ => ⟨S2x8x16384x16384, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S2x8x16384x16384, .f32⟩
  | .hbm, ⟨16, _⟩ => ⟨S2x8x16384x16384, .f32⟩
  | .hbm, ⟨17, _⟩ => ⟨S_, .f32⟩
  | .hbm, ⟨18, _⟩ => ⟨S2x8x16384, .f32⟩
  | .hbm, ⟨19, _⟩ => ⟨S_, .f32⟩
  | .hbm, ⟨20, _⟩ => ⟨S2x8x16384, .f32⟩
  | .hbm, ⟨21, _⟩ => ⟨S2x8x16384, .f32⟩
  | .hbm, ⟨22, _⟩ => ⟨S2x8x16384x1, .f32⟩
  | .hbm, ⟨23, _⟩ => ⟨S2x8x16384x16384, .f32⟩
  | .hbm, ⟨24, _⟩ => ⟨S2x8x16384x16384, .f32⟩
  | .hbm, ⟨25, _⟩ => ⟨S2x8x16384x16384, .f32⟩
  | .hbm, ⟨26, _⟩ => ⟨S_, .f32⟩
  | .hbm, ⟨27, _⟩ => ⟨S2x8x16384, .f32⟩
  | .hbm, ⟨28, _⟩ => ⟨S2x8x16384x1, .f32⟩
  | .hbm, ⟨29, _⟩ => ⟨S2x8x16384x16384, .f32⟩
  | .hbm, ⟨30, _⟩ => ⟨S2x8x16384x16384, .f32⟩
  | .hbm, ⟨31, _⟩ => ⟨S2x8x16384x16384, .bf16⟩
  | .hbm, ⟨32, _⟩ => ⟨S2x8x128x16384, .f32⟩
  | .hbm, ⟨33, _⟩ => ⟨S2x16384x8x128, .f32⟩
  | .hbm, ⟨34, _⟩ => ⟨S2x16384x8x128, .bf16⟩
  | .hbm, ⟨35, _⟩ => ⟨S2x16384x1024, .bf16⟩
  | _, _ => ⟨S2x8x192x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩

abbrev nD : Nat := 1
abbrev τ : Topo := Topo.v7x

variable {F : FTy → Type} [FloatOps F]
-- ==== Kernel2.lean ====
abbrev S32768x1024 : Shape := ⟨2, ![32768, 1024]⟩
abbrev S1024x5632 : Shape := ⟨2, ![1024, 5632]⟩
abbrev S3x5632 : Shape := ⟨2, ![3, 5632]⟩
abbrev S2816x1024 : Shape := ⟨2, ![2816, 1024]⟩
abbrev S1x1024 : Shape := ⟨2, ![1, 1024]⟩
abbrev S8x1024 : Shape := ⟨2, ![8, 1024]⟩
abbrev S512x1024 : Shape := ⟨2, ![512, 1024]⟩
abbrev S528x1024 : Shape := ⟨2, ![528, 1024]⟩
abbrev S528x5632 : Shape := ⟨2, ![528, 5632]⟩
abbrev S512x5632 : Shape := ⟨2, ![512, 5632]⟩
abbrev S1x5632 : Shape := ⟨2, ![1, 5632]⟩
abbrev S512x2816 : Shape := ⟨2, ![512, 2816]⟩
abbrev S512 : Shape := ⟨1, ![512]⟩
abbrev S512x1 : Shape := ⟨2, ![512, 1]⟩

abbrev nBuf : Space → Nat
  | .hbm => 7
  | .vmem => 15
  | .smem => 0
  | _ => 0

abbrev bufTy : (tb : Table) → Fin (tcTables nBuf tb) → BufTy
  | .hbm, ⟨0, _⟩ => ⟨S32768x1024, .f32⟩
  | .hbm, ⟨1, _⟩ => ⟨S1024x5632, .bf16⟩
  | .hbm, ⟨2, _⟩ => ⟨S3x5632, .f32⟩
  | .hbm, ⟨3, _⟩ => ⟨S2816x1024, .bf16⟩
  | .hbm, ⟨4, _⟩ => ⟨S1x1024, .f32⟩
  | .hbm, ⟨5, _⟩ => ⟨S1x1024, .f32⟩
  | .hbm, ⟨6, _⟩ => ⟨S32768x1024, .f32⟩
  | .local _ .vmem, ⟨0, _⟩ => ⟨S8x1024, .f32⟩
  | .local _ .vmem, ⟨1, _⟩ => ⟨S8x1024, .f32⟩
  | .local _ .vmem, ⟨2, _⟩ => ⟨S512x1024, .f32⟩
  | .local _ .vmem, ⟨3, _⟩ => ⟨S512x1024, .f32⟩
  | .local _ .vmem, ⟨4, _⟩ => ⟨S8x1024, .f32⟩
  | .local _ .vmem, ⟨5, _⟩ => ⟨S8x1024, .f32⟩
  | .local _ .vmem, ⟨6, _⟩ => ⟨S1024x5632, .bf16⟩
  | .local _ .vmem, ⟨7, _⟩ => ⟨S3x5632, .f32⟩
  | .local _ .vmem, ⟨8, _⟩ => ⟨S2816x1024, .bf16⟩
  | .local _ .vmem, ⟨9, _⟩ => ⟨S1x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S528x1024, .f32⟩
  | .local _ .vmem, ⟨14, _⟩ => ⟨S528x5632, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c4095_i32 : BitVec 32 := 4095#32
  let v2 : BitVec 32 := Scalar.minsi v1 c4095_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference2Ideal.lean ====
abbrev S32768x1024 : Shape := ⟨2, ![32768, 1024]⟩
abbrev S1024x5632 : Shape := ⟨2, ![1024, 5632]⟩
abbrev S3x5632 : Shape := ⟨2, ![3, 5632]⟩
abbrev S2816x1024 : Shape := ⟨2, ![2816, 1024]⟩
abbrev S1x1024 : Shape := ⟨2, ![1, 1024]⟩
abbrev S2x16384x1024 : Shape := ⟨3, ![2, 16384, 1024]⟩
abbrev S2x16384x5632 : Shape := ⟨3, ![2, 16384, 5632]⟩
abbrev S_ : Shape := ⟨0, ![]⟩
abbrev S2x16386x5632 : Shape := ⟨3, ![2, 16386, 5632]⟩
abbrev S1x5632 : Shape := ⟨2, ![1, 5632]⟩
abbrev S5632 : Shape := ⟨1, ![5632]⟩
abbrev S1x1x5632 : Shape := ⟨3, ![1, 1, 5632]⟩
abbrev S2x16384x2816 : Shape := ⟨3, ![2, 16384, 2816]⟩
abbrev S1024 : Shape := ⟨1, ![1024]⟩
abbrev S2x16384 : Shape := ⟨2, ![2, 16384]⟩
abbrev S2x16384x1 : Shape := ⟨3, ![2, 16384, 1]⟩
abbrev S1x1x1024 : Shape := ⟨3, ![1, 1, 1024]⟩

abbrev nBuf : Space → Nat
  | .hbm => 85
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024x5632, .bf16⟩
  | .hbm, ⟨2, _⟩ => ⟨S3x5632, .f32⟩
  | .hbm, ⟨3, _⟩ => ⟨S2816x1024, .bf16⟩
  | .hbm, ⟨4, _⟩ => ⟨S1x1024, .f32⟩
  | .hbm, ⟨5, _⟩ => ⟨S1x1024, .f32⟩
  | .hbm, ⟨6, _⟩ => ⟨S2x16384x1024, .f32⟩
  | .hbm, ⟨7, _⟩ => ⟨S1024x5632, .f32⟩
  | .hbm, ⟨8, _⟩ => ⟨S2816x1024, .f32⟩
  | .hbm, ⟨9, _⟩ => ⟨S2x16384x5632, .f32⟩
  | .hbm, ⟨10, _⟩ => ⟨S_, .i32⟩
  | .hbm, ⟨11, _⟩ => ⟨S_, .f32⟩
  | .hbm, ⟨12, _⟩ => ⟨S2x16386x5632, .f32⟩
  | .hbm, ⟨13, _⟩ => ⟨S2x16384x5632, .f32⟩
  | .hbm, ⟨14, _⟩ => ⟨S1x5632, .f32⟩
  | .hbm, ⟨15, _⟩ => ⟨S5632, .f32⟩
  | .hbm, ⟨16, _⟩ => ⟨S1x1x5632, .f32⟩
  | .hbm, ⟨17, _⟩ => ⟨S2x16384x5632, .f32⟩
  | .hbm, ⟨18, _⟩ => ⟨S2x16384x5632, .f32⟩
  | .hbm, ⟨19, _⟩ => ⟨S_, .f32⟩
  | .hbm, ⟨20, _⟩ => ⟨S2x16384x5632, .f32⟩
  | .hbm, ⟨21, _⟩ => ⟨S2x16384x5632, .f32⟩
  | .hbm, ⟨22, _⟩ => ⟨S2x16384x5632, .f32⟩
  | .hbm, ⟨23, _⟩ => ⟨S1x5632, .f32⟩
  | .hbm, ⟨24, _⟩ => ⟨S5632, .f32⟩
  | .hbm, ⟨25, _⟩ => ⟨S1x1x5632, .f32⟩
  | .hbm, ⟨26, _⟩ => ⟨S2x16384x5632, .f32⟩
  | .hbm, ⟨27, _⟩ => ⟨S2x16384x5632, .f32⟩
  | .hbm, ⟨28, _⟩ => ⟨S2x16384x5632, .f32⟩
  | .hbm, ⟨29, _⟩ => ⟨S2x16384x5632, .f32⟩
  | .hbm, ⟨30, _⟩ => ⟨S1x5632, .f32⟩
  | .hbm, ⟨31, _⟩ => ⟨S5632, .f32⟩
  | .hbm, ⟨32, _⟩ => ⟨S1x1x5632, .f32⟩
  | .hbm, ⟨33, _⟩ => ⟨S2x16384x5632, .f32⟩
  | .hbm, ⟨34, _⟩ => ⟨S2x16384x5632, .f32⟩
  | .hbm, ⟨35, _⟩ => ⟨S2x16384x5632, .f32⟩
  | .hbm, ⟨36, _⟩ => ⟨S2x16384x2816, .f32⟩
  | .hbm, ⟨37, _⟩ => ⟨S2x16384x2816, .f32⟩
  | .hbm, ⟨38, _⟩ => ⟨S2x16384x2816, .f32⟩
  | .hbm, ⟨39, _⟩ => ⟨S2x16384x2816, .f32⟩
  | .hbm, ⟨40, _⟩ => ⟨S_, .f32⟩
  | .hbm, ⟨41, _⟩ => ⟨S2x16384x2816, .f32⟩
  | .hbm, ⟨42, _⟩ => ⟨S2x16384x2816, .f32⟩
  | .hbm, ⟨43, _⟩ => ⟨S_, .f32⟩
  | .hbm, ⟨44, _⟩ => ⟨S2x16384x2816, .f32⟩
  | .hbm, ⟨45, _⟩ => ⟨S2x16384x2816, .f32⟩
  | .hbm, ⟨46, _⟩ => ⟨S2x16384x2816, .f32⟩
  | .hbm, ⟨47, _⟩ => ⟨S2x16384x2816, .f32⟩
  | .hbm, ⟨48, _⟩ => ⟨S2x16384x1024, .f32⟩
  | .hbm, ⟨49, _⟩ => ⟨S_, .f32⟩
  | .hbm, ⟨50, _⟩ => ⟨S2x16384x1024, .f32⟩
  | .hbm, ⟨51, _⟩ => ⟨S2x16384x1024, .f32⟩
  | .hbm, ⟨52, _⟩ => ⟨S2x16384x1024, .f32⟩
  | .hbm, ⟨53, _⟩ => ⟨S1024, .f32⟩
  | .hbm, ⟨54, _⟩ => ⟨S1024, .f32⟩
  | .hbm, ⟨55, _⟩ => ⟨S_, .f32⟩
  | .hbm, ⟨56, _⟩ => ⟨S2x16384, .f32⟩
  | .hbm, ⟨57, _⟩ => ⟨S2x16384x1, .f32⟩
  | .hbm, ⟨58, _⟩ => ⟨S_, .f32⟩
  | .hbm, ⟨59, _⟩ => ⟨S2x16384x1, .f32⟩
  | .hbm, ⟨60, _⟩ => ⟨S2x16384x1, .f32⟩
  | .hbm, ⟨61, _⟩ => ⟨S2x16384x1024, .f32⟩
  | .hbm, ⟨62, _⟩ => ⟨S2x16384x1024, .f32⟩
  | .hbm, ⟨63, _⟩ => ⟨S2x16384x1024, .f32⟩
  | .hbm, ⟨64, _⟩ => ⟨S_, .f32⟩
  | .hbm, ⟨65, _⟩ => ⟨S2x16384, .f32⟩
  | .hbm, ⟨66, _⟩ => ⟨S2x16384x1, .f32⟩
  | .hbm, ⟨67, _⟩ => ⟨S_, .f32⟩
  | .hbm, ⟨68, _⟩ => ⟨S2x16384x1, .f32⟩
  | .hbm, ⟨69, _⟩ => ⟨S2x16384x1, .f32⟩
  | .hbm, ⟨70, _⟩ => ⟨S2x16384x1024, .f32⟩
  | .hbm, ⟨71, _⟩ => ⟨S2x16384x1024, .f32⟩
  | .hbm, ⟨72, _⟩ => ⟨S_, .f32⟩
  | .hbm, ⟨73, _⟩ => ⟨S2x16384x1, .f32⟩
  | .hbm, ⟨74, _⟩ => ⟨S2x16384x1, .f32⟩
  | .hbm, ⟨75, _⟩ => ⟨S2x16384x1, .f32⟩
  | .hbm, ⟨76, _⟩ => ⟨S2x16384x1024, .f32⟩
  | .hbm, ⟨77, _⟩ => ⟨S2x16384x1024, .f32⟩
  | .hbm, ⟨78, _⟩ => ⟨S1x1x1024, .f32⟩
  | .hbm, ⟨79, _⟩ => ⟨S2x16384x1024, .f32⟩
  | .hbm, ⟨80, _⟩ => ⟨S2x16384x1024, .f32⟩
  | .hbm, ⟨81, _⟩ => ⟨S1x1x1024, .f32⟩
  | .hbm, ⟨82, _⟩ => ⟨S2x16384x1024, .f32⟩
  | .hbm, ⟨83, _⟩ => ⟨S2x16384x1024, .f32⟩
  | .hbm, ⟨84, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_call0_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_call1_v0 : Ref sig .tc := ⟨.hbm, 38, rfl⟩
abbrev main_call1_v1 : Ref sig .tc := ⟨.hbm, 39, rfl⟩
abbrev main_call1_cst : Ref sig .tc := ⟨.hbm, 40, rfl⟩
abbrev main_call1_v2 : Ref sig .tc := ⟨.hbm, 41, rfl⟩
abbrev main_call1_v3 : Ref sig .tc := ⟨.hbm, 42, rfl⟩
abbrev main_call1_cst_0 : Ref sig .tc := ⟨.hbm, 43, rfl⟩
abbrev main_call1_v4 : Ref sig .tc := ⟨.hbm, 44, rfl⟩
abbrev main_call1_v5 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_0 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_1 : Ref sig .tc := ⟨.hbm, 55, rfl⟩
abbrev main_v37 : Ref sig .tc := ⟨.hbm, 56, rfl⟩
abbrev main_v38 : Ref sig .tc := ⟨.hbm, 57, rfl⟩
abbrev main_cst_2 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_3 : Ref sig .tc := ⟨.hbm, 64, rfl⟩
abbrev main_v44 : Ref sig .tc := ⟨.hbm, 65, rfl⟩
abbrev main_v45 : Ref sig .tc := ⟨.hbm, 66, rfl⟩
abbrev main_cst_4 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_5 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩

abbrev nD : Nat := 1
abbrev τ : Topo := Topo.v7x

variable {F : FTy → Type} [FloatOps F]
-- ==== Kernel3.lean ====
abbrev S32768x1024 : Shape := ⟨2, ![32768, 1024]⟩
abbrev S1024x1024 : Shape := ⟨2, ![1024, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 6
  | .vmem => 9
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .f32⟩
  | .hbm, ⟨2, _⟩ => ⟨S1024x1024, .bf16⟩
  | .hbm, ⟨3, _⟩ => ⟨S1x1024, .f32⟩
  | .hbm, ⟨4, _⟩ => ⟨S1x1024, .f32⟩
  | .hbm, ⟨5, _⟩ => ⟨S32768x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1024x1024, .bf16⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Kernel3Ideal.lean ====
abbrev S32768x1024 : Shape := ⟨2, ![32768, 1024]⟩
abbrev S1024x1024 : Shape := ⟨2, ![1024, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 6
  | .vmem => 9
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .f32⟩
  | .hbm, ⟨2, _⟩ => ⟨S1024x1024, .bf16⟩
  | .hbm, ⟨3, _⟩ => ⟨S1x1024, .f32⟩
  | .hbm, ⟨4, _⟩ => ⟨S1x1024, .f32⟩
  | .hbm, ⟨5, _⟩ => ⟨S32768x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1024x1024, .bf16⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference3Ideal.lean ====
abbrev S32768x1024 : Shape := ⟨2, ![32768, 1024]⟩
abbrev S1024x1024 : Shape := ⟨2, ![1024, 1024]⟩
abbrev S1x1024 : Shape := ⟨2, ![1, 1024]⟩
abbrev S_ : Shape := ⟨0, ![]⟩
abbrev S1024 : Shape := ⟨1, ![1024]⟩
abbrev S32768 : Shape := ⟨1, ![32768]⟩
abbrev S32768x1 : Shape := ⟨2, ![32768, 1]⟩

abbrev nBuf : Space → Nat
  | .hbm => 43
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .f32⟩
  | .hbm, ⟨2, _⟩ => ⟨S1024x1024, .bf16⟩
  | .hbm, ⟨3, _⟩ => ⟨S1x1024, .f32⟩
  | .hbm, ⟨4, _⟩ => ⟨S1x1024, .f32⟩
  | .hbm, ⟨5, _⟩ => ⟨S32768x1024, .f32⟩
  | .hbm, ⟨6, _⟩ => ⟨S1024x1024, .f32⟩
  | .hbm, ⟨7, _⟩ => ⟨S32768x1024, .f32⟩
  | .hbm, ⟨8, _⟩ => ⟨S_, .f32⟩
  | .hbm, ⟨9, _⟩ => ⟨S32768x1024, .f32⟩
  | .hbm, ⟨10, _⟩ => ⟨S32768x1024, .f32⟩
  | .hbm, ⟨11, _⟩ => ⟨S32768x1024, .f32⟩
  | .hbm, ⟨12, _⟩ => ⟨S1024, .f32⟩
  | .hbm, ⟨13, _⟩ => ⟨S1024, .f32⟩
  | .hbm, ⟨14, _⟩ => ⟨S_, .f32⟩
  | .hbm, ⟨15, _⟩ => ⟨S32768, .f32⟩
  | .hbm, ⟨16, _⟩ => ⟨S32768x1, .f32⟩
  | .hbm, ⟨17, _⟩ => ⟨S_, .f32⟩
  | .hbm, ⟨18, _⟩ => ⟨S32768x1, .f32⟩
  | .hbm, ⟨19, _⟩ => ⟨S32768x1, .f32⟩
  | .hbm, ⟨20, _⟩ => ⟨S32768x1024, .f32⟩
  | .hbm, ⟨21, _⟩ => ⟨S32768x1024, .f32⟩
  | .hbm, ⟨22, _⟩ => ⟨S32768x1024, .f32⟩
  | .hbm, ⟨23, _⟩ => ⟨S_, .f32⟩
  | .hbm, ⟨24, _⟩ => ⟨S32768, .f32⟩
  | .hbm, ⟨25, _⟩ => ⟨S32768x1, .f32⟩
  | .hbm, ⟨26, _⟩ => ⟨S_, .f32⟩
  | .hbm, ⟨27, _⟩ => ⟨S32768x1, .f32⟩
  | .hbm, ⟨28, _⟩ => ⟨S32768x1, .f32⟩
  | .hbm, ⟨29, _⟩ => ⟨S32768x1024, .f32⟩
  | .hbm, ⟨30, _⟩ => ⟨S32768x1024, .f32⟩
  | .hbm, ⟨31, _⟩ => ⟨S_, .f32⟩
  | .hbm, ⟨32, _⟩ => ⟨S32768x1, .f32⟩
  | .hbm, ⟨33, _⟩ => ⟨S32768x1, .f32⟩
  | .hbm, ⟨34, _⟩ => ⟨S32768x1, .f32⟩
  | .hbm, ⟨35, _⟩ => ⟨S32768x1024, .f32⟩
  | .hbm, ⟨36, _⟩ => ⟨S32768x1024, .f32⟩
  | .hbm, ⟨37, _⟩ => ⟨S1x1024, .f32⟩
  | .hbm, ⟨38, _⟩ => ⟨S32768x1024, .f32⟩
  | .hbm, ⟨39, _⟩ => ⟨S32768x1024, .f32⟩
  | .hbm, ⟨40, _⟩ => ⟨S1x1024, .f32⟩
  | .hbm, ⟨41, _⟩ => ⟨S32768x1024, .f32⟩
  | .hbm, ⟨42, _⟩ => ⟨S32768x1024, .f32⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩

abbrev nD : Nat := 1
abbrev τ : Topo := Topo.v7x

variable {F : FTy → Type} [FloatOps F]
-- ==== Kernel4.lean ====
abbrev S32768x1024 : Shape := ⟨2, ![32768, 1024]⟩
abbrev S1024x1024 : Shape := ⟨2, ![1024, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 6
  | .vmem => 9
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S1024x1024, .bf16⟩
  | .hbm, ⟨3, _⟩ => ⟨S1x1024, .f32⟩
  | .hbm, ⟨4, _⟩ => ⟨S1x1024, .f32⟩
  | .hbm, ⟨5, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1024x1024, .bf16⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference4Ideal.lean ====
abbrev S32768x1024 : Shape := ⟨2, ![32768, 1024]⟩
abbrev S1024x1024 : Shape := ⟨2, ![1024, 1024]⟩
abbrev S1x1024 : Shape := ⟨2, ![1, 1024]⟩
abbrev S_ : Shape := ⟨0, ![]⟩
abbrev S1024 : Shape := ⟨1, ![1024]⟩
abbrev S32768 : Shape := ⟨1, ![32768]⟩
abbrev S32768x1 : Shape := ⟨2, ![32768, 1]⟩

abbrev nBuf : Space → Nat
  | .hbm => 42
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S1024x1024, .bf16⟩
  | .hbm, ⟨3, _⟩ => ⟨S1x1024, .f32⟩
  | .hbm, ⟨4, _⟩ => ⟨S1x1024, .f32⟩
  | .hbm, ⟨5, _⟩ => ⟨S1024x1024, .f32⟩
  | .hbm, ⟨6, _⟩ => ⟨S32768x1024, .f32⟩
  | .hbm, ⟨7, _⟩ => ⟨S_, .f32⟩
  | .hbm, ⟨8, _⟩ => ⟨S32768x1024, .f32⟩
  | .hbm, ⟨9, _⟩ => ⟨S32768x1024, .f32⟩
  | .hbm, ⟨10, _⟩ => ⟨S32768x1024, .f32⟩
  | .hbm, ⟨11, _⟩ => ⟨S1024, .f32⟩
  | .hbm, ⟨12, _⟩ => ⟨S1024, .f32⟩
  | .hbm, ⟨13, _⟩ => ⟨S_, .f32⟩
  | .hbm, ⟨14, _⟩ => ⟨S32768, .f32⟩
  | .hbm, ⟨15, _⟩ => ⟨S32768x1, .f32⟩
  | .hbm, ⟨16, _⟩ => ⟨S_, .f32⟩
  | .hbm, ⟨17, _⟩ => ⟨S32768x1, .f32⟩
  | .hbm, ⟨18, _⟩ => ⟨S32768x1, .f32⟩
  | .hbm, ⟨19, _⟩ => ⟨S32768x1024, .f32⟩
  | .hbm, ⟨20, _⟩ => ⟨S32768x1024, .f32⟩
  | .hbm, ⟨21, _⟩ => ⟨S32768x1024, .f32⟩
  | .hbm, ⟨22, _⟩ => ⟨S_, .f32⟩
  | .hbm, ⟨23, _⟩ => ⟨S32768, .f32⟩
  | .hbm, ⟨24, _⟩ => ⟨S32768x1, .f32⟩
  | .hbm, ⟨25, _⟩ => ⟨S_, .f32⟩
  | .hbm, ⟨26, _⟩ => ⟨S32768x1, .f32⟩
  | .hbm, ⟨27, _⟩ => ⟨S32768x1, .f32⟩
  | .hbm, ⟨28, _⟩ => ⟨S32768x1024, .f32⟩
  | .hbm, ⟨29, _⟩ => ⟨S32768x1024, .f32⟩
  | .hbm, ⟨30, _⟩ => ⟨S_, .f32⟩
  | .hbm, ⟨31, _⟩ => ⟨S32768x1, .f32⟩
  | .hbm, ⟨32, _⟩ => ⟨S32768x1, .f32⟩
  | .hbm, ⟨33, _⟩ => ⟨S32768x1, .f32⟩
  | .hbm, ⟨34, _⟩ => ⟨S32768x1024, .f32⟩
  | .hbm, ⟨35, _⟩ => ⟨S32768x1024, .f32⟩
  | .hbm, ⟨36, _⟩ => ⟨S1x1024, .f32⟩
  | .hbm, ⟨37, _⟩ => ⟨S32768x1024, .f32⟩
  | .hbm, ⟨38, _⟩ => ⟨S32768x1024, .f32⟩
  | .hbm, ⟨39, _⟩ => ⟨S1x1024, .f32⟩
  | .hbm, ⟨40, _⟩ => ⟨S32768x1024, .f32⟩
  | .hbm, ⟨41, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]
-- ==== Kernel5.lean ====
abbrev S32768x1024 : Shape := ⟨2, ![32768, 1024]⟩
abbrev S1024x3072 : Shape := ⟨2, ![1024, 3072]⟩
abbrev S3x3072 : Shape := ⟨2, ![3, 3072]⟩
abbrev S16x2x128x8x1024 : Shape := ⟨5, ![16, 2, 128, 8, 1024]⟩
abbrev S8x1024 : Shape := ⟨2, ![8, 1024]⟩
abbrev S512x1024 : Shape := ⟨2, ![512, 1024]⟩
abbrev S16x1x4x8x1024 : Shape := ⟨5, ![16, 1, 4, 8, 1024]⟩
abbrev S528x1024 : Shape := ⟨2, ![528, 1024]⟩
abbrev S528x3072 : Shape := ⟨2, ![528, 3072]⟩
abbrev S512x3072 : Shape := ⟨2, ![512, 3072]⟩
abbrev S1x3072 : Shape := ⟨2, ![1, 3072]⟩
abbrev S128x1024 : Shape := ⟨2, ![128, 1024]⟩
abbrev S16x8x1024 : Shape := ⟨3, ![16, 8, 1024]⟩
abbrev S16x1x1x8x1024 : Shape := ⟨5, ![16, 1, 1, 8, 1024]⟩

abbrev nBuf : Space → Nat
  | .hbm => 6
  | .vmem => 16
  | .smem => 0
  | _ => 0

abbrev bufTy : (tb : Table) → Fin (tcTables nBuf tb) → BufTy
  | .hbm, ⟨0, _⟩ => ⟨S32768x1024, .f32⟩
  | .hbm, ⟨1, _⟩ => ⟨S1024x3072, .bf16⟩
  | .hbm, ⟨2, _⟩ => ⟨S3x3072, .f32⟩
  | .hbm, ⟨3, _⟩ => ⟨S16x2x128x8x1024, .f32⟩
  | .hbm, ⟨4, _⟩ => ⟨S16x2x128x8x1024, .f32⟩
  | .hbm, ⟨5, _⟩ => ⟨S16x2x128x8x1024, .f32⟩
  | .local _ .vmem, ⟨0, _⟩ => ⟨S8x1024, .f32⟩
  | .local _ .vmem, ⟨1, _⟩ => ⟨S8x1024, .f32⟩
  | .local _ .vmem, ⟨2, _⟩ => ⟨S512x1024, .f32⟩
  | .local _ .vmem, ⟨3, _⟩ => ⟨S512x1024, .f32⟩
  | .local _ .vmem, ⟨4, _⟩ => ⟨S8x1024, .f32⟩
  | .local _ .vmem, ⟨5, _⟩ => ⟨S8x1024, .f32⟩
  | .local _ .vmem, ⟨6, _⟩ => ⟨S1024x3072, .bf16⟩
  | .local _ .vmem, ⟨7, _⟩ => ⟨S3x3072, .f32⟩
  | .local _ .vmem, ⟨8, _⟩ => ⟨S16x1x4x8x1024, .f32⟩
  | .local _ .vmem, ⟨9, _⟩ => ⟨S16x1x4x8x1024, .f32⟩
  | .local _ .vmem, ⟨10, _⟩ => ⟨S16x1x4x8x1024, .f32⟩
  | .local _ .vmem, ⟨11, _⟩ => ⟨S16x1x4x8x1024, .f32⟩
  | .local _ .vmem, ⟨12, _⟩ => ⟨S16x1x4x8x1024, .f32⟩
  | .local _ .vmem, ⟨13, _⟩ => ⟨S16x1x4x8x1024, .f32⟩
  | .local _ .vmem, ⟨14, _⟩ => ⟨S528x1024, .f32⟩
  | .local _ .vmem, ⟨15, _⟩ => ⟨S528x3072, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c4095_i32 : BitVec 32 := 4095#32
  let v2 : BitVec 32 := Scalar.minsi v1 c4095_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 5 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  let c0_i32_13 : BitVec 32 := 0#32
  ![c0_i32_10.toNat, v16.toNat, v26.toNat, c0_i32_11.toNat, c0_i32_12.toNat]

def cc0_transform_6 (i : grid0.Coords) : Fin 5 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  let c0_i32_13 : BitVec 32 := 0#32
  ![c0_i32_10.toNat, v16.toNat, v26.toNat, c0_i32_11.toNat, c0_i32_12.toNat]

def cc0_transform_7 (i : grid0.Coords) : Fin 5 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  let c0_i32_13 : BitVec 32 := 0#32
  ![c0_i32_10.toNat, v16.toNat, v26.toNat, c0_i32_11.toNat, c0_i32_12.toNat]

abbrev stage0_0 : Fin 2 → Memref sig .tc .vmem S8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S16x1x4x8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x1x4x8x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x1x4x8x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference5Ideal.lean ====
abbrev S32768x1024 : Shape := ⟨2, ![32768, 1024]⟩
abbrev S1024x3072 : Shape := ⟨2, ![1024, 3072]⟩
abbrev S3x3072 : Shape := ⟨2, ![3, 3072]⟩
abbrev S2x16384x1024 : Shape := ⟨3, ![2, 16384, 1024]⟩
abbrev S2x16384x3072 : Shape := ⟨3, ![2, 16384, 3072]⟩
abbrev S_ : Shape := ⟨0, ![]⟩
abbrev S2x16386x3072 : Shape := ⟨3, ![2, 16386, 3072]⟩
abbrev S1x3072 : Shape := ⟨2, ![1, 3072]⟩
abbrev S3072 : Shape := ⟨1, ![3072]⟩
abbrev S1x1x3072 : Shape := ⟨3, ![1, 1, 3072]⟩
abbrev S2x128x16x8x1024 : Shape := ⟨5, ![2, 128, 16, 8, 1024]⟩
abbrev S16x2x128x8x1024 : Shape := ⟨5, ![16, 2, 128, 8, 1024]⟩

abbrev nBuf : Space → Nat
  | .hbm => 41
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024x3072, .bf16⟩
  | .hbm, ⟨2, _⟩ => ⟨S3x3072, .f32⟩
  | .hbm, ⟨3, _⟩ => ⟨S2x16384x1024, .f32⟩
  | .hbm, ⟨4, _⟩ => ⟨S1024x3072, .f32⟩
  | .hbm, ⟨5, _⟩ => ⟨S2x16384x3072, .f32⟩
  | .hbm, ⟨6, _⟩ => ⟨S_, .i32⟩
  | .hbm, ⟨7, _⟩ => ⟨S_, .f32⟩
  | .hbm, ⟨8, _⟩ => ⟨S2x16386x3072, .f32⟩
  | .hbm, ⟨9, _⟩ => ⟨S2x16384x3072, .f32⟩
  | .hbm, ⟨10, _⟩ => ⟨S1x3072, .f32⟩
  | .hbm, ⟨11, _⟩ => ⟨S3072, .f32⟩
  | .hbm, ⟨12, _⟩ => ⟨S1x1x3072, .f32⟩
  | .hbm, ⟨13, _⟩ => ⟨S2x16384x3072, .f32⟩
  | .hbm, ⟨14, _⟩ => ⟨S2x16384x3072, .f32⟩
  | .hbm, ⟨15, _⟩ => ⟨S_, .f32⟩
  | .hbm, ⟨16, _⟩ => ⟨S2x16384x3072, .f32⟩
  | .hbm, ⟨17, _⟩ => ⟨S2x16384x3072, .f32⟩
  | .hbm, ⟨18, _⟩ => ⟨S2x16384x3072, .f32⟩
  | .hbm, ⟨19, _⟩ => ⟨S1x3072, .f32⟩
  | .hbm, ⟨20, _⟩ => ⟨S3072, .f32⟩
  | .hbm, ⟨21, _⟩ => ⟨S1x1x3072, .f32⟩
  | .hbm, ⟨22, _⟩ => ⟨S2x16384x3072, .f32⟩
  | .hbm, ⟨23, _⟩ => ⟨S2x16384x3072, .f32⟩
  | .hbm, ⟨24, _⟩ => ⟨S2x16384x3072, .f32⟩
  | .hbm, ⟨25, _⟩ => ⟨S2x16384x3072, .f32⟩
  | .hbm, ⟨26, _⟩ => ⟨S1x3072, .f32⟩
  | .hbm, ⟨27, _⟩ => ⟨S3072, .f32⟩
  | .hbm, ⟨28, _⟩ => ⟨S1x1x3072, .f32⟩
  | .hbm, ⟨29, _⟩ => ⟨S2x16384x3072, .f32⟩
  | .hbm, ⟨30, _⟩ => ⟨S2x16384x3072, .f32⟩
  | .hbm, ⟨31, _⟩ => ⟨S2x16384x3072, .f32⟩
  | .hbm, ⟨32, _⟩ => ⟨S2x16384x1024, .f32⟩
  | .hbm, ⟨33, _⟩ => ⟨S2x16384x1024, .f32⟩
  | .hbm, ⟨34, _⟩ => ⟨S2x16384x1024, .f32⟩
  | .hbm, ⟨35, _⟩ => ⟨S2x128x16x8x1024, .f32⟩
  | .hbm, ⟨36, _⟩ => ⟨S16x2x128x8x1024, .f32⟩
  | .hbm, ⟨37, _⟩ => ⟨S2x128x16x8x1024, .f32⟩
  | .hbm, ⟨38, _⟩ => ⟨S16x2x128x8x1024, .f32⟩
  | .hbm, ⟨39, _⟩ => ⟨S2x128x16x8x1024, .f32⟩
  | .hbm, ⟨40, _⟩ => ⟨S16x2x128x8x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩

abbrev nD : Nat := 1
abbrev τ : Topo := Topo.v7x

variable {F : FTy → Type} [FloatOps F]
-- ==== Kernel6.lean ====
abbrev S32768x1024 : Shape := ⟨2, ![32768, 1024]⟩
abbrev S2x16384 : Shape := ⟨2, ![2, 16384]⟩
abbrev S1024x704 : Shape := ⟨2, ![1024, 704]⟩
abbrev S384 : Shape := ⟨1, ![384]⟩
abbrev S384x1536 : Shape := ⟨2, ![384, 1536]⟩
abbrev S256 : Shape := ⟨1, ![256]⟩
abbrev S256x2048 : Shape := ⟨2, ![256, 2048]⟩
abbrev S_ : Shape := ⟨0, ![]⟩
abbrev S1024x64 : Shape := ⟨2, ![1024, 64]⟩
abbrev S1024x32 : Shape := ⟨2, ![1024, 32]⟩
abbrev S1024x896 : Shape := ⟨2, ![1024, 896]⟩
abbrev S384x8x192 : Shape := ⟨3, ![384, 8, 192]⟩
abbrev S384x8x128 : Shape := ⟨3, ![384, 8, 128]⟩
abbrev S384x1024 : Shape := ⟨2, ![384, 1024]⟩
abbrev S384x8x64 : Shape := ⟨3, ![384, 8, 64]⟩
abbrev S384x512 : Shape := ⟨2, ![384, 512]⟩
abbrev S384x8x32 : Shape := ⟨3, ![384, 8, 32]⟩
abbrev S384x2048 : Shape := ⟨2, ![384, 2048]⟩
abbrev S2048x384 : Shape := ⟨2, ![2048, 384]⟩
abbrev S256x8x256 : Shape := ⟨3, ![256, 8, 256]⟩
abbrev S256x8x128 : Shape := ⟨3, ![256, 8, 128]⟩
abbrev S256x1024 : Shape := ⟨2, ![256, 1024]⟩
abbrev S1024x256 : Shape := ⟨2, ![1024, 256]⟩
abbrev S32 : Shape := ⟨1, ![32]⟩
abbrev S1x32 : Shape := ⟨2, ![1, 32]⟩
abbrev S4x32 : Shape := ⟨2, ![4, 32]⟩
abbrev S128 : Shape := ⟨1, ![128]⟩
abbrev S1x128 : Shape := ⟨2, ![1, 128]⟩
abbrev S2x32 : Shape := ⟨2, ![2, 32]⟩
abbrev S64 : Shape := ⟨1, ![64]⟩
abbrev S64x1 : Shape := ⟨2, ![64, 1]⟩
abbrev S64x512 : Shape := ⟨2, ![64, 512]⟩
abbrev S32768x1 : Shape := ⟨2, ![32768, 1]⟩
abbrev S1x32768 : Shape := ⟨2, ![1, 32768]⟩
abbrev S1x384 : Shape := ⟨2, ![1, 384]⟩
abbrev S1x256 : Shape := ⟨2, ![1, 256]⟩
abbrev S2x8x192x16384 : Shape := ⟨4, ![2, 8, 192, 16384]⟩
abbrev S2x8x16384x208 : Shape := ⟨4, ![2, 8, 16384, 208]⟩
abbrev S2x8x64x128x256 : Shape := ⟨5, ![2, 8, 64, 128, 256]⟩
abbrev S512x1024 : Shape := ⟨2, ![512, 1024]⟩
abbrev S512x1 : Shape := ⟨2, ![512, 1]⟩
abbrev S1x512 : Shape := ⟨2, ![1, 512]⟩
abbrev S1x8x192x512 : Shape := ⟨4, ![1, 8, 192, 512]⟩
abbrev S1x8x512x208 : Shape := ⟨4, ![1, 8, 512, 208]⟩
abbrev S1x8x2x128x256 : Shape := ⟨5, ![1, 8, 2, 128, 256]⟩
abbrev S512x896 : Shape := ⟨2, ![512, 896]⟩
abbrev S512x384 : Shape := ⟨2, ![512, 384]⟩
abbrev S512x256 : Shape := ⟨2, ![512, 256]⟩
abbrev S512x64 : Shape := ⟨2, ![512, 64]⟩
abbrev S512 : Shape := ⟨1, ![512]⟩
abbrev S2048x512 : Shape := ⟨2, ![2048, 512]⟩
abbrev S1024x512 : Shape := ⟨2, ![1024, 512]⟩
abbrev S512x128 : Shape := ⟨2, ![512, 128]⟩
abbrev S512x16 : Shape := ⟨2, ![512, 16]⟩
abbrev S128x512 : Shape := ⟨2, ![128, 512]⟩
abbrev S1x1x128x512 : Shape := ⟨4, ![1, 1, 128, 512]⟩
abbrev S1x1x64x512 : Shape := ⟨4, ![1, 1, 64, 512]⟩
abbrev S1x1x512x128 : Shape := ⟨4, ![1, 1, 512, 128]⟩
abbrev S1x1x512x64 : Shape := ⟨4, ![1, 1, 512, 64]⟩
abbrev S1x1x512x16 : Shape := ⟨4, ![1, 1, 512, 16]⟩
abbrev S128x256 : Shape := ⟨2, ![128, 256]⟩
abbrev S1x1x1x128x256 : Shape := ⟨5, ![1, 1, 1, 128, 256]⟩

abbrev nBuf : Space → Nat
  | .hbm => 65
  | .vmem => 20
  | .smem => 0
  | _ => 0

abbrev bufTy : (tb : Table) → Fin (tcTables nBuf tb) → BufTy
  | .hbm, ⟨0, _⟩ => ⟨S32768x1024, .f32⟩
  | .hbm, ⟨1, _⟩ => ⟨S2x16384, .i32⟩
  | .hbm, ⟨2, _⟩ => ⟨S1024x704, .f32⟩
  | .hbm, ⟨3, _⟩ => ⟨S384, .f32⟩
  | .hbm, ⟨4, _⟩ => ⟨S384x1536, .f32⟩
  | .hbm, ⟨5, _⟩ => ⟨S256, .f32⟩
  | .hbm, ⟨6, _⟩ => ⟨S256x2048, .f32⟩
  | .hbm, ⟨7, _⟩ => ⟨S_, .f32⟩
  | .hbm, ⟨8, _⟩ => ⟨S1024x64, .f32⟩
  | .hbm, ⟨9, _⟩ => ⟨S1024x32, .f32⟩
  | .hbm, ⟨10, _⟩ => ⟨S1024x32, .f32⟩
  | .hbm, ⟨11, _⟩ => ⟨S1024x896, .f32⟩
  | .hbm, ⟨12, _⟩ => ⟨S384x8x192, .f32⟩
  | .hbm, ⟨13, _⟩ => ⟨S384x8x128, .f32⟩
  | .hbm, ⟨14, _⟩ => ⟨S384x1024, .f32⟩
  | .hbm, ⟨15, _⟩ => ⟨S384x8x64, .f32⟩
  | .hbm, ⟨16, _⟩ => ⟨S384x512, .f32⟩
  | .hbm, ⟨17, _⟩ => ⟨S384x8x32, .f32⟩
  | .hbm, ⟨18, _⟩ => ⟨S384x8x32, .f32⟩
  | .hbm, ⟨19, _⟩ => ⟨S384x8x64, .f32⟩
  | .hbm, ⟨20, _⟩ => ⟨S384x512, .f32⟩
  | .hbm, ⟨21, _⟩ => ⟨S384x2048, .f32⟩
  | .hbm, ⟨22, _⟩ => ⟨S2048x384, .f32⟩
  | .hbm, ⟨23, _⟩ => ⟨S256x8x256, .f32⟩
  | .hbm, ⟨24, _⟩ => ⟨S256x8x128, .f32⟩
  | .hbm, ⟨25, _⟩ => ⟨S256x1024, .f32⟩
  | .hbm, ⟨26, _⟩ => ⟨S256x8x128, .f32⟩
  | .hbm, ⟨27, _⟩ => ⟨S256x1024, .f32⟩
  | .hbm, ⟨28, _⟩ => ⟨S1024x256, .f32⟩
  | .hbm, ⟨29, _⟩ => ⟨S1024x896, .bf16⟩
  | .hbm, ⟨30, _⟩ => ⟨S2048x384, .bf16⟩
  | .hbm, ⟨31, _⟩ => ⟨S256x1024, .bf16⟩
  | .hbm, ⟨32, _⟩ => ⟨S1024x256, .bf16⟩
  | .hbm, ⟨33, _⟩ => ⟨S32, .f32⟩
  | .hbm, ⟨34, _⟩ => ⟨S_, .f32⟩
  | .hbm, ⟨35, _⟩ => ⟨S32, .f32⟩
  | .hbm, ⟨36, _⟩ => ⟨S32, .f32⟩
  | .hbm, ⟨37, _⟩ => ⟨S_, .f32⟩
  | .hbm, ⟨38, _⟩ => ⟨S32, .f32⟩
  | .hbm, ⟨39, _⟩ => ⟨S32, .f32⟩
  | .hbm, ⟨40, _⟩ => ⟨S_, .f32⟩
  | .hbm, ⟨41, _⟩ => ⟨S32, .f32⟩
  | .hbm, ⟨42, _⟩ => ⟨S32, .f32⟩
  | .hbm, ⟨43, _⟩ => ⟨S_, .f32⟩
  | .hbm, ⟨44, _⟩ => ⟨S32, .f32⟩
  | .hbm, ⟨45, _⟩ => ⟨S32, .f32⟩
  | .hbm, ⟨46, _⟩ => ⟨S_, .f32⟩
  | .hbm, ⟨47, _⟩ => ⟨S32, .f32⟩
  | .hbm, ⟨48, _⟩ => ⟨S32, .f32⟩
  | .hbm, ⟨49, _⟩ => ⟨S1x32, .f32⟩
  | .hbm, ⟨50, _⟩ => ⟨S4x32, .f32⟩
  | .hbm, ⟨51, _⟩ => ⟨S128, .f32⟩
  | .hbm, ⟨52, _⟩ => ⟨S1x128, .f32⟩
  | .hbm, ⟨53, _⟩ => ⟨S1x32, .f32⟩
  | .hbm, ⟨54, _⟩ => ⟨S2x32, .f32⟩
  | .hbm, ⟨55, _⟩ => ⟨S64, .f32⟩
  | .hbm, ⟨56, _⟩ => ⟨S64x1, .f32⟩
  | .hbm, ⟨57, _⟩ => ⟨S64x512, .f32⟩
  | .hbm, ⟨58, _⟩ => ⟨S32768x1, .i32⟩
  | .hbm, ⟨59, _⟩ => ⟨S1x32768, .i32⟩
  | .hbm, ⟨60, _⟩ => ⟨S1x384, .f32⟩
  | .hbm, ⟨61, _⟩ => ⟨S1x256, .f32⟩
  | .hbm, ⟨62, _⟩ => ⟨S2x8x192x16384, .bf16⟩
  | .hbm, ⟨63, _⟩ => ⟨S2x8x16384x208, .bf16⟩
  | .hbm, ⟨64, _⟩ => ⟨S2x8x64x128x256, .bf16⟩
  | .local _ .vmem, ⟨0, _⟩ => ⟨S512x1024, .f32⟩
  | .local _ .vmem, ⟨1, _⟩ => ⟨S512x1024, .f32⟩
  | .local _ .vmem, ⟨2, _⟩ => ⟨S512x1, .i32⟩
  | .local _ .vmem, ⟨3, _⟩ => ⟨S512x1, .i32⟩
  | .local _ .vmem, ⟨4, _⟩ => ⟨S1x512, .i32⟩
  | .local _ .vmem, ⟨5, _⟩ => ⟨S1x512, .i32⟩
  | .local _ .vmem, ⟨6, _⟩ => ⟨S1024x896, .bf16⟩
  | .local _ .vmem, ⟨7, _⟩ => ⟨S1x384, .f32⟩
  | .local _ .vmem, ⟨8, _⟩ => ⟨S1x256, .f32⟩
  | .local _ .vmem, ⟨9, _⟩ => ⟨S2048x384, .bf16⟩
  | .local _ .vmem, ⟨10, _⟩ => ⟨S256x1024, .bf16⟩
  | .local _ .vmem, ⟨11, _⟩ => ⟨S1024x256, .bf16⟩
  | .local _ .vmem, ⟨12, _⟩ => ⟨S1x128, .f32⟩
  | .local _ .vmem, ⟨13, _⟩ => ⟨S64x512, .f32⟩
  | .local _ .vmem, ⟨14, _⟩ => ⟨S1x8x192x512, .bf16⟩
  | .local _ .vmem, ⟨15, _⟩ => ⟨S1x8x192x512, .bf16⟩
  | .local _ .vmem, ⟨16, _⟩ => ⟨S1x8x512x208, .bf16⟩
  | .local _ .vmem, ⟨17, _⟩ => ⟨S1x8x512x208, .bf16⟩
  | .local _ .vmem, ⟨18, _⟩ => ⟨S1x8x2x128x256, .bf16⟩
  | .local _ .vmem, ⟨19, _⟩ => ⟨S1x8x2x128x256, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_0 : Ref sig .tc := ⟨.hbm, 34, rfl⟩
abbrev main_v26 : Ref sig .tc := ⟨.hbm, 35, rfl⟩
abbrev main_v27 : Ref sig .tc := ⟨.hbm, 36, rfl⟩
abbrev main_cst_1 : Ref sig .tc := ⟨.hbm, 37, rfl⟩
abbrev main_v28 : Ref sig .tc := ⟨.hbm, 38, rfl⟩
abbrev main_v29 : Ref sig .tc := ⟨.hbm, 39, rfl⟩
abbrev main_cst_2 : Ref sig .tc := ⟨.hbm, 40, rfl⟩
abbrev main_v30 : Ref sig .tc := ⟨.hbm, 41, rfl⟩
abbrev main_v31 : Ref sig .tc := ⟨.hbm, 42, rfl⟩
abbrev main_cst_3 : Ref sig .tc := ⟨.hbm, 43, rfl⟩
abbrev main_v32 : Ref sig .tc := ⟨.hbm, 44, rfl⟩
abbrev main_v33 : Ref sig .tc := ⟨.hbm, 45, rfl⟩
abbrev main_cst_4 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49_0 : Ref sig .tc := ⟨.hbm, 62, rfl⟩
abbrev main_v49_1 : Ref sig .tc := ⟨.hbm, 63, rfl⟩
abbrev main_v49_2 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 4 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, c0_i32_11.toNat, v26.toNat]

def cc0_transform_12 (i : grid0.Coords) : Fin 4 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_13 (i : grid0.Coords) : Fin 5 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  let c0_i32_13 : BitVec 32 := 0#32
  ![v16.toNat, c0_i32_10.toNat, v26.toNat, c0_i32_11.toNat, c0_i32_12.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x896 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x384 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1x8x192x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x8x512x208 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x8x2x128x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference6Ideal.lean ====
abbrev S32768x1024 : Shape := ⟨2, ![32768, 1024]⟩
abbrev S2x16384 : Shape := ⟨2, ![2, 16384]⟩
abbrev S1024x704 : Shape := ⟨2, ![1024, 704]⟩
abbrev S384 : Shape := ⟨1, ![384]⟩
abbrev S384x1536 : Shape := ⟨2, ![384, 1536]⟩
abbrev S256 : Shape := ⟨1, ![256]⟩
abbrev S256x2048 : Shape := ⟨2, ![256, 2048]⟩
abbrev S2x16384x1024 : Shape := ⟨3, ![2, 16384, 1024]⟩
abbrev S32 : Shape := ⟨1, ![32]⟩
abbrev S_ : Shape := ⟨0, ![]⟩
abbrev S2x16384x1 : Shape := ⟨3, ![2, 16384, 1]⟩
abbrev S1x1x32 : Shape := ⟨3, ![1, 1, 32]⟩
abbrev S2x16384x32 : Shape := ⟨3, ![2, 16384, 32]⟩
abbrev S2x16384x704 : Shape := ⟨3, ![2, 16384, 704]⟩
abbrev S2x16384x384 : Shape := ⟨3, ![2, 16384, 384]⟩
abbrev S2x16384x256 : Shape := ⟨3, ![2, 16384, 256]⟩
abbrev S2x16384x64 : Shape := ⟨3, ![2, 16384, 64]⟩
abbrev S1x1x384 : Shape := ⟨3, ![1, 1, 384]⟩
abbrev S2x16384x1536 : Shape := ⟨3, ![2, 16384, 1536]⟩
abbrev S2x16384x8x192 : Shape := ⟨4, ![2, 16384, 8, 192]⟩
abbrev S2x16384x8x128 : Shape := ⟨4, ![2, 16384, 8, 128]⟩
abbrev S2x16384x8x64 : Shape := ⟨4, ![2, 16384, 8, 64]⟩
abbrev S2x16384x1x32 : Shape := ⟨4, ![2, 16384, 1, 32]⟩
abbrev S2x16384x8x32 : Shape := ⟨4, ![2, 16384, 8, 32]⟩
abbrev S1x1x256 : Shape := ⟨3, ![1, 1, 256]⟩
abbrev S2x16384x2048 : Shape := ⟨3, ![2, 16384, 2048]⟩
abbrev S2x16384x8x256 : Shape := ⟨4, ![2, 16384, 8, 256]⟩
abbrev S2x8x192x16384 : Shape := ⟨4, ![2, 8, 192, 16384]⟩
abbrev S16 : Shape := ⟨1, ![16]⟩
abbrev S2x8x16384x128 : Shape := ⟨4, ![2, 8, 16384, 128]⟩
abbrev S2x1x16384x64 : Shape := ⟨4, ![2, 1, 16384, 64]⟩
abbrev S2x8x16384x64 : Shape := ⟨4, ![2, 8, 16384, 64]⟩
abbrev S2x8x16384x16 : Shape := ⟨4, ![2, 8, 16384, 16]⟩
abbrev S2x8x16384x208 : Shape := ⟨4, ![2, 8, 16384, 208]⟩
abbrev S2x64x256x8x128 : Shape := ⟨5, ![2, 64, 256, 8, 128]⟩
abbrev S2x8x64x128x256 : Shape := ⟨5, ![2, 8, 64, 128, 256]⟩

abbrev nBuf : Space → Nat
  | .hbm => 120
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S2x16384, .i32⟩
  | .hbm, ⟨2, _⟩ => ⟨S1024x704, .f32⟩
  | .hbm, ⟨3, _⟩ => ⟨S384, .f32⟩
  | .hbm, ⟨4, _⟩ => ⟨S384x1536, .f32⟩
  | .hbm, ⟨5, _⟩ => ⟨S256, .f32⟩
  | .hbm, ⟨6, _⟩ => ⟨S256x2048, .f32⟩
  | .hbm, ⟨7, _⟩ => ⟨S2x16384x1024, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S_, .f32⟩
  | .hbm, ⟨19, _⟩ => ⟨S32, .f32⟩
  | .hbm, ⟨20, _⟩ => ⟨S32, .f32⟩
  | .hbm, ⟨21, _⟩ => ⟨S_, .f32⟩
  | .hbm, ⟨22, _⟩ => ⟨S32, .f32⟩
  | .hbm, ⟨23, _⟩ => ⟨S32, .f32⟩
  | .hbm, ⟨24, _⟩ => ⟨S2x16384, .f32⟩
  | .hbm, ⟨25, _⟩ => ⟨S2x16384x1, .f32⟩
  | .hbm, ⟨26, _⟩ => ⟨S1x1x32, .f32⟩
  | .hbm, ⟨27, _⟩ => ⟨S2x16384x32, .f32⟩
  | .hbm, ⟨28, _⟩ => ⟨S2x16384x32, .f32⟩
  | .hbm, ⟨29, _⟩ => ⟨S2x16384x32, .f32⟩
  | .hbm, ⟨30, _⟩ => ⟨S2x16384x32, .f32⟩
  | .hbm, ⟨31, _⟩ => ⟨S2x16384x32, .f32⟩
  | .hbm, ⟨32, _⟩ => ⟨S2x16384x704, .f32⟩
  | .hbm, ⟨33, _⟩ => ⟨S2x16384x384, .f32⟩
  | .hbm, ⟨34, _⟩ => ⟨S2x16384x256, .f32⟩
  | .hbm, ⟨35, _⟩ => ⟨S2x16384x64, .f32⟩
  | .hbm, ⟨36, _⟩ => ⟨S2x16384x384, .f32⟩
  | .hbm, ⟨37, _⟩ => ⟨S_, .f32⟩
  | .hbm, ⟨38, _⟩ => ⟨S2x16384, .f32⟩
  | .hbm, ⟨39, _⟩ => ⟨S2x16384x1, .f32⟩
  | .hbm, ⟨40, _⟩ => ⟨S_, .f32⟩
  | .hbm, ⟨41, _⟩ => ⟨S2x16384x1, .f32⟩
  | .hbm, ⟨42, _⟩ => ⟨S2x16384x1, .f32⟩
  | .hbm, ⟨43, _⟩ => ⟨S_, .f32⟩
  | .hbm, ⟨44, _⟩ => ⟨S2x16384x1, .f32⟩
  | .hbm, ⟨45, _⟩ => ⟨S2x16384x1, .f32⟩
  | .hbm, ⟨46, _⟩ => ⟨S2x16384x1, .f32⟩
  | .hbm, ⟨47, _⟩ => ⟨S2x16384x384, .f32⟩
  | .hbm, ⟨48, _⟩ => ⟨S2x16384x384, .f32⟩
  | .hbm, ⟨49, _⟩ => ⟨S1x1x384, .f32⟩
  | .hbm, ⟨50, _⟩ => ⟨S2x16384x384, .f32⟩
  | .hbm, ⟨51, _⟩ => ⟨S2x16384x384, .f32⟩
  | .hbm, ⟨52, _⟩ => ⟨S2x16384x1536, .f32⟩
  | .hbm, ⟨53, _⟩ => ⟨S2x16384x8x192, .f32⟩
  | .hbm, ⟨54, _⟩ => ⟨S2x16384x8x128, .f32⟩
  | .hbm, ⟨55, _⟩ => ⟨S2x16384x8x64, .f32⟩
  | .hbm, ⟨56, _⟩ => ⟨S2x16384x1x32, .f32⟩
  | .hbm, ⟨57, _⟩ => ⟨S2x16384x1x32, .f32⟩
  | .hbm, ⟨58, _⟩ => ⟨S2x16384x8x32, .f32⟩
  | .hbm, ⟨59, _⟩ => ⟨S2x16384x8x32, .f32⟩
  | .hbm, ⟨60, _⟩ => ⟨S2x16384x8x32, .f32⟩
  | .hbm, ⟨61, _⟩ => ⟨S2x16384x8x32, .f32⟩
  | .hbm, ⟨62, _⟩ => ⟨S2x16384x8x32, .f32⟩
  | .hbm, ⟨63, _⟩ => ⟨S2x16384x8x32, .f32⟩
  | .hbm, ⟨64, _⟩ => ⟨S2x16384x8x32, .f32⟩
  | .hbm, ⟨65, _⟩ => ⟨S2x16384x8x32, .f32⟩
  | .hbm, ⟨66, _⟩ => ⟨S2x16384x8x32, .f32⟩
  | .hbm, ⟨67, _⟩ => ⟨S2x16384x8x32, .f32⟩
  | .hbm, ⟨68, _⟩ => ⟨S2x16384x8x32, .f32⟩
  | .hbm, ⟨69, _⟩ => ⟨S2x16384x8x32, .f32⟩
  | .hbm, ⟨70, _⟩ => ⟨S2x16384x8x64, .f32⟩
  | .hbm, ⟨71, _⟩ => ⟨S2x16384x32, .f32⟩
  | .hbm, ⟨72, _⟩ => ⟨S2x16384x32, .f32⟩
  | .hbm, ⟨73, _⟩ => ⟨S2x16384x32, .f32⟩
  | .hbm, ⟨74, _⟩ => ⟨S2x16384x32, .f32⟩
  | .hbm, ⟨75, _⟩ => ⟨S2x16384x32, .f32⟩
  | .hbm, ⟨76, _⟩ => ⟨S2x16384x32, .f32⟩
  | .hbm, ⟨77, _⟩ => ⟨S2x16384x32, .f32⟩
  | .hbm, ⟨78, _⟩ => ⟨S2x16384x32, .f32⟩
  | .hbm, ⟨79, _⟩ => ⟨S2x16384x64, .f32⟩
  | .hbm, ⟨80, _⟩ => ⟨S2x16384x256, .f32⟩
  | .hbm, ⟨81, _⟩ => ⟨S_, .f32⟩
  | .hbm, ⟨82, _⟩ => ⟨S2x16384, .f32⟩
  | .hbm, ⟨83, _⟩ => ⟨S2x16384x1, .f32⟩
  | .hbm, ⟨84, _⟩ => ⟨S_, .f32⟩
  | .hbm, ⟨85, _⟩ => ⟨S2x16384x1, .f32⟩
  | .hbm, ⟨86, _⟩ => ⟨S2x16384x1, .f32⟩
  | .hbm, ⟨87, _⟩ => ⟨S_, .f32⟩
  | .hbm, ⟨88, _⟩ => ⟨S2x16384x1, .f32⟩
  | .hbm, ⟨89, _⟩ => ⟨S2x16384x1, .f32⟩
  | .hbm, ⟨90, _⟩ => ⟨S2x16384x1, .f32⟩
  | .hbm, ⟨91, _⟩ => ⟨S2x16384x256, .f32⟩
  | .hbm, ⟨92, _⟩ => ⟨S2x16384x256, .f32⟩
  | .hbm, ⟨93, _⟩ => ⟨S1x1x256, .f32⟩
  | .hbm, ⟨94, _⟩ => ⟨S2x16384x256, .f32⟩
  | .hbm, ⟨95, _⟩ => ⟨S2x16384x256, .f32⟩
  | .hbm, ⟨96, _⟩ => ⟨S2x16384x2048, .f32⟩
  | .hbm, ⟨97, _⟩ => ⟨S2x16384x8x256, .f32⟩
  | .hbm, ⟨98, _⟩ => ⟨S2x16384x8x128, .f32⟩
  | .hbm, ⟨99, _⟩ => ⟨S2x16384x8x128, .f32⟩
  | .hbm, ⟨100, _⟩ => ⟨S2x16384x8x192, .f32⟩
  | .hbm, ⟨101, _⟩ => ⟨S_, .f32⟩
  | .hbm, ⟨102, _⟩ => ⟨S2x16384x8x192, .f32⟩
  | .hbm, ⟨103, _⟩ => ⟨S2x16384x8x192, .f32⟩
  | .hbm, ⟨104, _⟩ => ⟨S2x8x192x16384, .f32⟩
  | .hbm, ⟨105, _⟩ => ⟨S16, .i32⟩
  | .hbm, ⟨106, _⟩ => ⟨S_, .i32⟩
  | .hbm, ⟨107, _⟩ => ⟨S16, .i32⟩
  | .hbm, ⟨108, _⟩ => ⟨S16, .i1⟩
  | .hbm, ⟨109, _⟩ => ⟨S16, .f32⟩
  | .hbm, ⟨110, _⟩ => ⟨S2x8x16384x128, .f32⟩
  | .hbm, ⟨111, _⟩ => ⟨S2x1x16384x64, .f32⟩
  | .hbm, ⟨112, _⟩ => ⟨S2x8x16384x64, .f32⟩
  | .hbm, ⟨113, _⟩ => ⟨S2x8x16384x16, .f32⟩
  | .hbm, ⟨114, _⟩ => ⟨S2x8x16384x208, .f32⟩
  | .hbm, ⟨115, _⟩ => ⟨S2x64x256x8x128, .f32⟩
  | .hbm, ⟨116, _⟩ => ⟨S2x8x64x128x256, .f32⟩
  | .hbm, ⟨117, _⟩ => ⟨S2x8x192x16384, .bf16⟩
  | .hbm, ⟨118, _⟩ => ⟨S2x8x16384x208, .bf16⟩
  | .hbm, ⟨119, _⟩ => ⟨S2x8x64x128x256, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_cst_2 : Ref sig .tc := ⟨.hbm, 18, rfl⟩
abbrev main_v8 : Ref sig .tc := ⟨.hbm, 19, rfl⟩
abbrev main_v9 : Ref sig .tc := ⟨.hbm, 20, rfl⟩
abbrev main_cst_3 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_cst_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_cst_7 : Ref sig .tc := ⟨.hbm, 81, rfl⟩
abbrev main_v66 : Ref sig .tc := ⟨.hbm, 82, rfl⟩
abbrev main_v67 : Ref sig .tc := ⟨.hbm, 83, rfl⟩
abbrev main_cst_8 : Ref sig .tc := ⟨.hbm, 84, rfl⟩
abbrev main_v68 : Ref sig .tc := ⟨.hbm, 85, rfl⟩
abbrev main_v69 : Ref sig .tc := ⟨.hbm, 86, rfl⟩
abbrev main_cst_9 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_cst_10 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_c : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩

abbrev nD : Nat := 1
abbrev τ : Topo := Topo.v7x

variable {F : FTy → Type} [FloatOps F]
-- ==== Proof.Owns.lean ====
/- Loads and stores of a memory reference owned at what it reads: the form in which this proof follows the kernel. -/
module

public import Idealize.ShloMosaic.Lib.Exec
public import Idealize.ShloMosaic.Lib.Tactic
public import Idealize.ShloMosaic.Lib.Pointwise.Index
public import Idealize.ShloMosaic.Lib.Pipeline.FrameBody

@[expose] public section

noncomputable section

namespace Cert.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- `X'` is `X` with the rectangle `r` replaced by `w`. -/
def IsPut {s : Shape} {A : Type} (X : s.Idx → A) (r : Rect s) (w : r.shape.Idx → A) (X' : s.Idx → A) : Prop :=
  (∀ x, X' (r.emb x) = w x) ∧ ∀ y, y ∉ r.set → X' y = X y

theorem isPut_whole {n m : ℕ} {A : Type} (X X' : (⟨2, ![n, m]⟩ : Shape).Idx → A)
    (inb : ∀ a, (![0, 0] : Fin 2 → ℕ) a + (![n, m] : Fin 2 → ℕ) a ≤ (⟨2, ![n, m]⟩ : Shape).size a)
    (w : (⟨2, ![n, m]⟩ : Shape).Idx → A)
    (h : IsPut X (Rect.unit (s := ⟨2, ![n, m]⟩) ![0, 0] ![n, m] inb) w X') : X' = w := by
  funext y
  have := h.1 y
  rw [← this]
  congr 1
  funext a
  refine Fin.ext ?_
  rw [Rect.emb_apply]
  fin_cases a <;> simp [Rect.unit]

theorem ld_whole {n m : ℕ} {Val : EltTy → Type} {e : EltTy} (X : (⟨2, ![n, m]⟩ : Shape).Idx → Val e)
    (inb : ∀ a, (![0, 0] : Fin 2 → ℕ) a + (![n, m] : Fin 2 → ℕ) a ≤ (⟨2, ![n, m]⟩ : Shape).size a) :
    View.ld X (Rect.unit (s := ⟨2, ![n, m]⟩) ![0, 0] ![n, m] inb) = X := by
  funext y
  show X _ = X y
  congr 1
  funext a
  refine Fin.ext ?_
  show (Rect.unit (s := ⟨2, ![n, m]⟩) ![0, 0] ![n, m] inb).off a
    + (Rect.unit (s := ⟨2, ![n, m]⟩) ![0, 0] ![n, m] inb).stride a * (y a).val = (y a).val
  fin_cases a <;> simp [Rect.unit]

theorem ld_whole4 {a b n m : ℕ} {Val : EltTy → Type} {e : EltTy} (X : (⟨4, ![a, b, n, m]⟩ : Shape).Idx → Val e)
    (inb : ∀ i, (![0, 0, 0, 0] : Fin 4 → ℕ) i + (![a, b, n, m] : Fin 4 → ℕ) i ≤ (⟨4, ![a, b, n, m]⟩ : Shape).size i) :
    View.ld X (Rect.unit (s := ⟨4, ![a, b, n, m]⟩) ![0, 0, 0, 0] ![a, b, n, m] inb) = X := by
  funext y
  show X _ = X y
  congr 1
  funext i
  refine Fin.ext ?_
  show (Rect.unit (s := ⟨4, ![a, b, n, m]⟩) ![0, 0, 0, 0] ![a, b, n, m] inb).off i
    + (Rect.unit (s := ⟨4, ![a, b, n, m]⟩) ![0, 0, 0, 0] ![a, b, n, m] inb).stride i * (y i).val = (y i).val
  fin_cases i <;> simp [Rect.unit]

theorem isPut_whole3 {l n m : ℕ} {A : Type} (X X' : (⟨3, ![l, n, m]⟩ : Shape).Idx → A)
    (inb : ∀ a, (![0, 0, 0] : Fin 3 → ℕ) a + (![l, n, m] : Fin 3 → ℕ) a ≤ (⟨3, ![l, n, m]⟩ : Shape).size a)
    (w : (⟨3, ![l, n, m]⟩ : Shape).Idx → A)
    (h : IsPut X (Rect.unit (s := ⟨3, ![l, n, m]⟩) ![0, 0, 0] ![l, n, m] inb) w X') : X' = w := by
  funext y
  have := h.1 y
  rw [← this]
  congr 1
  funext a
  refine Fin.ext ?_
  rw [Rect.emb_apply]
  fin_cases a <;> simp [Rect.unit]

theorem bind_bind {E : Type → Type} {α β γ : Type} (p : Prog E α) (f : α → Prog E β) (g : β → Prog E γ) :
    (p.bind f).bind g = p.bind fun a => (f a).bind g := Prog.bind_assoc p f g

section Rules

variable {nD : Nat} {τ : Topo} {sig : RefSig} {Val : EltTy → Type}
variable {Ix : Type} [DecidableEq Ix] {Name : Type} [DecidableEq Name] {U : Type} [URA U] {Lvl : Type} [Preorder Lvl]
variable {Λ : Labels} {defs : Defs nD τ sig Val Λ} (𝒱 : Variants) (c : Thread nD τ) (bd : Option 𝒱.V) (E : Set Name)
variable {s : Shape} {e : EltTy} {cs : CoreSpace} {α : Type} {Q : α → sProp (MT nD τ sig Ix Val Name U Lvl)}

/-- A load reads the owned contents at its rectangle. -/
theorem wp_load_owns {m : Memref sig c.2.kind cs s e} {r : Rect s} {hl : m.view.LoadsAt r.toLoadRect} {q : PosShare TreeShare}
    {X : s.Idx → Val e} {k : (r.shape.Idx → Val e) → Prog (TpuEff nD τ sig Val Λ c.2) α} :
    (owns c m q X : sProp (MT nD τ sig Ix Val Name U Lvl))
      ⊢ iprop((owns c m q X -∗ wp frame (wpE defs 𝒱 c bd) E (k (View.ld X r)) Q)
        -∗ wp frame (wpE defs 𝒱 c bd) E (.op (.load m r.toLoadRect hl) k) Q) := by
  unfold owns
  iintro ⟨%f, %hf, H⟩ HK
  iapply (wp_load (defs := defs) 𝒱 c bd E (Q := Q) (m := m) (r := r.toLoadRect) (hl := hl) (k := k) (q := q) (f := f)
    (S := m.view.set) (m.view.setOn_subset_set _)) $$ H
  iintro H
  subst hf
  iapply HK
  iexists f
  isplitr
  · ipureintro; rfl
  · iexact H

/-- A store replaces the owned contents on its rectangle. -/
theorem wp_store_owns {m : Memref sig c.2.kind cs s e} {r : Rect s} {w : r.shape.Idx → Val e}
    {hx : (m.access r).Stores Finset.univ} {hm : Finset.univ = Finset.univ ∨ ∀ a, r.stride a = 1}
    {X : s.Idx → Val e} {k : PUnit → Prog (TpuEff nD τ sig Val Λ c.2) α} :
    (owns c m fullShare X : sProp (MT nD τ sig Ix Val Name U Lvl))
      ⊢ iprop((∀ X', ⌜IsPut X r w X'⌝ -∗ owns c m fullShare X' -∗ wp frame (wpE defs 𝒱 c bd) E (k ⟨⟩) Q)
        -∗ wp frame (wpE defs 𝒱 c bd) E (.op (.store m r w Finset.univ hx hm) k) Q) := by
  unfold owns
  iintro ⟨%f, %hf, H⟩ HK
  iapply (wp_store (defs := defs) 𝒱 c bd E (Q := Q) (m := m) (r := r) (w := w) (Mk := Finset.univ) (hx := hx) (hm := hm)
    (k := k) (S := m.view.set) (f := f) (by rw [View.setOn_univ]; exact View.set_slice_subset m.view r)) $$ H
  iintro H
  iapply HK $$ %(m.view.read Val ((m.access r).write Val f w Finset.univ))
  · ipureintro
    constructor
    · intro x
      exact View.read_slice_write_emb r f w (Finset.mem_univ x)
    · intro y hy
      rw [← hf]
      exact View.read_slice_write_of_not_mem r f w Finset.univ (by rwa [Rect.map_emb_univ])
  · iexists _
    isplitr
    · ipureintro; rfl
    · iexact H

end Rules

end Cert.Attn
-- ==== Proof.NiceIdeal.lean ====
/- One trip of the kernel's loop over groups of keys, written as three short recursions: the probabilities of a
   group's sub-blocks, the same again after the reference moved, and the accumulation. The printed trip is this
   program, by computation. -/
module

public import proofs.«01_k».proof.Proof.Gen.KernelIdeal.Skeleton
public import proofs.«01_k».proof.Proof.Gen.KernelIdeal.Frame

@[expose] public section

set_option maxRecDepth 65536

noncomputable section

namespace Cert.KernelIdeal.Run

open Cert.KernelIdeal Cert.KernelIdeal.Gen
open Idealize.ShloMosaic Idealize.SL.Sem

variable {F : FTy → Type} [FloatOps F]

/-- The offset of sub-block `g` of group `t` in the keys, as the first pass computes it. -/
def offA (t : Fin k0_t1_loop.trips) : ℕ → Fin 4 → ℕ
  | 0 => k0_off1 t
  | n + 1 => k0_off2 t (BitVec.ofNat 32 (1 + n))

theorem offA_inb (t : Fin k0_t1_loop.trips) (g : ℕ) (hg : g < 32) (a : Fin 4) :
    offA t g a + S1x1x256x208.size a ≤ S1x1x16384x208.size a := by
  cases g with
  | zero => exact k0_off1_inb t a
  | succ n => exact k0_off2_inb t ⟨n, by omega⟩ a

/-- The offset in the keys as the second pass computes it. -/
def offB (t : Fin k0_t1_loop.trips) (g : ℕ) : Fin 4 → ℕ := k0_off3 t (BitVec.ofNat 32 g)

theorem offB_inb (t : Fin k0_t1_loop.trips) (g : ℕ) (hg : g < 32) (a : Fin 4) :
    offB t g a + S1x1x256x208.size a ≤ S1x1x16384x208.size a := k0_off3_inb t ⟨g, hg⟩ a

/-- The offset of sub-block `g` of group `t` in the values. -/
def offV (t : Fin k0_t1_loop.trips) (g : ℕ) : Fin 5 → ℕ := k0_off4 t (BitVec.ofNat 32 g)

theorem offV_inb (t : Fin k0_t1_loop.trips) (g : ℕ) (hg : g < 32) (a : Fin 5) :
    offV t g a + S1x1x1x128x256.size a ≤ S1x1x64x128x256.size a := k0_off4_inb t ⟨g, hg⟩ a

theorem slot_inb (g : ℕ) (hg : g < 32) (a : Fin 3) :
    (![g, 0, 0] : Fin 3 → ℕ) a + S1x256x1024.size a ≤ S32x256x1024.size a := by
  have h : ∀ g : Fin 32, ∀ a, (![g.val, 0, 0] : Fin 3 → ℕ) a + S1x256x1024.size a ≤ S32x256x1024.size a := by
    decide
  exact h ⟨g, hg⟩ a

/-- Slot `g` of the probabilities' scratch buffer. -/
abbrev slot (g : ℕ) (hg : g < 32) : Rect S32x256x1024 :=
  Rect.unit (s := S32x256x1024) ![g, 0, 0] S1x256x1024.size (slot_inb g hg)

theorem slot_packed (g : ℕ) (hg : g < 32) : (slot g hg).PackedRows (EltTy.packing .bf16) := by
  have h : ∀ g : Fin 32, (slot g.val g.isLt).PackedRows (EltTy.packing .bf16) := by decide
  exact h ⟨g, hg⟩

/-- The scores of a sub-block's keys, relative to the running reference. -/
abbrev scores (kb : Vec F S1x1x256x208 .bf16) (q : Vec F S208x1024 .bf16) : FVec F S256x1024 .f32 := k0_pay67 kb q

/-- The probabilities of a sub-block. -/
abbrev probs (kb : Vec F S1x1x256x208 .bf16) (q : Vec F S208x1024 .bf16) : FVec F S1x256x1024 .bf16 := k0_pay7 kb q

/-- The largest relative score so far, per query. -/
def cmStep : ℕ → FVec F S1x1024 .f32 → Vec F S1x1x256x208 .bf16 → Vec F S208x1024 .bf16 → FVec F S1x1024 .f32
  | 0, _, kb, q => shapeCast S1x1024 (multiReduction .maximumf [0] S1024 (scores kb q) 0xFF800000#32
      reduces_S256x1024_S1024 (.inl rfl) rfl) shapeCasts_S1024_S1x1024
  | _ + 1, cm, kb, q => k0_pay127 cm kb q

/-- Whether the reference has to move: some query's largest relative score is above 20. -/
def far (cm : FVec F S1x1024 .f32) : BitVec 1 :=
  Scalar.cmpi .ne (Scalar.extui (Scalar.cmpf .ogt
    (extractAt ![0, 0, 0] (shapeCast S1x1x1 (multiReduction .maximumf [1, 2] S1 (shapeCast S1x1x1024 cm
      shapeCasts_S1x1024_S1x1x1024) 0xFF800000#32 reduces_S1x1x1024_S1 (.inl rfl) rfl) shapeCasts_S1_S1x1x1)
      inpos_S1x1x1_p0_0_0) (Scalar.ofBits (F := F) .f32 0x41A00000#32)) : BitVec 32) 0#32

variable (arg4 : Memref sig .tc .vmem S1x1x16384x208 .bf16) (arg5 : Memref sig .tc .vmem S1x1x64x128x256 .bf16)
  (arg7 : Memref sig .tc .vmem S208x1024 .bf16) (harg7 : arg7.IsWhole)
  (arg8 : Memref sig .tc .vmem S1x1024 .f32)
  (arg9 : Memref sig .tc .vmem S32x256x1024 .bf16) (harg9 : arg9.IsWhole)
  (arg10 : Memref sig .tc .vmem S144x1024 .f32)

/-- One sub-block's probabilities stored in its slot; the two values read are handed back. -/
def one (off : Fin 4 → ℕ) (hoff : ∀ a, off a + S1x1x256x208.size a ≤ S1x1x16384x208.size a) (g : ℕ) (hg : g < 32) :
    Prog (TpuEff nD τ sig (Elt F) Λ₀ .tc) (Vec F S1x1x256x208 .bf16 × Vec F S208x1024 .bf16) := do
  let kb : Vec F S1x1x256x208 .bf16 ← Prog.lift (.load arg4 (Rect.unit (s := S1x1x16384x208) off S1x1x256x208.size hoff).toLoadRect (View.loadsAt_vmem h_S1x1x256x208))
  let q : Vec F S208x1024 .bf16 ← Prog.lift (.load arg7 (Rect.unit (s := S208x1024) ![0, 0] S208x1024.size inb_S208x1024_S208x1024_0_0).toLoadRect (View.loadsAt_vmem h_S208x1024))
  let _ : Vec F S1x256x1024 .bf16 ← Prog.lift (.load arg9 (slot g hg).toLoadRect (View.loadsAt_vmem h_S1x256x1024))
  Prog.lift (.store arg9 (slot g hg) (probs kb q) Finset.univ (View.stores_vmem h_S1x256x1024 (harg9.storeExact_slice rfl _ (slot_packed g hg)) (fun _ => rfl)) (.inl rfl))
  pure ⟨kb, q⟩

/-- The first `n` sub-blocks of a group, with the largest relative score of each query. -/
def passA (t : Fin k0_t1_loop.trips) : (n : ℕ) → n ≤ 32 → Prog (TpuEff nD τ sig (Elt F) Λ₀ .tc) (FVec F S1x1024 .f32)
  | 0, _ => pure (k0_pay175 (F := F))
  | n + 1, h => do
    let cm ← passA t n (Nat.le_of_succ_le h)
    let x ← one (F := F) arg4 arg7 arg9 harg9 (offA t n) (offA_inb t n h) n h
    pure (cmStep n cm x.1 x.2)

/-- The first `n` sub-blocks again, after the reference moved. -/
def passB (t : Fin k0_t1_loop.trips) : (n : ℕ) → n ≤ 32 → Prog (TpuEff nD τ sig (Elt F) Λ₀ .tc) PUnit
  | 0, _ => pure ⟨⟩
  | n + 1, h => do
    passB t n (Nat.le_of_succ_le h)
    let _ ← one (F := F) arg4 arg7 arg9 harg9 (offB t n) (offB_inb t n h) n h
    pure ⟨⟩

/-- The reference moves up by the largest relative score (where that is positive), and what is accumulated is
    rescaled to it. -/
def move (v6 : IVec S16x1024 32) (cm : FVec F S1x1024 .f32) : Prog (TpuEff nD τ sig (Elt F) Λ₀ .tc) PUnit := do
  let r : Vec F S1x1024 .f32 ← Prog.lift (.load arg8 (Rect.unit (s := S1x1024) ![0, 0] S1x1024.size inb_S1x1024_S1x1024_0_0).toLoadRect (View.loadsAt_vmem h_S1x1024))
  let acc : Vec F S144x1024 .f32 ← Prog.lift (.load arg10 (Rect.unit (s := S144x1024) ![0, 0] S144x1024.size inb_S144x1024_S144x1024_0_0).toLoadRect (View.loadsAt_vmem h_S144x1024))
  let _ : Vec F S144x1024 .f32 ← Prog.lift (.load arg10 (Rect.unit (s := S144x1024) ![0, 0] S144x1024.size inb_S144x1024_S144x1024_0_0).toLoadRect (View.loadsAt_vmem h_S144x1024))
  Prog.lift (.store arg10 (Rect.unit (s := S144x1024) ![0, 0] S144x1024.size inb_S144x1024_S144x1024_0_0) (k0_pay2 cm r acc) Finset.univ (View.stores_vmem_bits_univ h_S144x1024 rfl) (.inl rfl))
  let _ : Vec F S1x1024 .f32 ← Prog.lift (.load arg8 (Rect.unit (s := S1x1024) ![0, 0] S1x1024.size inb_S1x1024_S1x1024_0_0).toLoadRect (View.loadsAt_vmem h_S1x1024))
  Prog.lift (.store arg8 (Rect.unit (s := S1x1024) ![0, 0] S1x1024.size inb_S1x1024_S1x1024_0_0) (k0_pay3 cm r) Finset.univ (View.stores_vmem_bits_univ h_S1x1024 rfl) (.inl rfl))
  let _ : Vec F S16x1024 .bf16 ← Prog.lift (.load arg7 (Rect.unit (s := S208x1024) ![192, 0] S16x1024.size inb_S208x1024_S16x1024_192_0).toLoadRect (View.loadsAt_vmem h_S16x1024))
  Prog.lift (.store arg7 (Rect.unit (s := S208x1024) ![192, 0] S16x1024.size inb_S208x1024_S16x1024_192_0) (k0_pay4 v6 cm r) Finset.univ (View.stores_vmem h_S16x1024 (harg7.storeExact_slice rfl _ packedbf16_S208x1024_S16x1024_192_0) (fun _ => rfl)) (.inl rfl))

/-- Sub-block `g`'s part of the accumulated sums, computed from its values and its probabilities. -/
def accRead (v5 : FVec F S16x256 .bf16) (t : Fin k0_t1_loop.trips) (g : ℕ) (hg : g < 32) :
    Prog (TpuEff nD τ sig (Elt F) Λ₀ .tc) (FVec F S144x1024 .f32) := do
  let vb : Vec F S1x1x1x128x256 .bf16 ← Prog.lift (.load arg5 (Rect.unit (s := S1x1x64x128x256) (offV t g) S1x1x1x128x256.size (offV_inb t g hg)).toLoadRect (View.loadsAt_vmem h_S1x1x1x128x256))
  let acc : Vec F S144x1024 .f32 ← Prog.lift (.load arg10 (Rect.unit (s := S144x1024) ![0, 0] S144x1024.size inb_S144x1024_S144x1024_0_0).toLoadRect (View.loadsAt_vmem h_S144x1024))
  let p : Vec F S1x256x1024 .bf16 ← Prog.lift (.load arg9 (slot g hg).toLoadRect (View.loadsAt_vmem h_S1x256x1024))
  pure (k0_pay130 v5 vb acc p)

/-- What was computed becomes the accumulated sums. -/
def accWrite (w : FVec F S144x1024 .f32) : Prog (TpuEff nD τ sig (Elt F) Λ₀ .tc) PUnit := do
  let _ : Vec F S144x1024 .f32 ← Prog.lift (.load arg10 (Rect.unit (s := S144x1024) ![0, 0] S144x1024.size inb_S144x1024_S144x1024_0_0).toLoadRect (View.loadsAt_vmem h_S144x1024))
  Prog.lift (.store arg10 (Rect.unit (s := S144x1024) ![0, 0] S144x1024.size inb_S144x1024_S144x1024_0_0) (k0_pay131 w) Finset.univ (View.stores_vmem_bits_univ h_S144x1024 rfl) (.inl rfl))

/-- The accumulation of sub-blocks `1 … n`. -/
def accs (v5 : FVec F S16x256 .bf16) (t : Fin k0_t1_loop.trips) : (n : ℕ) → n < 32 → Prog (TpuEff nD τ sig (Elt F) Λ₀ .tc) PUnit
  | 0, _ => pure ⟨⟩
  | n + 1, h => do
    accs v5 t n (Nat.lt_of_succ_lt h)
    let w ← accRead (F := F) arg5 arg9 arg10 v5 t (n + 1) h
    accWrite (F := F) arg10 w

/-- The middle of a trip: the second pass where it is needed, then the first sub-block's sums. -/
def middle (v5 : FVec F S16x256 .bf16) (v6 : IVec S16x1024 32) (t : Fin k0_t1_loop.trips) (cm : FVec F S1x1024 .f32) :
    Prog (TpuEff nD τ sig (Elt F) Λ₀ .tc) (FVec F S144x1024 .f32) :=
  if far cm = 1#1 then do
    move (F := F) arg7 harg7 arg8 arg10 v6 cm
    passB (F := F) arg4 arg7 arg9 harg9 t 32 le_rfl
    accRead (F := F) arg5 arg9 arg10 v5 t 0 (by decide)
  else accRead (F := F) arg5 arg9 arg10 v5 t 0 (by decide)

/-- One trip. -/
def trip (v5 : FVec F S16x256 .bf16) (v6 : IVec S16x1024 32) (t : Fin k0_t1_loop.trips) :
    Prog (TpuEff nD τ sig (Elt F) Λ₀ .tc) Unit := do
  let cm ← passA (F := F) arg4 arg7 arg9 harg9 t 32 le_rfl
  let w ← middle (F := F) arg4 arg5 arg7 harg7 arg8 arg9 harg9 arg10 v5 v6 t cm
  accWrite (F := F) arg10 w
  accs (F := F) arg5 arg9 arg10 v5 t 31 (by decide)

section Trip

variable (i : grid0.Coords) (arg3 : Memref sig .tc .vmem S1x1x192x1024 .bf16) (harg3 : arg3.IsWhole)
  (harg4 : arg4.IsWhole) (harg5 : arg5.IsWhole) (arg6 : Memref sig .tc .vmem S1x1024x128 .bf16) (harg6 : arg6.IsWhole)
  (harg8 : arg8.IsWhole) (harg10 : arg10.IsWhole) (v5 : FVec F S16x256 .bf16) (v6 : IVec S16x1024 32)
  (t : Fin k0_t1_loop.trips)

/-- The part with the test is the last sub-block of the first pass, then the middle. -/
theorem middle_eq (v68 : BitVec 32) (cm : FVec F S1x1024 .f32) (x : BitVec 32) :
    k0_part30 i arg3 harg3 arg4 harg4 arg5 harg5 arg6 harg6 arg7 harg7 arg8 harg8 arg9 harg9 arg10 harg10 v5 v6 t v68 cm x = (do
    let y ← one (F := F) arg4 arg7 arg9 harg9 (offA t 31) (offA_inb t 31 (by decide)) 31 (by decide)
    middle (F := F) arg4 arg5 arg7 harg7 arg8 arg9 harg9 arg10 v5 v6 t (cmStep 31 cm y.1 y.2)) := by
  rw [k0_part30_eq_skeleton]
  simp only [k0_part30_skel,
    k0_part1_eq_skeleton, k0_part1_skel, k0_part2_eq_skeleton, k0_part2_skel, k0_part3_eq_skeleton,
    k0_part3_skel, k0_part4_eq_skeleton, k0_part4_skel, k0_part5_eq_skeleton, k0_part5_skel,
    k0_part6_eq_skeleton, k0_part6_skel, k0_part7_eq_skeleton, k0_part7_skel, k0_part8_eq_skeleton,
    k0_part8_skel, k0_part9_eq_skeleton, k0_part9_skel, k0_part10_eq_skeleton, k0_part10_skel,
    k0_part11_eq_skeleton, k0_part11_skel, k0_part12_eq_skeleton, k0_part12_skel, k0_part13_eq_skeleton,
    k0_part13_skel, k0_part14_eq_skeleton, k0_part14_skel,
    middle, move, passB, one, accRead, Prog.lift, bind, pure, Prog.bind]
  rfl

set_option maxHeartbeats 4000000 in
/-- The printed trip is `trip`. -/
theorem body_eq (v32 : BitVec 32) :
    k0_t1_body i arg3 harg3 arg4 harg4 arg5 harg5 arg6 harg6 arg7 harg7 arg8 harg8 arg9 harg9 arg10 harg10 v5 v6 v32 t ()
      = trip (F := F) arg4 arg5 arg7 harg7 arg8 arg9 harg9 arg10 v5 v6 t := by
  have hm : ∀ v68 cm x, _ := middle_eq (F := F) arg4 arg5 arg7 harg7 arg8 arg9 harg9 arg10 i arg3 harg3 harg4 harg5 arg6 harg6 harg8 harg10 v5 v6 t
  simp (config := { maxSteps := 4000000 }) only [k0_t1_body, hm,
    k0_part15_eq_skeleton, k0_part15_skel, k0_part16_eq_skeleton, k0_part16_skel, k0_part17_eq_skeleton,
    k0_part17_skel, k0_part18_eq_skeleton, k0_part18_skel, k0_part19_eq_skeleton, k0_part19_skel,
    k0_part20_eq_skeleton, k0_part20_skel, k0_part21_eq_skeleton, k0_part21_skel, k0_part22_eq_skeleton,
    k0_part22_skel, k0_part23_eq_skeleton, k0_part23_skel, k0_part24_eq_skeleton, k0_part24_skel,
    k0_part25_eq_skeleton, k0_part25_skel, k0_part26_eq_skeleton, k0_part26_skel, k0_part27_eq_skeleton,
    k0_part27_skel, k0_part28_eq_skeleton, k0_part28_skel, k0_part29_eq_skeleton, k0_part29_skel,
    k0_part31_eq_skeleton, k0_part31_skel, k0_part32_eq_skeleton, k0_part32_skel, k0_part33_eq_skeleton,
    k0_part33_skel, k0_part34_eq_skeleton, k0_part34_skel, k0_part35_eq_skeleton, k0_part35_skel,
    k0_part36_eq_skeleton, k0_part36_skel, k0_part37_eq_skeleton, k0_part37_skel, k0_part38_eq_skeleton,
    k0_part38_skel, k0_part39_eq_skeleton, k0_part39_skel, k0_part40_eq_skeleton, k0_part40_skel,
    k0_part41_eq_skeleton, k0_part41_skel, k0_part42_eq_skeleton, k0_part42_skel, k0_part43_eq_skeleton,
    k0_part43_skel, k0_part44_eq_skeleton, k0_part44_skel,
    trip, passA, one, accRead, accWrite, accs, Prog.lift, bind, pure, Prog.bind]
  rfl

end Trip

end Cert.KernelIdeal.Run
-- ==== Proof.RunIdeal.lean ====
/- One trip run once: what it leaves in the four scratch buffers, as functions of what they held and of the keys' and
   values' blocks. -/
module

public import proofs.«01_k».proof.Proof.NiceIdeal
public import proofs.«01_k».proof.Proof.Owns

@[expose] public section

set_option maxRecDepth 16384

noncomputable section

namespace Cert.KernelIdeal.Run

open Cert.KernelIdeal Cert.KernelIdeal.Gen Cert.Attn
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## What a trip computes -/

/-- A sub-block of 256 keys, at an offset. -/
def keysAt (K : Vec F S1x1x16384x208 .bf16) (off : Fin 4 → ℕ)
    (hoff : ∀ a, off a + S1x1x256x208.size a ≤ S1x1x16384x208.size a) : Vec F S1x1x256x208 .bf16 :=
  View.ld (Val := Elt F) (e' := .bf16) K (Rect.unit (s := S1x1x16384x208) off S1x1x256x208.size hoff)

/-- A sub-block of 256 values. -/
def valsAt (V : Vec F S1x1x64x128x256 .bf16) (off : Fin 5 → ℕ)
    (hoff : ∀ a, off a + S1x1x1x128x256.size a ≤ S1x1x64x128x256.size a) : Vec F S1x1x1x128x256 .bf16 :=
  View.ld (Val := Elt F) (e' := .bf16) V (Rect.unit (s := S1x1x64x128x256) off S1x1x1x128x256.size hoff)

/-- The largest relative score of each query over the first `n` sub-blocks of group `t`. -/
def cmOf (K : Vec F S1x1x16384x208 .bf16) (q : Vec F S208x1024 .bf16) (t : Fin k0_t1_loop.trips) :
    (n : ℕ) → n ≤ 32 → FVec F S1x1024 .f32
  | 0, _ => k0_pay175 (F := F)
  | n + 1, h => cmStep n (cmOf K q t n (Nat.le_of_succ_le h)) (keysAt K (offA t n) (offA_inb t n h)) q

/-- The accumulated sums with one more sub-block. -/
def accStep (v5 : FVec F S16x256 .bf16) (vb : Vec F S1x1x1x128x256 .bf16) (acc : Vec F S144x1024 .f32)
    (p : Vec F S1x256x1024 .bf16) : FVec F S144x1024 .f32 := k0_pay131 (k0_pay130 v5 vb acc p)

/-- The accumulated sums with the first `n` sub-blocks of group `t`, whose probabilities are `P`. -/
def accOf (V : Vec F S1x1x64x128x256 .bf16) (v5 : FVec F S16x256 .bf16) (t : Fin k0_t1_loop.trips)
    (P : (g : ℕ) → g < 32 → Vec F S1x256x1024 .bf16) (acc : Vec F S144x1024 .f32) :
    (n : ℕ) → n ≤ 32 → Vec F S144x1024 .f32
  | 0, _ => acc
  | n + 1, h => accStep v5 (valsAt V (offV t n) (offV_inb t n h)) (accOf V v5 t P acc n (Nat.le_of_succ_le h)) (P n h)

theorem accOf_succ (V : Vec F S1x1x64x128x256 .bf16) (v5 : FVec F S16x256 .bf16) (t : Fin k0_t1_loop.trips)
    (P : (g : ℕ) → g < 32 → Vec F S1x256x1024 .bf16) (acc : Vec F S144x1024 .f32) (n : ℕ) (h : n + 1 ≤ 32) :
    k0_pay131 (k0_pay130 v5 (valsAt V (offV t n) (offV_inb t n h)) (accOf V v5 t P acc n (Nat.le_of_succ_le h)) (P n h))
      = accOf V v5 t P acc (n + 1) h := rfl

theorem accOf_one (V : Vec F S1x1x64x128x256 .bf16) (v5 : FVec F S16x256 .bf16) (t : Fin k0_t1_loop.trips)
    (P : (g : ℕ) → g < 32 → Vec F S1x256x1024 .bf16) (acc : Vec F S144x1024 .f32) :
    k0_pay131 (k0_pay130 v5 (valsAt V (offV t 0) (offV_inb t 0 (by decide))) acc (P 0 (by decide)))
      = accOf V v5 t P acc 1 (by decide) := rfl

/-- The queries with their pad rows replaced. -/
def setPad (q : Vec F S208x1024 .bf16) (w : Vec F S16x1024 .bf16) : Vec F S208x1024 .bf16 := fun y =>
  if h : 192 ≤ (y 0).val then
    w (ix2 (⟨(y 0).val - 192, Nat.sub_lt_left_of_lt_add h (y 0).isLt⟩ : Fin 16) (y 1 : Fin 1024))
  else q y

/-- What the three small scratch buffers hold. -/
structure St (F : FTy → Type) [FloatOps F] where
  q : Vec F S208x1024 .bf16
  r : Vec F S1x1024 .f32
  acc : Vec F S144x1024 .f32

/-- After the reference moved. -/
@[reducible] def moved (v6 : IVec S16x1024 32) (cm : FVec F S1x1024 .f32) (x : St F) : St F :=
  ⟨setPad x.q (k0_pay4 v6 cm x.r), k0_pay3 cm x.r, k0_pay2 cm x.r x.acc⟩

/-- The probabilities of group `t` as the first pass and as the second pass compute them. -/
def probA (K : Vec F S1x1x16384x208 .bf16) (t : Fin k0_t1_loop.trips) (q : Vec F S208x1024 .bf16) (g : ℕ) (hg : g < 32) :
    Vec F S1x256x1024 .bf16 := probs (keysAt K (offA t g) (offA_inb t g hg)) q

def probB (K : Vec F S1x1x16384x208 .bf16) (t : Fin k0_t1_loop.trips) (q : Vec F S208x1024 .bf16) (g : ℕ) (hg : g < 32) :
    Vec F S1x256x1024 .bf16 := probs (keysAt K (offB t g) (offB_inb t g hg)) q

/-- One trip on the small buffers. -/
def tripOf (K : Vec F S1x1x16384x208 .bf16) (V : Vec F S1x1x64x128x256 .bf16) (v5 : FVec F S16x256 .bf16)
    (v6 : IVec S16x1024 32) (t : Fin k0_t1_loop.trips) (x : St F) : St F :=
  if far (cmOf K x.q t 32 le_rfl) = 1#1 then
    ⟨(moved v6 (cmOf K x.q t 32 le_rfl) x).q, (moved v6 (cmOf K x.q t 32 le_rfl) x).r,
      accOf V v5 t (probB K t (moved v6 (cmOf K x.q t 32 le_rfl) x).q) (moved v6 (cmOf K x.q t 32 le_rfl) x).acc 32 le_rfl⟩
  else ⟨x.q, x.r, accOf V v5 t (probA K t x.q) x.acc 32 le_rfl⟩

/-! ## Rectangles -/

theorem slot_ne {g g' : ℕ} (hg : g < 32) (hg' : g' < 32) (hne : g ≠ g') (x : (slot g hg).shape.Idx) :
    (slot g hg).emb x ∉ (slot g' hg').set := by
  intro h
  have h2 := (Rect.mem_set_unit.mp h) 0
  have h0 : ((slot g hg).emb x 0 : ℕ) = g + 1 * (x 0 : ℕ) := rfl
  have h1 : (x 0 : ℕ) < 1 := (x 0).isLt
  have h3 : (![g', 0, 0] : Fin 3 → ℕ) 0 = g' := rfl
  have h4 : S1x256x1024.size 0 = 1 := rfl
  rw [h0, h3, h4] at h2
  omega

theorem put_pad (X X' : Vec F S208x1024 .bf16) (w : Vec F S16x1024 .bf16)
    (h : IsPut X (Rect.unit (s := S208x1024) ![192, 0] S16x1024.size inb_S208x1024_S16x1024_192_0) w X') :
    X' = setPad X w := by
  funext y
  unfold setPad
  split
  · rename_i hy
    rw [← h.1]
    congr 1
    funext a
    refine Fin.ext ?_
    rw [Rect.emb_apply]
    fin_cases a
    · show (y 0).val = 192 + 1 * ((y 0).val - 192)
      omega
    · show (y 1).val = 0 + 1 * (y 1).val
      omega
  · rename_i hy
    refine h.2 y fun hm => hy ?_
    exact ((Rect.mem_set_unit.mp hm) 0).1

/-! ## The run -/

variable (c : Dev nD)
variable (arg4 : Memref sig .tc .vmem S1x1x16384x208 .bf16) (arg5 : Memref sig .tc .vmem S1x1x64x128x256 .bf16)
  (arg7 : Memref sig .tc .vmem S208x1024 .bf16) (harg7 : arg7.IsWhole)
  (arg8 : Memref sig .tc .vmem S1x1024 .f32)
  (arg9 : Memref sig .tc .vmem S32x256x1024 .bf16) (harg9 : arg9.IsWhole)
  (arg10 : Memref sig .tc .vmem S144x1024 .f32)

/-- `m` owned whole at `X`. -/
abbrev own {s : Shape} {e : EltTy} (m : Memref sig .tc .vmem s e) (X : s.Idx → Elt F e) : sProp 𝕄 :=
  owns (c : Thread nD τ) m fullShare X

abbrev wpk {α : Type} (p : Prog (TpuEff nD τ sig (Elt F) Λ₀ .tc) α) (Q : α → sProp 𝕄) : sProp 𝕄 :=
  wp frame (wpE (defs₀ (F := F)) Variants.none (c : Thread nD τ) none) Set.univ p Q

theorem wp_one (K : Vec F S1x1x16384x208 .bf16) (q : Vec F S208x1024 .bf16) (P : Vec F S32x256x1024 .bf16)
    (off : Fin 4 → ℕ) (hoff : ∀ a, off a + S1x1x256x208.size a ≤ S1x1x16384x208.size a) (g : ℕ) (hg : g < 32)
    {α : Type} (k : Vec F S1x1x256x208 .bf16 × Vec F S208x1024 .bf16 → Prog (TpuEff nD τ sig (Elt F) Λ₀ .tc) α)
    (Q : α → sProp 𝕄) :
    iprop(own c arg4 K ∗ own c arg7 q ∗ own c arg9 P)
      ⊢ iprop((∀ P', ⌜IsPut P (slot g hg) (probs (keysAt K off hoff) q) P'⌝ -∗ own c arg4 K -∗ own c arg7 q
          -∗ own c arg9 P' -∗ wpk c (k (keysAt K off hoff, q)) Q)
        -∗ wpk c ((one (F := F) arg4 arg7 arg9 harg9 off hoff g hg).bind k) Q) := by
  unfold one
  simp only [Prog.lift, Bind.bind, Pure.pure, Prog.bind]
  iintro ⟨HK, HQ, HP⟩ Hk
  iapply (wp_load_owns (defs := defs₀ (F := F)) Variants.none (c : Thread nD τ) none Set.univ (m := arg4)) $$ HK
  iintro HK
  iapply (wp_load_owns (defs := defs₀ (F := F)) Variants.none (c : Thread nD τ) none Set.univ (m := arg7)) $$ HQ
  iintro HQ
  iapply (wp_load_owns (defs := defs₀ (F := F)) Variants.none (c : Thread nD τ) none Set.univ (m := arg9)) $$ HP
  iintro HP
  iapply (wp_store_owns (defs := defs₀ (F := F)) Variants.none (c : Thread nD τ) none Set.univ (m := arg9)) $$ HP
  iintro %P' %hP' HP
  have hq : View.ld (Val := Elt F) (e' := .bf16) q (Rect.unit (s := S208x1024) ![0, 0] S208x1024.size inb_S208x1024_S208x1024_0_0) = q :=
    ld_whole q _
  rw [hq] at hP' ⊢
  iapply Hk $$ [] HK HQ HP
  ipureintro
  exact hP'

/-- The slots below `n` hold the probabilities `f`. -/
def Holds (P : Vec F S32x256x1024 .bf16) (f : (g : ℕ) → g < 32 → Vec F S1x256x1024 .bf16) (n : ℕ) : Prop :=
  ∀ g (hg : g < 32), g < n → View.ld (Val := Elt F) (e' := .bf16) P (slot g hg) = f g hg

theorem Holds.put {P P' : Vec F S32x256x1024 .bf16} {f : (g : ℕ) → g < 32 → Vec F S1x256x1024 .bf16} {n : ℕ} (hn : n < 32)
    (h : Holds P f n) (hP : IsPut P (slot n hn) (f n hn) P') : Holds P' f (n + 1) := by
  intro g hg hlt
  by_cases hgn : g = n
  · subst hgn
    funext x
    exact hP.1 x
  · rw [← h g hg (by omega)]
    funext x
    exact hP.2 _ (slot_ne hg hn hgn x)

theorem wp_passA (K : Vec F S1x1x16384x208 .bf16) (q : Vec F S208x1024 .bf16) (t : Fin k0_t1_loop.trips)
    {α : Type} (Q : α → sProp 𝕄) (n : ℕ) (h : n ≤ 32) :
    ∀ (P : Vec F S32x256x1024 .bf16) (k : FVec F S1x1024 .f32 → Prog (TpuEff nD τ sig (Elt F) Λ₀ .tc) α),
    iprop(own c arg4 K ∗ own c arg7 q ∗ own c arg9 P)
      ⊢ iprop((∀ P', ⌜Holds P' (probA K t q) n⌝ -∗ own c arg4 K -∗ own c arg7 q
          -∗ own c arg9 P' -∗ wpk c (k (cmOf K q t n h)) Q)
        -∗ wpk c ((passA (F := F) arg4 arg7 arg9 harg9 t n h).bind k) Q) := by
  induction n with
  | zero =>
    intro P k
    iintro ⟨HK, HQ, HP⟩ Hk
    simp only [passA, Pure.pure, Prog.bind]
    iapply Hk $$ [] HK HQ HP
    ipureintro
    intro g hg hlt
    exact absurd hlt (Nat.not_lt_zero _)
  | succ n ih =>
    intro P k
    simp only [passA, Bind.bind, bind_bind]
    iintro ⟨HK, HQ, HP⟩ Hk
    iapply (ih (Nat.le_of_succ_le h) P _) $$ [HK HQ HP]
    · isplitl [HK]; · iexact HK
      isplitl [HQ]; · iexact HQ
      iexact HP
    iintro %P1 %h1 HK HQ HP
    iapply (wp_one c arg4 arg7 arg9 harg9 K q P1 (offA t n) (offA_inb t n h) n h _ Q) $$ [HK HQ HP]
    · isplitl [HK]; · iexact HK
      isplitl [HQ]; · iexact HQ
      iexact HP
    iintro %P2 %h2 HK HQ HP
    simp only [Pure.pure, Prog.bind]
    iapply Hk $$ [] HK HQ HP
    ipureintro
    exact h1.put h h2

theorem wp_passB (K : Vec F S1x1x16384x208 .bf16) (q : Vec F S208x1024 .bf16) (t : Fin k0_t1_loop.trips)
    {α : Type} (Q : α → sProp 𝕄) (n : ℕ) (h : n ≤ 32) :
    ∀ (P : Vec F S32x256x1024 .bf16) (k : PUnit → Prog (TpuEff nD τ sig (Elt F) Λ₀ .tc) α),
    iprop(own c arg4 K ∗ own c arg7 q ∗ own c arg9 P)
      ⊢ iprop((∀ P', ⌜Holds P' (probB K t q) n⌝ -∗ own c arg4 K -∗ own c arg7 q
          -∗ own c arg9 P' -∗ wpk c (k ⟨⟩) Q)
        -∗ wpk c ((passB (F := F) arg4 arg7 arg9 harg9 t n h).bind k) Q) := by
  induction n with
  | zero =>
    intro P k
    iintro ⟨HK, HQ, HP⟩ Hk
    simp only [passB, Pure.pure, Prog.bind]
    iapply Hk $$ [] HK HQ HP
    ipureintro
    intro g hg hlt
    exact absurd hlt (Nat.not_lt_zero _)
  | succ n ih =>
    intro P k
    simp only [passB, Bind.bind, bind_bind]
    iintro ⟨HK, HQ, HP⟩ Hk
    iapply (ih (Nat.le_of_succ_le h) P _) $$ [HK HQ HP]
    · isplitl [HK]; · iexact HK
      isplitl [HQ]; · iexact HQ
      iexact HP
    iintro %P1 %h1 HK HQ HP
    iapply (wp_one c arg4 arg7 arg9 harg9 K q P1 (offB t n) (offB_inb t n h) n h _ Q) $$ [HK HQ HP]
    · isplitl [HK]; · iexact HK
      isplitl [HQ]; · iexact HQ
      iexact HP
    iintro %P2 %h2 HK HQ HP
    simp only [Pure.pure, Prog.bind]
    iapply Hk $$ [] HK HQ HP
    ipureintro
    exact h1.put h h2

theorem wp_move (v6 : IVec S16x1024 32) (cm : FVec F S1x1024 .f32) (x : St F)
    {α : Type} (k : PUnit → Prog (TpuEff nD τ sig (Elt F) Λ₀ .tc) α) (Q : α → sProp 𝕄) :
    iprop(own c arg7 x.q ∗ own c arg8 x.r ∗ own c arg10 x.acc)
      ⊢ iprop((own c arg7 (moved v6 cm x).q -∗ own c arg8 (moved v6 cm x).r -∗ own c arg10 (moved v6 cm x).acc
          -∗ wpk c (k ⟨⟩) Q)
        -∗ wpk c ((move (F := F) arg7 harg7 arg8 arg10 v6 cm).bind k) Q) := by
  unfold move
  simp only [Prog.lift, Bind.bind, Pure.pure, Prog.bind]
  iintro ⟨H7, H8, H10⟩ Hk
  iapply (wp_load_owns (defs := defs₀ (F := F)) Variants.none (c : Thread nD τ) none Set.univ (m := arg8)) $$ H8
  iintro H8
  iapply (wp_load_owns (defs := defs₀ (F := F)) Variants.none (c : Thread nD τ) none Set.univ (m := arg10)) $$ H10
  iintro H10
  iapply (wp_load_owns (defs := defs₀ (F := F)) Variants.none (c : Thread nD τ) none Set.univ (m := arg10)) $$ H10
  iintro H10
  iapply (wp_store_owns (defs := defs₀ (F := F)) Variants.none (c : Thread nD τ) none Set.univ (m := arg10)) $$ H10
  iintro %A %hA H10
  iapply (wp_load_owns (defs := defs₀ (F := F)) Variants.none (c : Thread nD τ) none Set.univ (m := arg8)) $$ H8
  iintro H8
  iapply (wp_store_owns (defs := defs₀ (F := F)) Variants.none (c : Thread nD τ) none Set.univ (m := arg8)) $$ H8
  iintro %R %hR H8
  iapply (wp_load_owns (defs := defs₀ (F := F)) Variants.none (c : Thread nD τ) none Set.univ (m := arg7)) $$ H7
  iintro H7
  iapply (wp_store_owns (defs := defs₀ (F := F)) Variants.none (c : Thread nD τ) none Set.univ (m := arg7)) $$ H7
  iintro %X %hX H7
  have hr : View.ld (Val := Elt F) (e' := .f32) x.r (Rect.unit (s := S1x1024) ![0, 0] S1x1024.size inb_S1x1024_S1x1024_0_0) = x.r :=
    ld_whole x.r _
  have ha : View.ld (Val := Elt F) (e' := .f32) x.acc (Rect.unit (s := S144x1024) ![0, 0] S144x1024.size inb_S144x1024_S144x1024_0_0) = x.acc :=
    ld_whole x.acc _
  rw [hr] at hA hR hX
  rw [ha] at hA
  obtain rfl := isPut_whole _ _ _ _ hA
  obtain rfl := isPut_whole _ _ _ _ hR
  obtain rfl := put_pad _ _ _ hX
  iapply Hk $$ H7 H8 H10

theorem wp_accRead (V : Vec F S1x1x64x128x256 .bf16) (v5 : FVec F S16x256 .bf16) (t : Fin k0_t1_loop.trips)
    (P : Vec F S32x256x1024 .bf16) (acc : Vec F S144x1024 .f32) (g : ℕ) (hg : g < 32)
    {α : Type} (k : FVec F S144x1024 .f32 → Prog (TpuEff nD τ sig (Elt F) Λ₀ .tc) α) (Q : α → sProp 𝕄) :
    iprop(own c arg5 V ∗ own c arg9 P ∗ own c arg10 acc)
      ⊢ iprop((own c arg5 V -∗ own c arg9 P -∗ own c arg10 acc
          -∗ wpk c (k (k0_pay130 v5 (valsAt V (offV t g) (offV_inb t g hg)) acc (View.ld (Val := Elt F) (e' := .bf16) P (slot g hg)))) Q)
        -∗ wpk c ((accRead (F := F) arg5 arg9 arg10 v5 t g hg).bind k) Q) := by
  unfold accRead
  simp only [Prog.lift, Bind.bind, Pure.pure, Prog.bind]
  iintro ⟨H5, H9, H10⟩ Hk
  iapply (wp_load_owns (defs := defs₀ (F := F)) Variants.none (c : Thread nD τ) none Set.univ (m := arg5)) $$ H5
  iintro H5
  iapply (wp_load_owns (defs := defs₀ (F := F)) Variants.none (c : Thread nD τ) none Set.univ (m := arg10)) $$ H10
  iintro H10
  iapply (wp_load_owns (defs := defs₀ (F := F)) Variants.none (c : Thread nD τ) none Set.univ (m := arg9)) $$ H9
  iintro H9
  have ha : View.ld (Val := Elt F) (e' := .f32) acc (Rect.unit (s := S144x1024) ![0, 0] S144x1024.size inb_S144x1024_S144x1024_0_0) = acc :=
    ld_whole acc _
  rw [ha]
  iapply Hk $$ H5 H9 H10

theorem wp_accWrite (w : FVec F S144x1024 .f32) (acc : Vec F S144x1024 .f32)
    {α : Type} (k : PUnit → Prog (TpuEff nD τ sig (Elt F) Λ₀ .tc) α) (Q : α → sProp 𝕄) :
    own c arg10 acc
      ⊢ iprop((own c arg10 (k0_pay131 w) -∗ wpk c (k ⟨⟩) Q) -∗ wpk c ((accWrite (F := F) arg10 w).bind k) Q) := by
  unfold accWrite
  simp only [Prog.lift, Bind.bind, Pure.pure, Prog.bind]
  iintro H10 Hk
  iapply (wp_load_owns (defs := defs₀ (F := F)) Variants.none (c : Thread nD τ) none Set.univ (m := arg10)) $$ H10
  iintro H10
  iapply (wp_store_owns (defs := defs₀ (F := F)) Variants.none (c : Thread nD τ) none Set.univ (m := arg10)) $$ H10
  iintro %A %hA H10
  obtain rfl := isPut_whole _ _ _ _ hA
  iapply Hk $$ H10

theorem wp_accs (V : Vec F S1x1x64x128x256 .bf16) (v5 : FVec F S16x256 .bf16) (t : Fin k0_t1_loop.trips)
    (P : Vec F S32x256x1024 .bf16) (f : (g : ℕ) → g < 32 → Vec F S1x256x1024 .bf16) (hP : Holds P f 32)
    (acc : Vec F S144x1024 .f32) {α : Type} (Q : α → sProp 𝕄) (n : ℕ) (h : n < 32) :
    ∀ (k : PUnit → Prog (TpuEff nD τ sig (Elt F) Λ₀ .tc) α),
    iprop(own c arg5 V ∗ own c arg9 P ∗ own c arg10 (accOf V v5 t f acc 1 (by decide)))
      ⊢ iprop((own c arg5 V -∗ own c arg9 P -∗ own c arg10 (accOf V v5 t f acc (n + 1) h) -∗ wpk c (k ⟨⟩) Q)
        -∗ wpk c ((accs (F := F) arg5 arg9 arg10 v5 t n h).bind k) Q) := by
  induction n with
  | zero =>
    intro k
    iintro ⟨H5, H9, H10⟩ Hk
    simp only [accs, Pure.pure, Prog.bind]
    iapply Hk $$ H5 H9 H10
  | succ n ih =>
    intro k
    simp only [accs, Bind.bind, bind_bind]
    iintro ⟨H5, H9, H10⟩ Hk
    iapply (ih (Nat.lt_of_succ_lt h) _) $$ [H5 H9 H10]
    · isplitl [H5]; · iexact H5
      isplitl [H9]; · iexact H9
      iexact H10
    iintro H5 H9 H10
    iapply (wp_accRead c arg5 arg9 arg10 V v5 t P (accOf V v5 t f acc (n + 1) (Nat.lt_of_succ_lt h)) (n + 1) h _ Q) $$ [H5 H9 H10]
    · isplitl [H5]; · iexact H5
      isplitl [H9]; · iexact H9
      iexact H10
    iintro H5 H9 H10
    iapply (wp_accWrite c arg10 _ (accOf V v5 t f acc (n + 1) (Nat.lt_of_succ_lt h)) _ Q) $$ H10
    rw [hP (n + 1) h h, accOf_succ]
    iintro H10
    iapply Hk $$ H5 H9 H10

attribute [local irreducible] passA passB accs accOf cmOf

/-- One trip, run. -/
theorem wp_trip (K : Vec F S1x1x16384x208 .bf16) (V : Vec F S1x1x64x128x256 .bf16) (v5 : FVec F S16x256 .bf16)
    (v6 : IVec S16x1024 32) (t : Fin k0_t1_loop.trips) (x : St F) (P : Vec F S32x256x1024 .bf16) (Q : Unit → sProp 𝕄) :
    iprop(own c arg4 K ∗ own c arg5 V ∗ own c arg7 x.q ∗ own c arg8 x.r ∗ own c arg9 P ∗ own c arg10 x.acc)
      ⊢ iprop((own c arg4 K -∗ own c arg5 V -∗ own c arg7 (tripOf K V v5 v6 t x).q -∗ own c arg8 (tripOf K V v5 v6 t x).r
          -∗ (∃ P', own c arg9 P') -∗ own c arg10 (tripOf K V v5 v6 t x).acc -∗ Q ())
        -∗ wpk c (trip (F := F) arg4 arg5 arg7 harg7 arg8 arg9 harg9 arg10 v5 v6 t) Q) := by
  have e : trip (F := F) arg4 arg5 arg7 harg7 arg8 arg9 harg9 arg10 v5 v6 t
      = (trip (F := F) arg4 arg5 arg7 harg7 arg8 arg9 harg9 arg10 v5 v6 t).bind Prog.ret := (bind_pure (m := Prog _) _).symm
  rw [e]
  unfold trip
  simp only [Bind.bind, bind_bind]
  iintro ⟨H4, H5, H7, H8, H9, H10⟩ Hk
  iapply (wp_passA c arg4 arg7 arg9 harg9 K x.q t Q 32 le_rfl P _) $$ [H4 H7 H9]
  · isplitl [H4]; · iexact H4
    isplitl [H7]; · iexact H7
    iexact H9
  iintro %P1 %h1 H4 H7 H9
  unfold middle tripOf
  split
  · simp only [Bind.bind, bind_bind]
    iapply (wp_move c arg7 harg7 arg8 arg10 v6 (cmOf K x.q t 32 le_rfl) x _ Q) $$ [H7 H8 H10]
    · isplitl [H7]; · iexact H7
      isplitl [H8]; · iexact H8
      iexact H10
    iintro H7 H8 H10
    iapply (wp_passB c arg4 arg7 arg9 harg9 K (moved v6 (cmOf K x.q t 32 le_rfl) x).q t Q 32 le_rfl P1 _) $$ [H4 H7 H9]
    · isplitl [H4]; · iexact H4
      isplitl [H7]; · iexact H7
      iexact H9
    iintro %P2 %h2 H4 H7 H9
    iapply (wp_accRead c arg5 arg9 arg10 V v5 t P2 (moved v6 (cmOf K x.q t 32 le_rfl) x).acc 0 (Nat.zero_lt_succ 31) _ Q) $$ [H5 H9 H10]
    · isplitl [H5]; · iexact H5
      isplitl [H9]; · iexact H9
      iexact H10
    iintro H5 H9 H10
    iapply (wp_accWrite c arg10 _ (moved v6 (cmOf K x.q t 32 le_rfl) x).acc _ Q) $$ H10
    rw [h2 0 (by decide) (by decide), accOf_one]
    iintro H10
    iapply (wp_accs c arg5 arg9 arg10 V v5 t P2 _ h2 (moved v6 (cmOf K x.q t 32 le_rfl) x).acc Q 31 (Nat.lt_succ_self 31) _) $$ [H5 H9 H10]
    · isplitl [H5]; · iexact H5
      isplitl [H9]; · iexact H9
      iexact H10
    iintro H5 H9 H10
    iapply (le_wp_ret _ _ _ _ _)
    iapply Hk $$ H4 H5 H7 H8 [H9] H10
    iexists P2
    iexact H9
  · iapply (wp_accRead c arg5 arg9 arg10 V v5 t P1 x.acc 0 (Nat.zero_lt_succ 31) _ Q) $$ [H5 H9 H10]
    · isplitl [H5]; · iexact H5
      isplitl [H9]; · iexact H9
      iexact H10
    iintro H5 H9 H10
    iapply (wp_accWrite c arg10 _ x.acc _ Q) $$ H10
    rw [h1 0 (by decide) (by decide), accOf_one]
    iintro H10
    iapply (wp_accs c arg5 arg9 arg10 V v5 t P1 _ h1 x.acc Q 31 (Nat.lt_succ_self 31) _) $$ [H5 H9 H10]
    · isplitl [H5]; · iexact H5
      isplitl [H9]; · iexact H9
      iexact H10
    iintro H5 H9 H10
    iapply (le_wp_ret _ _ _ _ _)
    iapply Hk $$ H4 H5 H7 H8 [H9] H10
    iexists P1
    iexact H9

end Cert.KernelIdeal.Run
-- ==== Proof.FrameIdeal.lean ====
/- The body at one grid point, then the launch: what the run leaves in the result, and that its arguments are left alone. -/
module

public import proofs.«01_k».proof.Proof.RunIdeal
public import proofs.«01_k».proof.Proof.Gen.KernelIdeal.Launch
public import proofs.«01_k».proof.Proof.Gen.KernelIdeal.Points
public import proofs.«01_k».proof.Proof.Gen.KernelIdeal.Frame
public import Idealize.ShloMosaic.Adequacy
public import Idealize.ShloMosaic.Init

@[expose] public section

set_option maxRecDepth 16384

noncomputable section

namespace Cert.KernelIdeal.Run

open Cert.KernelIdeal Cert.KernelIdeal.Gen Cert.Attn
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

/-! ## What the body computes -/

/-- Queries over pad rows. -/
def stack (a : Vec F S192x1024 .bf16) (w : Vec F S16x1024 .bf16) : Vec F S208x1024 .bf16 := fun y =>
  if h : 192 ≤ (y 0).val then
    w (ix2 (⟨(y 0).val - 192, Nat.sub_lt_left_of_lt_add h (y 0).isLt⟩ : Fin 16) (y 1 : Fin 1024))
  else a (ix2 (⟨(y 0).val, Nat.lt_of_not_le h⟩ : Fin 192) (y 1 : Fin 1024))

theorem put_stack (X X₁ X₂ : Vec F S208x1024 .bf16) (a : Vec F S192x1024 .bf16) (w : Vec F S16x1024 .bf16)
    (h₁ : IsPut X (Rect.unit (s := S208x1024) ![0, 0] S192x1024.size inb_S208x1024_S192x1024_0_0) a X₁)
    (h₂ : IsPut X₁ (Rect.unit (s := S208x1024) ![192, 0] S16x1024.size inb_S208x1024_S16x1024_192_0) w X₂) :
    X₂ = stack a w := by
  rw [put_pad X₁ X₂ w h₂]
  funext y
  unfold setPad stack
  split
  · rfl
  · rename_i hy
    rw [← h₁.1]
    congr 1
    funext b
    refine Fin.ext ?_
    rw [Rect.emb_apply]
    fin_cases b
    · show (y 0).val = 0 + 1 * (y 0).val
      omega
    · show (y 1).val = 0 + 1 * (y 1).val
      omega

/-- The row numbers of the pad rows. -/
def rows16 : IVec S16x1024 32 := iota .tc S16x1024 32 [0] iota_S16x1024_d0_w32

/-- The first sub-block of keys. -/
def keys0 (K : Vec F S1x1x16384x208 .bf16) : Vec F S1x1x256x208 .bf16 :=
  keysAt K ![0, 0, 0, 0] inb_S1x1x16384x208_S1x1x256x208_0_0_0_0

/-- The queries with pad rows that make every relative score the score. -/
def q0Of (q : Vec F S1x1x192x1024 .bf16) : Vec F S208x1024 .bf16 := stack (k0_pay174 q) (k0_pay177 (F := F))

/-- The small buffers before the first trip. -/
def startOf (q : Vec F S1x1x192x1024 .bf16) (K : Vec F S1x1x16384x208 .bf16) : St F :=
  ⟨setPad (q0Of q) (k0_pay181 rows16 (keys0 K) (q0Of q)), k0_pay180 (keys0 K) (q0Of q), k0_pay178 (F := F)⟩

/-- The small buffers after `n` trips. -/
def stOf (q : Vec F S1x1x192x1024 .bf16) (K : Vec F S1x1x16384x208 .bf16) (V : Vec F S1x1x64x128x256 .bf16) : ℕ → St F
  | 0 => startOf q K
  | n + 1 => if h : n < k0_t1_loop.trips then tripOf K V (k0_pay173 (F := F)) rows16 ⟨n, h⟩ (stOf q K V n)
      else stOf q K V n

/-- The block of the result. -/
def outOf (q : Vec F S1x1x192x1024 .bf16) (K : Vec F S1x1x16384x208 .bf16) (V : Vec F S1x1x64x128x256 .bf16) :
    Vec F S1x1024x128 .bf16 := k0_pay183 (stOf q K V k0_t1_loop.trips).acc

/-! ## The body, run -/

section Body

variable (c : Dev nD) (i : grid0.Coords)
  (arg3 : Memref sig .tc .vmem S1x1x192x1024 .bf16) (harg3 : arg3.IsWhole)
  (arg4 : Memref sig .tc .vmem S1x1x16384x208 .bf16) (harg4 : arg4.IsWhole)
  (arg5 : Memref sig .tc .vmem S1x1x64x128x256 .bf16) (harg5 : arg5.IsWhole)
  (arg6 : Memref sig .tc .vmem S1x1024x128 .bf16) (harg6 : arg6.IsWhole)
  (arg7 : Memref sig .tc .vmem S208x1024 .bf16) (harg7 : arg7.IsWhole)
  (arg8 : Memref sig .tc .vmem S1x1024 .f32) (harg8 : arg8.IsWhole)
  (arg9 : Memref sig .tc .vmem S32x256x1024 .bf16) (harg9 : arg9.IsWhole)
  (arg10 : Memref sig .tc .vmem S144x1024 .f32) (harg10 : arg10.IsWhole)

/-- The buffers a trip works on, before trip `n`. -/
def tripInv (q : Vec F S1x1x192x1024 .bf16) (K : Vec F S1x1x16384x208 .bf16) (V : Vec F S1x1x64x128x256 .bf16)
    (n : ℕ) (_ : Unit) : sProp 𝕄 :=
  iprop(own c arg4 K ∗ own c arg5 V ∗ own c arg7 (stOf q K V n).q ∗ own c arg8 (stOf q K V n).r
    ∗ (∃ P, own c arg9 P) ∗ own c arg10 (stOf q K V n).acc)

theorem stOf_succ (q : Vec F S1x1x192x1024 .bf16) (K : Vec F S1x1x16384x208 .bf16) (V : Vec F S1x1x64x128x256 .bf16)
    (t : Fin k0_t1_loop.trips) :
    stOf q K V (t.val + 1) = tripOf K V (k0_pay173 (F := F)) rows16 t (stOf q K V t.val) := by
  rw [stOf, dif_pos t.isLt]

attribute [local irreducible] tripOf k0_t1_body trip

theorem tripInv_step (q : Vec F S1x1x192x1024 .bf16) (K : Vec F S1x1x16384x208 .bf16) (V : Vec F S1x1x64x128x256 .bf16)
    (t : Fin k0_t1_loop.trips) (u : Unit) :
    tripInv c arg4 arg5 arg7 arg8 arg9 arg10 q K V t.val u
      ⊢ wpk c (k0_t1_body i arg3 harg3 arg4 harg4 arg5 harg5 arg6 harg6 arg7 harg7 arg8 harg8 arg9 harg9 arg10 harg10
          (k0_pay173 (F := F)) rows16 0#32 t u) (tripInv c arg4 arg5 arg7 arg8 arg9 arg10 q K V (t.val + 1)) := by
  have e := stOf_succ q K V t
  rw [body_eq arg4 arg5 arg7 harg7 arg8 arg9 harg9 arg10 i arg3 harg3 harg4 harg5 arg6 harg6 harg8 harg10 _ _ t _]
  unfold tripInv
  rw [e]
  iintro ⟨H4, H5, H7, H8, ⟨%P, H9⟩, H10⟩
  iapply (wp_trip c arg4 arg5 arg7 harg7 arg8 arg9 harg9 arg10 K V (k0_pay173 (F := F)) rows16 t (stOf q K V t.val) P _)
    $$ [H4 H5 H7 H8 H9 H10]
  · isplitl [H4]; · iexact H4
    isplitl [H5]; · iexact H5
    isplitl [H7]; · iexact H7
    isplitl [H8]; · iexact H8
    isplitl [H9]; · iexact H9
    iexact H10
  iintro H4 H5 H7 H8 H9 H10
  isplitl [H4]; · iexact H4
  isplitl [H5]; · iexact H5
  isplitl [H7]; · iexact H7
  isplitl [H8]; · iexact H8
  isplitl [H9]; · iexact H9
  iexact H10

/-- The body, run: its block of the result is `outOf` the blocks it is given. -/
theorem wp_body (q : Vec F S1x1x192x1024 .bf16) (K : Vec F S1x1x16384x208 .bf16) (V : Vec F S1x1x64x128x256 .bf16)
    (O : Vec F S1x1024x128 .bf16) (X : Vec F S208x1024 .bf16) (R : Vec F S1x1024 .f32) (P : Vec F S32x256x1024 .bf16)
    (A : Vec F S144x1024 .f32) (Q : PUnit → sProp 𝕄) :
    iprop(own c arg3 q ∗ own c arg4 K ∗ own c arg5 V ∗ own c arg6 O ∗ own c arg7 X ∗ own c arg8 R ∗ own c arg9 P
        ∗ own c arg10 A)
      ⊢ iprop((own c arg3 q -∗ own c arg4 K -∗ own c arg5 V -∗ own c arg6 (outOf q K V) -∗ (∃ X, own c arg7 X)
          -∗ (∃ R, own c arg8 R) -∗ (∃ P, own c arg9 P) -∗ (∃ A, own c arg10 A) -∗ Q ⟨⟩)
        -∗ wpk c (cc0_mla_attention (F := F) i arg3 harg3 arg4 harg4 arg5 harg5 arg6 harg6 arg7 harg7 arg8 harg8 arg9 harg9
            arg10 harg10) Q) := by
  rw [cc0_mla_attention_eq_skeleton]
  simp only [cc0_mla_attention_skel, k0_part45_eq_skeleton, k0_part45_skel, k0_part46_eq_skeleton, k0_part46_skel,
    Prog.lift, Bind.bind, Pure.pure, Prog.bind, bind_bind]
  iintro ⟨H3, H4, H5, H6, H7, H8, H9, H10⟩ Hk
  iapply (wp_load_owns (defs := defs₀ (F := F)) Variants.none (c : Thread nD τ) none Set.univ (m := arg3)) $$ H3
  iintro H3
  iapply (wp_load_owns (defs := defs₀ (F := F)) Variants.none (c : Thread nD τ) none Set.univ (m := arg7)) $$ H7
  iintro H7
  iapply (wp_store_owns (defs := defs₀ (F := F)) Variants.none (c : Thread nD τ) none Set.univ (m := arg7)) $$ H7
  iintro %X1 %hX1 H7
  iapply (wp_load_owns (defs := defs₀ (F := F)) Variants.none (c : Thread nD τ) none Set.univ (m := arg8)) $$ H8
  iintro H8
  iapply (wp_store_owns (defs := defs₀ (F := F)) Variants.none (c : Thread nD τ) none Set.univ (m := arg8)) $$ H8
  iintro %R1 %hR1 H8
  iapply (wp_load_owns (defs := defs₀ (F := F)) Variants.none (c : Thread nD τ) none Set.univ (m := arg7)) $$ H7
  iintro H7
  iapply (wp_store_owns (defs := defs₀ (F := F)) Variants.none (c : Thread nD τ) none Set.univ (m := arg7)) $$ H7
  iintro %X2 %hX2 H7
  iapply (wp_load_owns (defs := defs₀ (F := F)) Variants.none (c : Thread nD τ) none Set.univ (m := arg10)) $$ H10
  iintro H10
  iapply (wp_store_owns (defs := defs₀ (F := F)) Variants.none (c : Thread nD τ) none Set.univ (m := arg10)) $$ H10
  iintro %A1 %hA1 H10
  iapply (wp_load_owns (defs := defs₀ (F := F)) Variants.none (c : Thread nD τ) none Set.univ (m := arg4)) $$ H4
  iintro H4
  iapply (wp_load_owns (defs := defs₀ (F := F)) Variants.none (c : Thread nD τ) none Set.univ (m := arg7)) $$ H7
  iintro H7
  iapply (wp_load_owns (defs := defs₀ (F := F)) Variants.none (c : Thread nD τ) none Set.univ (m := arg8)) $$ H8
  iintro H8
  iapply (wp_store_owns (defs := defs₀ (F := F)) Variants.none (c : Thread nD τ) none Set.univ (m := arg8)) $$ H8
  iintro %R2 %hR2 H8
  iapply (wp_load_owns (defs := defs₀ (F := F)) Variants.none (c : Thread nD τ) none Set.univ (m := arg7)) $$ H7
  iintro H7
  iapply (wp_store_owns (defs := defs₀ (F := F)) Variants.none (c : Thread nD τ) none Set.univ (m := arg7)) $$ H7
  iintro %X3 %hX3 H7
  have hq : View.ld (Val := Elt F) (e' := .bf16) q (Rect.unit (s := S1x1x192x1024) ![0, 0, 0, 0] S1x1x192x1024.size inb_S1x1x192x1024_S1x1x192x1024_0_0_0_0) = q :=
    ld_whole4 q _
  rw [hq] at hX1
  have h2 : X2 = q0Of q := put_stack _ _ _ _ _ hX1 hX2
  subst h2
  have hx : View.ld (Val := Elt F) (e' := .bf16) (q0Of q) (Rect.unit (s := S208x1024) ![0, 0] S208x1024.size inb_S208x1024_S208x1024_0_0) = q0Of q :=
    ld_whole (q0Of q) _
  rw [hx] at hR2 hX3
  obtain rfl := isPut_whole _ _ _ _ hA1
  obtain rfl := isPut_whole _ _ _ _ hR2
  obtain rfl := put_pad _ _ _ hX3
  iapply (Scf.wp_for_bind frame (wpE (defs₀ (F := F)) Variants.none (c : Thread nD τ) none) Set.univ _ _ _ _ _ _
    (tripInv c arg4 arg5 arg7 arg8 arg9 arg10 q K V)
    (fun t u => tripInv_step c i arg3 harg3 arg4 harg4 arg5 harg5 arg6 harg6 arg7 harg7 arg8 harg8 arg9 harg9 arg10 harg10 q K V t u))
    $$ [H4 H5 H7 H8 H9 H10]
  · unfold tripInv
    isplitl [H4]; · iexact H4
    isplitl [H5]; · iexact H5
    isplitl [H7]; · iexact H7
    isplitl [H8]; · iexact H8
    isplitl [H9]; · iexists P; iexact H9
    iexact H10
  iintro %u HI
  unfold tripInv
  icases HI with ⟨H4, H5, H7, H8, H9, H10⟩
  iapply (wp_load_owns (defs := defs₀ (F := F)) Variants.none (c : Thread nD τ) none Set.univ (m := arg10)) $$ H10
  iintro H10
  iapply (wp_load_owns (defs := defs₀ (F := F)) Variants.none (c : Thread nD τ) none Set.univ (m := arg6)) $$ H6
  iintro H6
  iapply (wp_store_owns (defs := defs₀ (F := F)) Variants.none (c : Thread nD τ) none Set.univ (m := arg6)) $$ H6
  iintro %O' %hO H6
  iapply (le_wp_ret _ _ _ _ _)
  have ha : View.ld (Val := Elt F) (e' := .f32) (stOf q K V k0_t1_loop.trips).acc (Rect.unit (s := S144x1024) ![0, 0] S144x1024.size inb_S144x1024_S144x1024_0_0) = (stOf q K V k0_t1_loop.trips).acc :=
    ld_whole _ _
  have hO2 : O' = outOf q K V := by
    have := isPut_whole3 _ _ _ _ hO
    rw [this]
    unfold outOf
    exact congrArg (k0_pay183 (F := F)) ha
  subst hO2
  iapply Hk $$ H3 H4 H5 H6 [H7] [H8] H9 [H10]
  · iexists _; iexact H7
  · iexists _; iexact H8
  · iexists _; iexact H10

end Body

/-! ## The launch -/

variable (m : (ℓ : Loc nD τ sig) → Buf (Elt F) ℓ) (ρ : Dev nD → PrngReg)

/-- What a grid point's body leaves: the three inputs as they are, and the result's block computed of them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outOf (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) :
    (dats m 0 c).after 3 t = outOf (iblk m c 0 t) (iblk m c 1 t) (iblk m c 2 t) := by dsimp only [dats]

/-- A window's current buffer. -/
abbrev stg (w : Fin 4) (t : Fin cfg0.N) := (cfg0.win w).stage (cfg0.slots t w)

def bodyPre (c : Dev nD) (t : Fin cfg0.N) : sProp 𝕄 :=
  iprop((dats m 0 c).Φ t.castSucc ∗ (dats m 0 c).owesAt () t.castSucc
    ∗ (∃ d, owns (c : Thread nD τ) (stg 0 t) fullShare ((dats m 0 c).before 0 t d))
    ∗ (∃ d, owns (c : Thread nD τ) (stg 1 t) fullShare ((dats m 0 c).before 1 t d))
    ∗ (∃ d, owns (c : Thread nD τ) (stg 2 t) fullShare ((dats m 0 c).before 2 t d))
    ∗ (∃ d, owns (c : Thread nD τ) (stg 3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (stg 0 t) fullShare ((dats m 0 c).after 0 t)
    ∗ owns (c : Thread nD τ) (stg 1 t) fullShare ((dats m 0 c).after 1 t)
    ∗ owns (c : Thread nD τ) (stg 2 t) fullShare ((dats m 0 c).after 2 t)
    ∗ owns (c : Thread nD τ) (stg 3 t) fullShare ((dats m 0 c).after 3 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0_of m (dats m 0 c) (A_eq m c 0) (after_0 m c) t, before0_1_of m (dats m 0 c) (A_eq m c 1) (after_1 m c) t,
    before0_2_of m (dats m 0 c) (A_eq m c 2) (after_2 m c) t, after_0, after_1, after_2, after_3]
  rw [show (dats m 0 c).Φ t.succ = Pipeline.ΦA spec0 c from rfl,
    show (dats m 0 c).Φ t.castSucc = Pipeline.ΦA spec0 c from rfl]
  unfold Pipeline.ΦA
  rw [scopedRest0_eq]
  unfold Dat.owesAt Pipeline.owesWithin
  rw [show (dats m 0 c).owed t.castSucc = 0 from rfl, show (dats m 0 c).owed t.succ = 0 from rfl]
  iintro ⟨⟨⟨⟨%x0, S0⟩, ⟨%x1, S1⟩, ⟨%x2, S2⟩, ⟨%x3, S3⟩⟩, Hg⟩, HW, ⟨%d0, H0⟩, ⟨%d1, H1⟩, ⟨%d2, H2⟩, ⟨%d3, H3⟩⟩
  iapply (wp_body c (grid0.coords t) _ _ _ _ _ _ _ _ _ _ _ _ _ _ _ _ (iblk m c 0 t) (iblk m c 1 t) (iblk m c 2 t)
    ((dats m 0 c).before 3 t d3) x0 x1 x2 x3 _) $$ [H0 H1 H2 H3 S0 S1 S2 S3]
  · isplitl [H0]; · iexact H0
    isplitl [H1]; · iexact H1
    isplitl [H2]; · iexact H2
    isplitl [H3]; · iexact H3
    simp only [own, owns_whole]
    isplitl [S0]; · iexact S0
    isplitl [S1]; · iexact S1
    isplitl [S2]; · iexact S2
    iexact S3
  simp only [own, owns_whole]
  iintro H0 H1 H2 H3 S0 S1 S2 S3
  isplitl [S0 S1 S2 S3 Hg]
  · isplitl [S0 S1 S2 S3]
    · isplitl [S0]; · iexact S0
      isplitl [S1]; · iexact S1
      isplitl [S2]; · iexact S2
      iexact S3
    iexact Hg
  isplitl [HW]; · iexact HW
  isplitl [H0]; · iexact H0
  isplitl [H1]; · iexact H1
  isplitl [H2]; · iexact H2
  iexact H3

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
theorem run_main : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => ⟨((h.1 c).1 0).trans (((dats m 0 c).arrAt_in 0 rfl _).trans ((A_eq m c 0).trans (V_main_arg0 m c))),
      ((h.1 c).1 1).trans (((dats m 0 c).arrAt_in 1 rfl _).trans ((A_eq m c 1).trans (V_main_arg1 m c))),
      ((h.1 c).1 2).trans (((dats m 0 c).arrAt_in 2 rfl _).trans ((A_eq m c 2).trans (V_main_arg2 m c)))⟩, h.2⟩) (run_main m ρ)

end Cert.KernelIdeal.Run
-- ==== Proof.Softmax.lean ====
/- The mathematics of the attention: a weighted mean of extended reals whose weights are powers of two of real scores,
   normalized by their sum. A common factor of the weights does not change it, whether it comes from the running reference
   of the kernel or from the maximum the softmax subtracts. -/
module

public import Idealize.ShloMosaic.PureOps.Ideal
public import Idealize.ShloMosaic.PureOps.Ideal.Laws
public import Mathlib.Analysis.SpecialFunctions.Pow.Real

@[expose] public section

noncomputable section

namespace Cert.Attn

open Idealize.ShloMosaic

/-- An extended real that is a real. -/
def IsReal (x : EReal) : Prop := ∃ r : ℝ, x = (r : EReal)

theorem isReal_max {x y : EReal} (hx : IsReal x) (hy : IsReal y) : IsReal (max x y) := by
  obtain ⟨a, rfl⟩ := hx
  obtain ⟨b, rfl⟩ := hy
  rcases max_choice (a : EReal) (b : EReal) with h | h <;> rw [h]
  · exact ⟨a, rfl⟩
  · exact ⟨b, rfl⟩

/-- The maximum, from −∞, of a nonempty family of reals is a real. -/
theorem isReal_fold_max {ι : Type} (s : Finset ι) (v : ι → EReal) (hv : ∀ i, IsReal (v i)) (hs : s.Nonempty) :
    IsReal (s.fold max ⊥ v) := by
  classical
  induction hs using Finset.Nonempty.cons_induction with
  | singleton a => rw [Finset.fold_singleton, max_bot_right]; exact hv a
  | cons a s ha _ ih => rw [Finset.fold_cons]; exact isReal_max (hv a) ih

/-- A sum of reals, as an extended real. -/
theorem coe_sum {ι : Type} (s : Finset ι) (a : ι → ℝ) : ((∑ i ∈ s, a i : ℝ) : EReal) = ∑ i ∈ s, (a i : EReal) := by
  classical
  induction s using Finset.induction_on with
  | empty => simp
  | insert i s hi ih => rw [Finset.sum_insert hi, Finset.sum_insert hi, EReal.coe_add, ih]

/-- A factor that is a nonnegative real goes into a weighted sum's weights. -/
theorem sum_weights_mul {ι : Type} (s : Finset ι) (a : ι → ℝ) (v : ι → EReal) (c : ℝ) (hc : 0 ≤ c) :
    (∑ i ∈ s, (a i : EReal) * v i) * (c : EReal) = ∑ i ∈ s, ((a i * c : ℝ) : EReal) * v i := by
  classical
  induction s using Finset.induction_on with
  | empty => simp
  | insert i s hi ih =>
    rw [Finset.sum_insert hi, Finset.sum_insert hi,
      EReal.right_distrib_of_nonneg_of_ne_top (EReal.coe_nonneg.mpr hc) (EReal.coe_ne_top c), ih, EReal.coe_mul, mul_right_comm]

/-- The attention of `n` keys with the real scores `S` and the values `v`. -/
def attn (n : ℕ) (S : ℕ → ℝ) (v : ℕ → EReal) : EReal :=
  ∑ j ∈ Finset.range n, (((2 : ℝ) ^ S j / ∑ l ∈ Finset.range n, (2 : ℝ) ^ S l : ℝ) : EReal) * v j

theorem sum_pow_pos {n : ℕ} (hn : 0 < n) (S : ℕ → ℝ) : 0 < ∑ l ∈ Finset.range n, (2 : ℝ) ^ S l :=
  Finset.sum_pos (fun l _ => Real.rpow_pos_of_pos two_pos _) (Finset.nonempty_range_iff.mpr hn.ne')

/-- Weights relative to any reference, divided by their own sum. -/
theorem div_eq_attn {n : ℕ} (hn : 0 < n) (S : ℕ → ℝ) (v : ℕ → EReal) (r : ℝ) :
    Ideal.div (∑ j ∈ Finset.range n, (((2 : ℝ) ^ (S j - r) : ℝ) : EReal) * v j)
      (∑ j ∈ Finset.range n, (((2 : ℝ) ^ (S j - r) : ℝ) : EReal) * 1) = attn n S v := by
  have hW : 0 < ∑ l ∈ Finset.range n, (2 : ℝ) ^ (S l - r) := sum_pow_pos hn fun l => S l - r
  simp only [mul_one]
  rw [← coe_sum, Ideal.div_coe hW.ne', sum_weights_mul _ _ _ _ (one_div_nonneg.mpr hW.le), attn]
  refine Finset.sum_congr rfl fun j _ => ?_
  congr 2
  have e : ∀ l, (2 : ℝ) ^ (S l - r) = 2 ^ S l * 2 ^ (-r) := fun l => by
    rw [← Real.rpow_add two_pos, sub_eq_add_neg]
  have hp := (Real.rpow_pos_of_pos two_pos (-r)).ne'
  simp only [e, ← Finset.sum_mul]
  have hS := (sum_pow_pos hn S).ne'
  field_simp

/-- A softmax's probability, in base two. -/
theorem softmax_eq {n : ℕ} (hn : 0 < n) (S : ℕ → ℝ) (M : ℝ) (j : ℕ) :
    Ideal.div ((Real.exp (S j * Real.log 2 - M) : ℝ) : EReal)
      (∑ l ∈ Finset.range n, ((Real.exp (S l * Real.log 2 - M) : ℝ) : EReal))
      = (((2 : ℝ) ^ S j / ∑ l ∈ Finset.range n, (2 : ℝ) ^ S l : ℝ) : EReal) := by
  have e : ∀ l, Real.exp (S l * Real.log 2 - M) = 2 ^ S l * Real.exp (-M) := fun l => by
    rw [sub_eq_add_neg, Real.exp_add, Real.rpow_def_of_pos two_pos, mul_comm (Real.log 2)]
  have hM := (Real.exp_pos (-M)).ne'
  have hS := (sum_pow_pos hn S).ne'
  simp only [e]
  rw [← coe_sum, ← Finset.sum_mul, Ideal.div_coe (mul_ne_zero hS hM), ← EReal.coe_mul]
  congr 1
  field_simp

/-- Moving the reference from `r` to `r'` rescales the accumulated sum. -/
theorem rescale (n : ℕ) (S : ℕ → ℝ) (v : ℕ → EReal) (r r' : ℝ) :
    (∑ j ∈ Finset.range n, (((2 : ℝ) ^ (S j - r) : ℝ) : EReal) * v j) * (((2 : ℝ) ^ (r - r') : ℝ) : EReal)
      = ∑ j ∈ Finset.range n, (((2 : ℝ) ^ (S j - r') : ℝ) : EReal) * v j := by
  rw [sum_weights_mul _ _ _ _ (Real.rpow_nonneg two_pos.le _)]
  refine Finset.sum_congr rfl fun j _ => ?_
  rw [← Real.rpow_add two_pos, sub_add_sub_cancel]

end Cert.Attn

end
-- ==== Proof.Pay.lean ====
/- What the kernel's vector computations are on extended reals, element by element. -/
module

public import proofs.«01_k».proof.Proof.FrameIdeal
public import proofs.«01_k».proof.Proof.Softmax
public import Idealize.ShloMosaic.Lib.Pointwise
public import Idealize.ShloMosaic.Lib.Pipeline.ValueKit.Tiles

@[expose] public section

set_option maxRecDepth 16384

noncomputable section

namespace Cert.KernelIdeal.Run

open Cert.KernelIdeal Cert.KernelIdeal.Gen Cert.Attn
open Idealize.ShloMosaic Idealize.SL.Sem
open scoped BigOperators

/-! ## Where the sub-blocks lie -/

/-- The offset of sub-block `g` of group `t`, in keys. -/
def keyOff (t : Fin k0_t1_loop.trips) (g : ℕ) : ℕ := (t.val * 32 + g) * 256

theorem offA_eq (t : Fin k0_t1_loop.trips) (g : ℕ) (hg : g < 32) : ∀ a, offA t g a = (![0, 0, keyOff t g, 0] : Fin 4 → ℕ) a := by
  have h : ∀ (t : Fin k0_t1_loop.trips) (g : Fin 32), ∀ a, offA t g a = (![0, 0, keyOff t g, 0] : Fin 4 → ℕ) a := by
    decide +kernel
  exact h t ⟨g, hg⟩

theorem offB_eq (t : Fin k0_t1_loop.trips) (g : ℕ) (hg : g < 32) : ∀ a, offB t g a = (![0, 0, keyOff t g, 0] : Fin 4 → ℕ) a := by
  have h : ∀ (t : Fin k0_t1_loop.trips) (g : Fin 32), ∀ a, offB t g a = (![0, 0, keyOff t g, 0] : Fin 4 → ℕ) a := by
    decide +kernel
  exact h t ⟨g, hg⟩

theorem offV_eq (t : Fin k0_t1_loop.trips) (g : ℕ) (hg : g < 32) : ∀ a, offV t g a = (![0, 0, t.val * 32 + g, 0, 0] : Fin 5 → ℕ) a := by
  have h : ∀ (t : Fin k0_t1_loop.trips) (g : Fin 32), ∀ a, offV t g a = (![0, 0, t.val * 32 + g, 0, 0] : Fin 5 → ℕ) a := by
    decide +kernel
  exact h t ⟨g, hg⟩

theorem trips_eq : k0_t1_loop.trips = 2 := by decide +kernel

theorem keyOff_lt (t : Fin k0_t1_loop.trips) (g : ℕ) (hg : g < 32) (a : Fin 256) : keyOff t g + a.val < 16384 := by
  have h := t.isLt
  have e := trips_eq
  unfold keyOff
  omega

/-- A sub-block of keys, element by element. -/
theorem keysAt_apply (K : Vec Ideal S1x1x16384x208 .bf16) (off : Fin 4 → ℕ)
    (hoff : ∀ a, off a + S1x1x256x208.size a ≤ S1x1x16384x208.size a) (o : ℕ) (h : ∀ a, off a = (![0, 0, o, 0] : Fin 4 → ℕ) a)
    (a : Fin 256) (c : Fin 208) (ho : o + a.val < 16384) :
    keysAt K off hoff (ix4 (0 : Fin 1) (0 : Fin 1) a c) = K (ix4 (0 : Fin 1) (0 : Fin 1) (⟨o + a.val, ho⟩ : Fin 16384) c) := by
  unfold keysAt
  refine View.ld_unit_apply_of _ _ _ _ _ _ fun b => ?_
  rw [h b]
  match b with
  | ⟨0, _⟩ => rfl
  | ⟨1, _⟩ => rfl
  | ⟨2, _⟩ => rfl
  | ⟨3, _⟩ => exact (Nat.zero_add _).symm

/-- A sub-block of values, element by element. -/
theorem valsAt_apply (V : Vec Ideal S1x1x64x128x256 .bf16) (off : Fin 5 → ℕ)
    (hoff : ∀ a, off a + S1x1x1x128x256.size a ≤ S1x1x64x128x256.size a) (o : ℕ) (h : ∀ a, off a = (![0, 0, o, 0, 0] : Fin 5 → ℕ) a)
    (d : Fin 128) (a : Fin 256) (ho : o < 64) :
    valsAt V off hoff (ix5 (0 : Fin 1) (0 : Fin 1) (0 : Fin 1) d a) = V (ix5 (0 : Fin 1) (0 : Fin 1) (⟨o, ho⟩ : Fin 64) d a) := by
  unfold valsAt
  refine View.ld_unit_apply_of _ _ _ _ _ _ fun b => ?_
  rw [h b]
  match b with
  | ⟨0, _⟩ => rfl
  | ⟨1, _⟩ => rfl
  | ⟨2, _⟩ => rfl
  | ⟨3, _⟩ => exact (Nat.zero_add _).symm
  | ⟨4, _⟩ => exact (Nat.zero_add _).symm

/-! ## The vector computations -/

/-- The pattern of −∞. -/
theorem ofBits_neg_inf : Ideal.ofBits .f32 0xFF800000#32 = ⊥ := by
  simp [Ideal.ofBits, Ideal.ieee]

theorem scores_apply (kb : Vec Ideal S1x1x256x208 .bf16) (q : Vec Ideal S208x1024 .bf16) (a : Fin 256) (i : Fin 1024) :
    scores (F := Ideal) kb q (ix2 a i) = ∑ c : Fin 208, kb (ix4 (0 : Fin 1) (0 : Fin 1) a c) * q (ix2 c i) := by
  unfold scores k0_pay67
  pointwise

theorem probs_apply (kb : Vec Ideal S1x1x256x208 .bf16) (q : Vec Ideal S208x1024 .bf16) (a : Fin 256) (i : Fin 1024) :
    probs (F := Ideal) kb q (ix3 (0 : Fin 1) a i) = Ideal.exp2 (scores (F := Ideal) kb q (ix2 a i)) := by
  rw [scores_apply]
  unfold probs k0_pay7
  pointwise
  rfl

/-- The largest score of a sub-block's keys. -/
def top (kb : Vec Ideal S1x1x256x208 .bf16) (q : Vec Ideal S208x1024 .bf16) (i : Fin 1024) : EReal :=
  (Finset.univ : Finset (Fin 256)).fold max ⊥ fun a => scores (F := Ideal) kb q (ix2 a i)

theorem cmStep_zero_apply (cm : FVec Ideal S1x1024 .f32) (kb : Vec Ideal S1x1x256x208 .bf16) (q : Vec Ideal S208x1024 .bf16)
    (i : Fin 1024) : cmStep (F := Ideal) 0 cm kb q (ix2 (0 : Fin 1) i) = top kb q i := by
  unfold cmStep top
  simp only [scores_apply]
  unfold scores k0_pay67
  pointwise
  rw [ofBits_neg_inf]

theorem cmStep_succ_apply (n : ℕ) (cm : FVec Ideal S1x1024 .f32) (kb : Vec Ideal S1x1x256x208 .bf16)
    (q : Vec Ideal S208x1024 .bf16) (i : Fin 1024) :
    cmStep (F := Ideal) (n + 1) cm kb q (ix2 (0 : Fin 1) i) = max (cm (ix2 (0 : Fin 1) i)) (top kb q i) := by
  unfold cmStep top
  simp only [scores_apply]
  unfold k0_pay127 k0_pay125
  pointwise
  rw [ofBits_neg_inf]

theorem pay179_apply (kb : Vec Ideal S1x1x256x208 .bf16) (q : Vec Ideal S208x1024 .bf16) (i : Fin 1024) :
    k0_pay179 (F := Ideal) kb q (ix2 (0 : Fin 1) i) = top kb q i := by
  unfold top
  simp only [scores_apply]
  unfold k0_pay179
  pointwise
  rw [ofBits_neg_inf]

theorem pay180_apply (kb : Vec Ideal S1x1x256x208 .bf16) (q : Vec Ideal S208x1024 .bf16) (i : Fin 1024) :
    k0_pay180 (F := Ideal) kb q (ix2 (0 : Fin 1) i) = top kb q i := by
  rw [← pay179_apply]
  unfold k0_pay180
  pointwise

/-- The reference after it moved. -/
theorem pay1_apply (cm r : FVec Ideal S1x1024 .f32) (i : Fin 1024) :
    k0_pay1 (F := Ideal) cm r (ix2 (0 : Fin 1) i) = r (ix2 (0 : Fin 1) i) + max (cm (ix2 (0 : Fin 1) i)) 0 := by
  unfold k0_pay1
  pointwise

theorem pay3_apply (cm r : FVec Ideal S1x1024 .f32) (i : Fin 1024) :
    k0_pay3 (F := Ideal) cm r (ix2 (0 : Fin 1) i) = k0_pay1 (F := Ideal) cm r (ix2 (0 : Fin 1) i) := by
  unfold k0_pay3
  pointwise

theorem pay2_apply (cm r : FVec Ideal S1x1024 .f32) (acc : Vec Ideal S144x1024 .f32) (d : Fin 144) (i : Fin 1024) :
    k0_pay2 (F := Ideal) cm r acc (ix2 d i)
      = acc (ix2 d i) * Ideal.exp2 (r (ix2 (0 : Fin 1) i) - k0_pay1 (F := Ideal) cm r (ix2 (0 : Fin 1) i)) := by
  unfold k0_pay2
  pointwise
  rfl

/-- Selecting by a row number's being zero. -/
theorem select_row {α : Type} (c : Fin 16) (x y : α) :
    Scalar.select (IntOp.cmpi CmpIPredicate.eq (BitVec.ofNat 32 c.val) 0#32) x y = if c = 0 then x else y := by
  have h : ∀ c : Fin 16, IntOp.cmpi CmpIPredicate.eq (BitVec.ofNat 32 c.val) 0#32 = if c = 0 then 1#1 else 0#1 := by decide
  rw [h c]
  split <;> rfl

theorem pay4_apply (cm r : FVec Ideal S1x1024 .f32) (c : Fin 16) (i : Fin 1024) :
    k0_pay4 (F := Ideal) rows16 cm r (ix2 c i)
      = if c = 0 then 0 - k0_pay1 (F := Ideal) cm r (ix2 (0 : Fin 1) i) else 0 := by
  rw [← select_row c]
  unfold k0_pay4 rows16
  pointwise

theorem pay181_apply (kb : Vec Ideal S1x1x256x208 .bf16) (q : Vec Ideal S208x1024 .bf16) (c : Fin 16) (i : Fin 1024) :
    k0_pay181 (F := Ideal) rows16 kb q (ix2 c i) = if c = 0 then 0 - top kb q i else 0 := by
  rw [← select_row c, ← pay179_apply]
  unfold k0_pay181 rows16
  pointwise

theorem pay177_apply (c : Fin 16) (i : Fin 1024) : k0_pay177 (F := Ideal) (ix2 c i) = 0 := by
  have h : k0_pay177 (F := Ideal) (ix2 c i) = if c = 0 then (0 : EReal) - 0 else 0 := by
    rw [← select_row c]
    unfold k0_pay177 k0_pay175
    pointwise
  rw [h]
  simp

theorem pay173_apply (c : Fin 16) (a : Fin 256) : k0_pay173 (F := Ideal) (ix2 c a) = if c = 0 then 1 else 0 := by
  have h : ∀ c : Fin 16, (BitVec.setWidth 32 (IntOp.cmpi CmpIPredicate.eq (BitVec.ofNat 32 c.val) 0#32)).toInt
      = if c = 0 then 1 else 0 := by decide
  have e : k0_pay173 (F := Ideal) (ix2 c a) = (((BitVec.setWidth 32 (IntOp.cmpi CmpIPredicate.eq (BitVec.ofNat 32 c.val) 0#32)).toInt : ℝ) : EReal) := by
    unfold k0_pay173
    pointwise
    rfl
  rw [e, h c]
  split <;> simp

theorem pay174_apply (q : Vec Ideal S1x1x192x1024 .bf16) (c : Fin 192) (i : Fin 1024) :
    k0_pay174 (F := Ideal) q (ix2 c i) = q (ix4 (0 : Fin 1) (0 : Fin 1) c i) := by
  unfold k0_pay174
  pointwise

theorem pay178_apply (d : Fin 144) (i : Fin 1024) : k0_pay178 (F := Ideal) (ix2 d i) = 0 := by
  unfold k0_pay178
  pointwise

theorem accStep_apply (v5 : FVec Ideal S16x256 .bf16) (vb : Vec Ideal S1x1x1x128x256 .bf16) (acc : Vec Ideal S144x1024 .f32)
    (p : Vec Ideal S1x256x1024 .bf16) (d : Fin 144) (i : Fin 1024) :
    accStep (F := Ideal) v5 vb acc p (ix2 d i) = acc (ix2 d i) + ∑ a : Fin 256,
      (if h : d.val < 128 then vb (ix5 (0 : Fin 1) (0 : Fin 1) (0 : Fin 1) (⟨d.val, h⟩ : Fin 128) a)
        else v5 (ix2 (⟨d.val - 128, Nat.sub_lt_left_of_lt_add (Nat.le_of_not_lt h) d.isLt⟩ : Fin 16) a)) * p (ix3 (0 : Fin 1) a i) := by
  unfold accStep k0_pay131 k0_pay130
  pointwise

theorem pay183_apply (acc : Vec Ideal S144x1024 .f32) (i : Fin 1024) (d : Fin 128) :
    k0_pay183 (F := Ideal) acc (ix3 (0 : Fin 1) i d)
      = Ideal.div (acc (ix2 (⟨d.val, Nat.lt_of_lt_of_le d.isLt (by decide)⟩ : Fin 144) i)) (acc (ix2 (128 : Fin 144) i)) := by
  unfold k0_pay183
  pointwise

end Cert.KernelIdeal.Run

end
-- ==== Proof.Trips.lean ====
/- The kernel's running sums on extended reals. Whatever the reference of a query is, the sums held are those of the keys
   so far, with the weights relative to that reference; a trip that moves the reference rescales them. -/
module

public import proofs.«01_k».proof.Proof.Pay

@[expose] public section

set_option maxRecDepth 16384

noncomputable section

namespace Cert.KernelIdeal.Run

open Cert.KernelIdeal Cert.KernelIdeal.Gen Cert.Attn
open Idealize.ShloMosaic Idealize.SL.Sem
open scoped BigOperators

/-- The blocks of one point of the grid, as real queries and keys and extended real values: the queries and the keys'
    first 192 columns are real, and the keys' next column is one. -/
structure Blocks (q : Vec Ideal S1x1x192x1024 .bf16) (K : Vec Ideal S1x1x16384x208 .bf16)
    (V : Vec Ideal S1x1x64x128x256 .bf16) where
  qr : Fin 192 → Fin 1024 → ℝ
  kr : ℕ → Fin 192 → ℝ
  vr : ℕ → ℕ → EReal
  hq : ∀ c i, q (ix4 (0 : Fin 1) (0 : Fin 1) c i) = (qr c i : EReal)
  hk : ∀ (j : Fin 16384) (c : Fin 192), K (ix4 (0 : Fin 1) (0 : Fin 1) j (Fin.castAdd 16 c : Fin (192 + 16))) = (kr j.val c : EReal)
  h1 : ∀ j : Fin 16384, K (ix4 (0 : Fin 1) (0 : Fin 1) j (Fin.natAdd 192 (0 : Fin 16) : Fin (192 + 16))) = 1
  hv : ∀ (b : Fin 64) (d : Fin 128) (a : Fin 256),
    V (ix5 (0 : Fin 1) (0 : Fin 1) b d a) = vr d.val (b.val * 256 + a.val)

variable {q : Vec Ideal S1x1x192x1024 .bf16} {K : Vec Ideal S1x1x16384x208 .bf16} {V : Vec Ideal S1x1x64x128x256 .bf16}
variable (B : Blocks q K V)

/-- The score of key `j` for query `i`. -/
def Blocks.score (i : Fin 1024) (j : ℕ) : ℝ := ∑ c : Fin 192, B.kr j c * B.qr c i

/-- The values with the row of ones under them. -/
def Blocks.row (d j : ℕ) : EReal := if d < 128 then B.vr d j else if d = 128 then 1 else 0

/-- The queries with the negated reference under them. -/
structure QIs (r : Fin 1024 → ℝ) (x : Vec Ideal S208x1024 .bf16) : Prop where
  lo : ∀ (c : Fin 192) i, x (ix2 (Fin.castAdd 16 c : Fin (192 + 16)) i) = (B.qr c i : EReal)
  pad : ∀ (c : Fin 16) i, x (ix2 (Fin.natAdd 192 c : Fin (192 + 16)) i) = if c = 0 then ((-r i : ℝ) : EReal) else 0

/-- The small buffers when the first `n` keys are accumulated. -/
structure Good (n : ℕ) (r : Fin 1024 → ℝ) (x : St Ideal) : Prop where
  hq : QIs B r x.q
  hr : ∀ i, x.r (ix2 (0 : Fin 1) i) = (r i : EReal)
  hacc : ∀ (d : Fin 144) i, x.acc (ix2 d i)
    = ∑ j ∈ Finset.range n, (((2 : ℝ) ^ (B.score i j - r i) : ℝ) : EReal) * B.row d.val j

theorem setPad_lo (x : Vec Ideal S208x1024 .bf16) (w : Vec Ideal S16x1024 .bf16) (c : Fin 192) (i : Fin 1024) :
    setPad x w (ix2 (Fin.castAdd 16 c : Fin (192 + 16)) i) = x (ix2 (Fin.castAdd 16 c : Fin (192 + 16)) i) :=
  dif_neg (Nat.not_le.mpr c.isLt)

theorem setPad_pad (x : Vec Ideal S208x1024 .bf16) (w : Vec Ideal S16x1024 .bf16) (c : Fin 16) (i : Fin 1024) :
    setPad x w (ix2 (Fin.natAdd 192 c : Fin (192 + 16)) i) = w (ix2 c i) := by
  have h : 192 ≤ ((ix2 (Fin.natAdd 192 c : Fin (192 + 16)) i : (⟨2, ![192 + 16, 1024]⟩ : Shape).Idx) 0).val := Nat.le_add_right 192 c.val
  unfold setPad
  rw [dif_pos h]
  congr 2
  exact Fin.ext (Nat.add_sub_cancel_left 192 c.val)

theorem stack_lo (a : Vec Ideal S192x1024 .bf16) (w : Vec Ideal S16x1024 .bf16) (c : Fin 192) (i : Fin 1024) :
    stack a w (ix2 (Fin.castAdd 16 c : Fin (192 + 16)) i) = a (ix2 c i) :=
  dif_neg (Nat.not_le.mpr c.isLt)

theorem stack_pad (a : Vec Ideal S192x1024 .bf16) (w : Vec Ideal S16x1024 .bf16) (c : Fin 16) (i : Fin 1024) :
    stack a w (ix2 (Fin.natAdd 192 c : Fin (192 + 16)) i) = w (ix2 c i) := by
  have h : 192 ≤ ((ix2 (Fin.natAdd 192 c : Fin (192 + 16)) i : (⟨2, ![192 + 16, 1024]⟩ : Shape).Idx) 0).val := Nat.le_add_right 192 c.val
  unfold stack
  rw [dif_pos h]
  congr 2
  exact Fin.ext (Nat.add_sub_cancel_left 192 c.val)

variable {B}

/-- A score relative to the reference is a real. -/
theorem scores_eq {r : Fin 1024 → ℝ} {x : Vec Ideal S208x1024 .bf16} (hx : QIs B r x) (off : Fin 4 → ℕ)
    (hoff : ∀ a, off a + S1x1x256x208.size a ≤ S1x1x16384x208.size a) (o : ℕ) (h : ∀ a, off a = (![0, 0, o, 0] : Fin 4 → ℕ) a)
    (a : Fin 256) (ho : o + a.val < 16384) (i : Fin 1024) :
    scores (F := Ideal) (keysAt K off hoff) x (ix2 a i) = ((B.score i (o + a.val) - r i : ℝ) : EReal) := by
  rw [scores_apply]
  have e : ∀ c : Fin 208, keysAt K off hoff (ix4 (0 : Fin 1) (0 : Fin 1) a c)
      = K (ix4 (0 : Fin 1) (0 : Fin 1) (⟨o + a.val, ho⟩ : Fin 16384) c) := fun c => keysAt_apply K off hoff o h a c ho
  simp only [e]
  change ∑ c : Fin (192 + 16), K (ix4 (0 : Fin 1) (0 : Fin 1) (⟨o + a.val, ho⟩ : Fin 16384) c) * x (ix2 c i) = _
  rw [Fin.sum_univ_add, Fin.sum_univ_succ (n := 15)]
  simp only [hx.lo, hx.pad, B.hk, B.h1, if_true, Fin.succ_ne_zero, if_false, mul_zero, Finset.sum_const_zero, add_zero, one_mul]
  unfold Blocks.score
  rw [sub_eq_add_neg, EReal.coe_add, coe_sum]
  rfl

theorem top_real {r : Fin 1024 → ℝ} {x : Vec Ideal S208x1024 .bf16} (hx : QIs B r x) (off : Fin 4 → ℕ)
    (hoff : ∀ a, off a + S1x1x256x208.size a ≤ S1x1x16384x208.size a) (o : ℕ) (h : ∀ a, off a = (![0, 0, o, 0] : Fin 4 → ℕ) a)
    (ho : ∀ a : Fin 256, o + a.val < 16384) (i : Fin 1024) : IsReal (top (keysAt K off hoff) x i) :=
  isReal_fold_max _ _ (fun a => ⟨_, scores_eq hx off hoff o h a (ho a) i⟩) ⟨0, Finset.mem_univ _⟩

/-- The largest relative score of a group is a real. -/
theorem cmOf_real {r : Fin 1024 → ℝ} {x : Vec Ideal S208x1024 .bf16} (hx : QIs B r x) (t : Fin k0_t1_loop.trips) (i : Fin 1024) :
    ∀ (n : ℕ) (h : n + 1 ≤ 32), IsReal (cmOf K x t (n + 1) h (ix2 (0 : Fin 1) i)) := by
  intro n
  induction n with
  | zero =>
    intro h
    unfold cmOf
    rw [cmStep_zero_apply]
    exact top_real hx _ _ _ (offA_eq t 0 h) (keyOff_lt t 0 h) i
  | succ n ih =>
    intro h
    unfold cmOf
    rw [cmStep_succ_apply]
    exact isReal_max (ih _) (top_real hx _ _ _ (offA_eq t (n + 1) h) (keyOff_lt t (n + 1) h) i)

/-- The weights of a sub-block. -/
theorem probs_eq {r : Fin 1024 → ℝ} {x : Vec Ideal S208x1024 .bf16} (hx : QIs B r x) (off : Fin 4 → ℕ)
    (hoff : ∀ a, off a + S1x1x256x208.size a ≤ S1x1x16384x208.size a) (o : ℕ) (h : ∀ a, off a = (![0, 0, o, 0] : Fin 4 → ℕ) a)
    (a : Fin 256) (ho : o + a.val < 16384) (i : Fin 1024) :
    probs (F := Ideal) (keysAt K off hoff) x (ix3 (0 : Fin 1) a i) = (((2 : ℝ) ^ (B.score i (o + a.val) - r i) : ℝ) : EReal) := by
  rw [probs_apply, scores_eq hx off hoff o h a ho i, Ideal.exp2_coe]
  rfl

/-- The values of a sub-block with the row of ones under them. -/
theorem row_eq (t : Fin k0_t1_loop.trips) (g : ℕ) (hg : g < 32) (d : Fin 144) (a : Fin 256) :
    (if h : d.val < 128 then valsAt V (offV t g) (offV_inb t g hg) (ix5 (0 : Fin 1) (0 : Fin 1) (0 : Fin 1) (⟨d.val, h⟩ : Fin 128) a)
      else k0_pay173 (F := Ideal) (ix2 (⟨d.val - 128, Nat.sub_lt_left_of_lt_add (Nat.le_of_not_lt h) d.isLt⟩ : Fin 16) a))
      = B.row d.val (keyOff t g + a.val) := by
  have hb : t.val * 32 + g < 64 := by
    have h := t.isLt
    have e := trips_eq
    omega
  unfold Blocks.row
  split
  · rename_i h
    rw [valsAt_apply V _ _ _ (offV_eq t g hg) _ _ hb, B.hv]
    rfl
  · rename_i h
    rw [pay173_apply]
    have e : (⟨d.val - 128, Nat.sub_lt_left_of_lt_add (Nat.le_of_not_lt h) d.isLt⟩ : Fin 16) = 0 ↔ d.val = 128 := by
      rw [Fin.ext_iff]
      show d.val - 128 = 0 ↔ _
      omega
    simp only [e]

/-- The accumulation over the sub-blocks of a group. -/
theorem accOf_eq {r : Fin 1024 → ℝ} (t : Fin k0_t1_loop.trips) (P : (g : ℕ) → g < 32 → Vec Ideal S1x256x1024 .bf16)
    (hP : ∀ g hg (a : Fin 256) i, P g hg (ix3 (0 : Fin 1) a i) = (((2 : ℝ) ^ (B.score i (keyOff t g + a.val) - r i) : ℝ) : EReal))
    (acc : Vec Ideal S144x1024 .f32)
    (hacc : ∀ (d : Fin 144) i, acc (ix2 d i)
      = ∑ j ∈ Finset.range (keyOff t 0), (((2 : ℝ) ^ (B.score i j - r i) : ℝ) : EReal) * B.row d.val j) :
    ∀ (n : ℕ) (h : n ≤ 32) (d : Fin 144) i, accOf V (k0_pay173 (F := Ideal)) t P acc n h (ix2 d i)
      = ∑ j ∈ Finset.range (keyOff t n), (((2 : ℝ) ^ (B.score i j - r i) : ℝ) : EReal) * B.row d.val j := by
  intro n
  induction n with
  | zero => intro h d i; exact hacc d i
  | succ n ih =>
    intro h d i
    have hn : keyOff t (n + 1) = keyOff t n + 256 := by unfold keyOff; omega
    unfold accOf
    rw [accStep_apply, ih (Nat.le_of_succ_le h), hn, Finset.sum_range_add, Finset.sum_range (n := 256)]
    congr 1
    refine Finset.sum_congr rfl fun a _ => ?_
    rw [row_eq (B := B) t n h d a, hP, mul_comm]

/-- The start: no key accumulated, and some real reference. -/
theorem start_good (B : Blocks q K V) : ∃ r, Good B 0 r (startOf q K) := by
  have h0 : QIs B (fun _ => 0) (q0Of q) := by
    refine ⟨fun c i => ?_, fun c i => ?_⟩
    · rw [q0Of, stack_lo, pay174_apply, B.hq]
    · rw [q0Of, stack_pad, pay177_apply]; simp
  have ht : ∀ i, IsReal (top (keys0 K) (q0Of q) i) := fun i =>
    top_real h0 _ _ 0 (fun _ => rfl) (fun a => Nat.lt_of_lt_of_le (Nat.add_lt_add_left a.isLt 0) (by decide)) i
  choose r hr using ht
  refine ⟨r, ⟨fun c i => ?_, fun c i => ?_⟩, fun i => ?_, fun d i => ?_⟩
  · unfold startOf; dsimp only; rw [setPad_lo, h0.lo]
  · unfold startOf; dsimp only; rw [setPad_pad, pay181_apply, hr i, zero_sub, EReal.coe_neg]
  · unfold startOf; dsimp only; rw [pay180_apply, hr i]
  · unfold startOf; dsimp only; rw [pay178_apply]; simp

/-- One trip. -/
theorem trip_good (t : Fin k0_t1_loop.trips) {r : Fin 1024 → ℝ} {x : St Ideal} (hx : Good B (keyOff t 0) r x) :
    ∃ r', Good B (keyOff t 32) r' (tripOf K V (k0_pay173 (F := Ideal)) rows16 t x) := by
  unfold tripOf
  split
  · have hc : ∀ i, IsReal (max (cmOf K x.q t 32 le_rfl (ix2 (0 : Fin 1) i)) 0) := fun i =>
      isReal_max (cmOf_real hx.hq t i 31 le_rfl) ⟨0, EReal.coe_zero.symm⟩
    choose u hu using hc
    have h1 : ∀ i, k0_pay1 (F := Ideal) (cmOf K x.q t 32 le_rfl) x.r (ix2 (0 : Fin 1) i) = ((r i + u i : ℝ) : EReal) := fun i => by
      rw [pay1_apply, hx.hr, hu, EReal.coe_add]
    have hq : QIs B (fun i => r i + u i) (moved rows16 (cmOf K x.q t 32 le_rfl) x).q := by
      refine ⟨fun c i => ?_, fun c i => ?_⟩
      · unfold moved; dsimp only; rw [setPad_lo, hx.hq.lo]
      · unfold moved; dsimp only; rw [setPad_pad, pay4_apply, h1, zero_sub, EReal.coe_neg]
    refine ⟨fun i => r i + u i, hq, fun i => ?_, accOf_eq t _ (fun g hg a i => ?_) _ (fun d i => ?_) 32 le_rfl⟩
    · show k0_pay3 (F := Ideal) _ _ _ = _
      rw [pay3_apply, h1]
    · exact probs_eq hq _ _ _ (offB_eq t g hg) a (keyOff_lt t g hg a) i
    · show k0_pay2 (F := Ideal) _ _ _ _ = _
      rw [pay2_apply, h1, hx.hr, hx.hacc, ← EReal.coe_sub, Ideal.exp2_coe]
      exact rescale _ _ _ _ _
  · refine ⟨r, hx.hq, hx.hr, accOf_eq t _ (fun g hg a i => ?_) _ hx.hacc 32 le_rfl⟩
    exact probs_eq hx.hq _ _ _ (offA_eq t g hg) a (keyOff_lt t g hg a) i

/-- All trips. -/
theorem st_good (B : Blocks q K V) : ∀ n, n ≤ k0_t1_loop.trips → ∃ r, Good B (n * 8192) r (stOf q K V n) := by
  intro n
  induction n with
  | zero => intro _; rw [Nat.zero_mul]; exact start_good B
  | succ n ih =>
    intro h
    obtain ⟨r, hr⟩ := ih (Nat.le_of_succ_le h)
    have e0 : n * 8192 = keyOff ⟨n, h⟩ 0 := by simp only [keyOff]; omega
    have e1 : (n + 1) * 8192 = keyOff ⟨n, h⟩ 32 := by simp only [keyOff]; ring
    rw [e0] at hr
    rw [e1, stOf_succ q K V ⟨n, h⟩]
    exact trip_good ⟨n, h⟩ hr

/-- The block of the result: the attention of each query. -/
theorem outOf_eq (B : Blocks q K V) (i : Fin 1024) (d : Fin 128) :
    outOf q K V (ix3 (0 : Fin 1) i d) = attn 16384 (B.score i) (B.vr d.val) := by
  obtain ⟨r, hr⟩ := st_good B k0_t1_loop.trips le_rfl
  have e : k0_t1_loop.trips * 8192 = 16384 := by rw [trips_eq]
  rw [e] at hr
  unfold outOf
  rw [pay183_apply, hr.hacc, hr.hacc]
  have h1 : ∀ j, B.row d.val j = B.vr d.val j := fun j => if_pos d.isLt
  have h2 : ∀ j, B.row 128 j = 1 := fun j => rfl
  show Ideal.div (∑ j ∈ Finset.range 16384, _ * B.row d.val j) (∑ j ∈ Finset.range 16384, _ * B.row 128 j) = _
  simp only [h1, h2]
  exact div_eq_attn (by decide) _ _ _

end Cert.KernelIdeal.Run

end
-- ==== Proof.RefValue.lean ====
/- What the reference's result is on extended reals, element by element. -/
module

public import proofs.«01_k».proof.Proof.Gen.ReferenceIdeal.Run
public import proofs.«01_k».proof.Proof.Softmax
public import Idealize.ShloMosaic.Lib.Pointwise

@[expose] public section

set_option maxRecDepth 16384

noncomputable section

namespace Cert.ReferenceIdeal.RefValue

open Cert.ReferenceIdeal Cert.ReferenceIdeal.Gen Cert.Attn
open Idealize.ShloMosaic Idealize.SL.Sem
open scoped BigOperators

variable (q : FVec Ideal S2x8x192x16384 .bf16) (k : FVec Ideal S2x8x16384x208 .bf16) (v : FVec Ideal S2x8x64x128x256 .bf16)

/-- The exponents. -/
def expo : FVec Ideal S2x8x16384x16384 .f32 :=
  mulf (addf (Host.dotGeneral dot_S2x8x128x16384_S2x8x16384x128_S2x8x16384x16384_2_3_3_2_01_01 none
        (extractStridedSlice S2x8x128x16384 ![0, 0, 0, 0] q slices_S2x8x192x16384_S2x8x128x16384_0_0_0_0)
        (extractStridedSlice S2x8x16384x128 ![0, 0, 0, 0] k slices_S2x8x16384x208_S2x8x16384x128_0_0_0_0))
      (Host.dotGeneral dot_S2x8x64x16384_S2x8x16384x64_S2x8x16384x16384_2_3_3_2_01_01 none
        (extractStridedSlice S2x8x64x16384 ![0, 0, 128, 0] q slices_S2x8x192x16384_S2x8x64x16384_0_0_128_0)
        (extractStridedSlice S2x8x16384x64 ![0, 0, 0, 128] k slices_S2x8x16384x208_S2x8x16384x64_0_0_0_128)))
    (broadcastInDim S2x8x16384x16384 ![] bcast_S_S2x8x16384x16384 (id (Host.log (constant S_ .f32 0x40000000#32))))

/-- The largest exponent of each query. -/
def most (x : FVec Ideal S2x8x16384x16384 .f32) : FVec Ideal S2x8x16384 .f32 :=
  Host.reduce FloatOps.maximumf x (constant S_ .f32 0xFF800000#32) reducesTo_S2x8x16384x16384_S2x8x16384_d3 h_S_

/-- The weights before they are divided by their sum. -/
def weight (x : FVec Ideal S2x8x16384x16384 .f32) (y : FVec Ideal S2x8x16384 .f32) : FVec Ideal S2x8x16384x16384 .f32 :=
  Host.exp (subf x (broadcastInDim S2x8x16384x16384 ![0, 1, 2, 3] bcast_S2x8x16384x1_S2x8x16384x16384_0_1_2_3
    (broadcastInDim S2x8x16384x1 ![0, 1, 2] bcast_S2x8x16384_S2x8x16384x1_0_1_2
      (maximumf (broadcastInDim S2x8x16384 ![] bcast_S_S2x8x16384 (constant S_ .f32 0xFF800000#32)) y))))

/-- The result, of the weights. -/
def result (w : FVec Ideal S2x8x16384x16384 .f32) : FVec Ideal S2x16384x1024 .bf16 :=
  shapeCast _ (truncf .bf16 (transpose S2x16384x8x128 [0, 3, 1, 2]
    (Host.dotGeneral dot_S2x8x128x16384_S2x8x16384x16384_S2x8x128x16384_3_3_2_2_01_01 none
      (shapeCast _ (transpose S2x8x128x64x256 [0, 1, 3, 2, 4] v transposes_S2x8x64x128x256_S2x8x128x64x256_0_1_3_2_4)
        shapeCasts_S2x8x128x64x256_S2x8x128x16384)
      (truncf .bf16 (Host.divf w
        (broadcastInDim S2x8x16384x16384 ![0, 1, 2, 3] bcast_S2x8x16384x1_S2x8x16384x16384_0_1_2_3
          (broadcastInDim S2x8x16384x1 ![0, 1, 2] bcast_S2x8x16384_S2x8x16384x1_0_1_2
            (Host.reduceAdd w (constant S_ .f32 0x00000000#32) reducesTo_S2x8x16384x16384_S2x8x16384_d3 h_S_)))) bitsLt_bf16_f32))
    transposes_S2x8x128x16384_S2x16384x8x128_0_3_1_2) bitsLt_bf16_f32) shapeCasts_S2x16384x8x128_S2x16384x1024

theorem res_eq (m : (ℓ : Loc nD τ sig) → Buf (Elt Ideal) ℓ) (c : Dev nD) :
    Cert.ReferenceIdeal.Value.res_main_v28 m c
      = result (m ((c.tc : Thread nD τ).loc main_arg2))
        (weight (expo (m ((c.tc : Thread nD τ).loc main_arg0)) (m ((c.tc : Thread nD τ).loc main_arg1)))
          (most (expo (m ((c.tc : Thread nD τ).loc main_arg0)) (m ((c.tc : Thread nD τ).loc main_arg1))))) := rfl

theorem ofBits_neg_inf : Ideal.ofBits .f32 0xFF800000#32 = ⊥ := by
  simp [Ideal.ofBits, Ideal.ieee]

theorem ofBits_two : Ideal.ofBits .f32 0x40000000#32 = ((2 : ℝ) : EReal) := by
  simp [Ideal.ofBits, Ideal.ieee]
  rw [← EReal.coe_mul]
  norm_num

theorem log_two : Host.log (F := Ideal) (constant S_ .f32 0x40000000#32) ix0 = (Real.log 2 : EReal) := by
  show Ideal.log (Ideal.ofBits .f32 0x40000000#32) = _
  rw [ofBits_two, Ideal.log_coe, if_neg (by norm_num)]

/-- An exponent, of a real query and real keys: the score times the logarithm of two. -/
theorem expo_apply (b : Fin 2) (h : Fin 8) (i j : Fin 16384) (qr kr : Fin 192 → ℝ)
    (hq : ∀ c, q (ix4 b h c i) = (qr c : EReal))
    (hk : ∀ c : Fin 192, k (ix4 b h j (Fin.castAdd 16 c : Fin (192 + 16))) = (kr c : EReal)) :
    expo q k (ix4 b h i j) = (((∑ c, kr c * qr c) * Real.log 2 : ℝ) : EReal) := by
  have e : ∑ c : Fin 192, kr c * qr c = ∑ c : Fin (128 + 64), kr c * qr c := rfl
  rw [e, Fin.sum_univ_add, EReal.coe_mul, EReal.coe_add, coe_sum, coe_sum, ← log_two]
  have hq1 : ∀ c : Fin 128, q (ix4 b h (Fin.castAdd 64 c : Fin (128 + 64)) i) = (qr (Fin.castAdd 64 c : Fin (128 + 64)) : EReal) := fun c => hq _
  have hq2 : ∀ c : Fin 64, q (ix4 b h (Fin.natAdd 128 c : Fin (128 + 64)) i) = (qr (Fin.natAdd 128 c : Fin (128 + 64)) : EReal) := fun c => hq _
  have hk1 : ∀ c : Fin 128, k (ix4 b h j (⟨c.val, Nat.lt_trans c.isLt (by decide)⟩ : Fin 208)) = (kr (Fin.castAdd 64 c : Fin (128 + 64)) : EReal) :=
    fun c => hk (Fin.castAdd 64 c : Fin (128 + 64))
  have hk2 : ∀ c : Fin 64, k (ix4 b h j (⟨128 + c.val, Nat.lt_of_lt_of_le (Nat.add_lt_add_left c.isLt 128) (by decide)⟩ : Fin 208)) = (kr (Fin.natAdd 128 c : Fin (128 + 64)) : EReal) :=
    fun c => hk (Fin.natAdd 128 c : Fin (128 + 64))
  simp only [EReal.coe_mul, ← hq1, ← hq2, ← hk1, ← hk2, mul_comm (k _)]
  unfold expo
  pointwise
  rfl

theorem most_apply (x : FVec Ideal S2x8x16384x16384 .f32) (b : Fin 2) (h : Fin 8) (i : Fin 16384) :
    most x (ix3 b h i) = (Finset.univ : Finset (Fin 16384)).fold max ⊥ fun j => x (ix4 b h i j) := by
  rw [← ofBits_neg_inf]
  unfold most
  pointwise

theorem weight_apply (x : FVec Ideal S2x8x16384x16384 .f32) (y : FVec Ideal S2x8x16384 .f32) (b : Fin 2) (h : Fin 8)
    (i j : Fin 16384) : weight x y (ix4 b h i j) = Ideal.exp (x (ix4 b h i j) - max ⊥ (y (ix3 b h i))) := by
  rw [← ofBits_neg_inf]
  unfold weight
  pointwise

theorem result_apply (w : FVec Ideal S2x8x16384x16384 .f32) (b : Fin 2) (h : Fin 8) (i : Fin 16384) (d : Fin 128) (e : Fin 1024)
    (he : e.val = h.val * 128 + d.val) (vr : ℕ → EReal)
    (hv : ∀ (g : Fin 64) (a : Fin 256), v (ix5 b h g d a) = vr (g.val * 256 + a.val)) :
    result v w (ix3 b i e) = ∑ j : Fin 16384, vr j.val * Ideal.div (w (ix4 b h i j)) (∑ l : Fin 16384, w (ix4 b h i l)) := by
  have e1 : (⟨e.val / 128, by omega⟩ : Fin 8) = h := Fin.ext (by show e.val / 128 = h.val; omega)
  have e2 : (⟨e.val % 128, Nat.mod_lt _ (by decide)⟩ : Fin 128) = d := Fin.ext (by show e.val % 128 = d.val; omega)
  have e3 : ∀ j : Fin 16384, vr j.val = v (ix5 b (⟨e.val / 128, by omega⟩ : Fin 8) (⟨j.val / 256, by omega⟩ : Fin 64)
      (⟨e.val % 128, Nat.mod_lt _ (by decide)⟩ : Fin 128) (⟨j.val % 256, Nat.mod_lt _ (by decide)⟩ : Fin 256)) := fun j => by
    rw [e1, e2, hv]
    congr 1
    show j.val = j.val / 256 * 256 + j.val % 256
    omega
  have e4 : ∀ j : Fin 16384, w (ix4 b h i j) = w (ix4 b (⟨e.val / 128, by omega⟩ : Fin 8) i j) := fun j => by rw [e1]
  simp only [e3, e4]
  unfold result
  pointwise

/-- The reference's element: the attention of the query. -/
theorem element (b : Fin 2) (h : Fin 8) (i : Fin 16384) (d : Fin 128) (e : Fin 1024)
    (he : e.val = h.val * 128 + d.val) (qr : Fin 192 → ℝ) (kr : ℕ → Fin 192 → ℝ) (vr : ℕ → EReal)
    (hq : ∀ c, q (ix4 b h c i) = (qr c : EReal))
    (hk : ∀ (j : Fin 16384) (c : Fin 192), k (ix4 b h j (Fin.castAdd 16 c : Fin (192 + 16))) = (kr j.val c : EReal))
    (hv : ∀ (g : Fin 64) (a : Fin 256), v (ix5 b h g d a) = vr (g.val * 256 + a.val)) :
    result v (weight (expo q k) (most (expo q k))) (ix3 b i e) = attn 16384 (fun j => ∑ c, kr j c * qr c) vr := by
  have hx : ∀ j : Fin 16384, expo q k (ix4 b h i j) = (((∑ c, kr j.val c * qr c) * Real.log 2 : ℝ) : EReal) := fun j =>
    expo_apply q k b h i j qr (kr j.val) hq (hk j)
  obtain ⟨M, hM⟩ : IsReal (most (expo q k) (ix3 b h i)) := by
    rw [most_apply]
    exact isReal_fold_max _ _ (fun j => ⟨_, hx j⟩) ⟨0, Finset.mem_univ _⟩
  have hw : ∀ j : Fin 16384, weight (expo q k) (most (expo q k)) (ix4 b h i j)
      = (Real.exp ((∑ c, kr j.val c * qr c) * Real.log 2 - M) : EReal) := fun j => by
    rw [weight_apply, hM, hx, max_eq_right bot_le, ← EReal.coe_sub, Ideal.exp_coe]
  rw [result_apply v _ b h i d e he vr hv]
  simp only [hw]
  rw [← Finset.sum_range fun l : ℕ => ((Real.exp ((∑ c, kr l c * qr c) * Real.log 2 - M) : ℝ) : EReal),
    ← Finset.sum_range fun j : ℕ => vr j * Ideal.div ((Real.exp ((∑ c, kr j c * qr c) * Real.log 2 - M) : ℝ) : EReal)
      (∑ l ∈ Finset.range 16384, ((Real.exp ((∑ c, kr l c * qr c) * Real.log 2 - M) : ℝ) : EReal))]
  unfold attn
  refine Finset.sum_congr rfl fun j _ => ?_
  rw [softmax_eq (by decide) (fun j => ∑ c, kr j c * qr c) M j, mul_comm]

end Cert.ReferenceIdeal.RefValue

end
-- ==== Proof.Value.lean ====
/- The kernel's result array: every element is the reference's. -/
module

public import proofs.«01_k».proof.Proof.Trips
public import proofs.«01_k».proof.Proof.RefValue
public import proofs.«01_k».proof.Proof.Gen.ReferenceIdeal
public import Idealize.ShloMosaic.Lib.Pipeline.ValueKit.Geometry

@[expose] public section

set_option maxRecDepth 16384

noncomputable section

namespace Cert.KernelIdeal.Run

open Cert.KernelIdeal Cert.KernelIdeal.Gen Cert.Attn
open Idealize.ShloMosaic Idealize.ShloMosaic.TcCoe Idealize.SL.Sem
open scoped BigOperators

/-- What the precondition says: the queries and the keys are real, and the first pad column of the keys is one. -/
structure Finite (q : Vec Ideal S2x8x192x16384 .bf16) (k : Vec Ideal S2x8x16384x208 .bf16) : Prop where
  hq : ∀ b h c i, IsReal (q (ix4 b h c i))
  hk : ∀ b h j (c : Fin 192), IsReal (k (ix4 b h j (Fin.castAdd 16 c : Fin (192 + 16))))
  h1 : ∀ b h j, k (ix4 b h j (Fin.natAdd 192 (0 : Fin 16) : Fin (192 + 16))) = 1

theorem coe_toReal {x : EReal} (h : IsReal x) : x = (x.toReal : EReal) := by
  obtain ⟨r, rfl⟩ := h
  rfl

/-! ## The blocks in the arrays -/

theorem index0 : ∀ t : Fin cfg0.N, win0_0.index t = ![(grid0.coords t 0).val, (grid0.coords t 1).val, 0, (grid0.coords t 2).val] :=
  (by decide +kernel : ∀ t : Fin grid0.N, _)
theorem index1 : ∀ t : Fin cfg0.N, win0_1.index t = ![(grid0.coords t 0).val, (grid0.coords t 1).val, 0, 0] :=
  (by decide +kernel : ∀ t : Fin grid0.N, _)
theorem index2 : ∀ t : Fin cfg0.N, win0_2.index t = ![(grid0.coords t 0).val, (grid0.coords t 1).val, 0, 0, 0] :=
  (by decide +kernel : ∀ t : Fin grid0.N, _)
theorem index3 : ∀ t : Fin cfg0.N, win0_3.index t = ![(grid0.coords t 0).val, (grid0.coords t 2).val, (grid0.coords t 1).val] :=
  (by decide +kernel : ∀ t : Fin grid0.N, _)

/-- The batch, the head and the first query of a point of the grid. -/
def batch (t : Fin cfg0.N) : Fin 2 := grid0.coords t 0
def head (t : Fin cfg0.N) : Fin 8 := grid0.coords t 1
def part (t : Fin cfg0.N) : Fin 16 := grid0.coords t 2
def query (t : Fin cfg0.N) (i : Fin 1024) : Fin 16384 := ⟨(part t).val * 1024 + i.val, by have := (part t).isLt; have := i.isLt; omega⟩

variable (m : (ℓ : Loc nD τ sig) → Buf (Elt Ideal) ℓ) (c : Dev nD)

/-- The arrays the run is given. -/
def argQ : Vec Ideal S2x8x192x16384 .bf16 := m ((c.tc : Thread nD τ).loc main_arg0)
def argK : Vec Ideal S2x8x16384x208 .bf16 := m ((c.tc : Thread nD τ).loc main_arg1)
def argV : Vec Ideal S2x8x64x128x256 .bf16 := m ((c.tc : Thread nD τ).loc main_arg2)

theorem block0 (t : Fin cfg0.N) (a : Fin 192) (i : Fin 1024) :
    iblk m c 0 t (ix4 (0 : Fin 1) (0 : Fin 1) a i) = argQ m c (ix4 (batch t) (head t) a (query t i)) := by
  unfold argQ batch head query part
  blk_ext [iblk, V, index0]

theorem block1 (t : Fin cfg0.N) (j : Fin 16384) (a : Fin 208) :
    iblk m c 1 t (ix4 (0 : Fin 1) (0 : Fin 1) j a) = argK m c (ix4 (batch t) (head t) j a) := by
  unfold argK batch head
  blk_ext [iblk, V, index1]

theorem block2 (t : Fin cfg0.N) (g : Fin 64) (d : Fin 128) (a : Fin 256) :
    iblk m c 2 t (ix5 (0 : Fin 1) (0 : Fin 1) g d a) = argV m c (ix5 (batch t) (head t) g d a) := by
  unfold argV batch head
  blk_ext [iblk, V, index2]

/-- The blocks of a point as real queries, real keys and values. -/
def blocksOf (hf : Finite (argQ m c) (argK m c)) (t : Fin cfg0.N) : Blocks (iblk m c 0 t) (iblk m c 1 t) (iblk m c 2 t) where
  qr a i := (argQ m c (ix4 (batch t) (head t) a (query t i))).toReal
  kr j a := if h : j < 16384 then (argK m c (ix4 (batch t) (head t) (⟨j, h⟩ : Fin 16384) (Fin.castAdd 16 a : Fin (192 + 16)))).toReal else 0
  vr d j := if h : d < 128 ∧ j < 16384 then argV m c (ix5 (batch t) (head t) (⟨j / 256, by omega⟩ : Fin 64)
    (⟨d, h.1⟩ : Fin 128) (⟨j % 256, Nat.mod_lt _ (by decide)⟩ : Fin 256)) else 0
  hq a i := (block0 m c t a i).trans (coe_toReal (hf.hq _ _ _ _))
  hk j a := by
    rw [dif_pos j.isLt]
    exact (block1 m c t j _).trans (coe_toReal (hf.hk _ _ _ _))
  h1 j := (block1 m c t j _).trans (hf.h1 _ _ _)
  hv g d a := by
    have hg := g.isLt
    have ha := a.isLt
    have e1 : (⟨(g.val * 256 + a.val) / 256, by omega⟩ : Fin 64) = g := Fin.ext (by show (g.val * 256 + a.val) / 256 = g.val; omega)
    have e2 : (⟨(g.val * 256 + a.val) % 256, Nat.mod_lt _ (by decide)⟩ : Fin 256) = a :=
      Fin.ext (by show (g.val * 256 + a.val) % 256 = a.val; omega)
    rw [dif_pos ⟨d.isLt, by omega⟩, e1, e2]
    exact block2 m c t g d a

theorem cover3 : (cfg0.win 3).Covers := by decide +kernel

/-- Where the elements of a block of the result lie. -/
theorem emb3 (t : Fin cfg0.N) (i : Fin 1024) (d : Fin 128) (e : Fin 1024) (he : e.val = (head t).val * 128 + d.val) :
    ((cfg0.win 3).blk t).view.emb (ix3 (0 : Fin 1) i d) = ix3 (batch t) (query t i) e := by
  unfold head at he
  unfold batch query part
  blk_ext [index3]

theorem ix3_eta (y : (⟨3, ![1, 1024, 128]⟩ : Shape).Idx) : y = ix3 (0 : Fin 1) (y 1) (y 2) := by
  funext a
  match a with
  | ⟨0, _⟩ => exact Fin.ext (Nat.lt_one_iff.mp (y 0).isLt)
  | ⟨1, _⟩ => rfl
  | ⟨2, _⟩ => rfl

/-- The result array of any data of the pipeline, of what the body leaves at each point. -/
theorem result_of (dat : Pipeline.Dat τ (Elt Ideal) Unit ℕ (UR sig nD τ) ℕ cfg0 c) (o : Fin cfg0.N → Vec Ideal S1x1024x128 .bf16)
    (ho : ∀ t, dat.after 3 t = o t) (G : Buf (Elt Ideal) ((c.tc : Thread nD τ).loc main_v0))
    (hG : ∀ (t : Fin cfg0.N) (i : Fin 1024) (d : Fin 128) (e : Fin 1024), e.val = (head t).val * 128 + d.val →
      o t (ix3 (0 : Fin 1) i d) = G (ix3 (batch t) (query t i) e)) :
    dat.arrAt 3 cfg0.N = G := by
  refine dat.arrAt_eq_of_covers 3 G cover3 fun t _ y => ?_
  obtain ⟨i, d, hy⟩ : ∃ (i : Fin 1024) (d : Fin 128), y = ix3 (0 : Fin 1) i d := ⟨y 1, y 2, ix3_eta y⟩
  subst hy
  have hlt : (head t).val * 128 + d.val < 1024 := by have := (head t).isLt; have := d.isLt; omega
  rw [emb3 t i d ⟨_, hlt⟩ rfl, ← hG t i d ⟨_, hlt⟩ rfl]
  exact congrFun (ho t) (ix3 (0 : Fin 1) i d)

/-- The reference's result of the same arrays. -/
def wanted : Buf (Elt Ideal) ((c.tc : Thread nD τ).loc main_v0) :=
  Cert.ReferenceIdeal.RefValue.result (argV m c)
    (Cert.ReferenceIdeal.RefValue.weight (Cert.ReferenceIdeal.RefValue.expo (argQ m c) (argK m c))
      (Cert.ReferenceIdeal.RefValue.most (Cert.ReferenceIdeal.RefValue.expo (argQ m c) (argK m c))))

theorem wanted_apply (hf : Finite (argQ m c) (argK m c)) (t : Fin cfg0.N) (i : Fin 1024) (d : Fin 128) (e : Fin 1024)
    (he : e.val = (head t).val * 128 + d.val) :
    wanted m c (ix3 (batch t) (query t i) e) = outOf (iblk m c 0 t) (iblk m c 1 t) (iblk m c 2 t) (ix3 (0 : Fin 1) i d) := by
  rw [outOf_eq (blocksOf m c hf t) i d]
  unfold wanted
  refine Cert.ReferenceIdeal.RefValue.element _ _ _ (batch t) (head t) (query t i) d e he (fun a => (blocksOf m c hf t).qr a i)
    (blocksOf m c hf t).kr ((blocksOf m c hf t).vr d.val) (fun a => ?_) (fun j a => ?_) (fun g a => ?_)
  · exact (block0 m c t a i).symm.trans ((blocksOf m c hf t).hq a i)
  · exact (block1 m c t j _).symm.trans ((blocksOf m c hf t).hk j a)
  · exact (block2 m c t g d a).symm.trans ((blocksOf m c hf t).hv g d a)

theorem final (hf : Finite (argQ m c) (argK m c)) : (dats m 0 c).arrAt 3 cfg0.N = wanted m c :=
  result_of c (dats m 0 c) (fun t => outOf (iblk m c 0 t) (iblk m c 1 t) (iblk m c 2 t)) (after_3 m c) (wanted m c)
    fun t i d e he => (wanted_apply m c hf t i d e he).symm

variable (ρ : Dev nD → PrngReg)

/-- The run ends with the reference's result in the result array and the arguments unchanged. -/
theorem value (hf : ∀ c, Finite (argQ m c) (argK m c)) :
    θ_run defs (onTc (τ := τ) (main (F := Ideal))) ⟨m, fun _ => 0, ρ⟩ (fun r => ∀ c : Dev nD,
      r.2.mem ((c.tc : Thread nD τ).loc main_v0) = wanted m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨((h.1 c).1 3).trans (final m c (hf c)),
      ((h.1 c).1 0).trans (((dats m 0 c).arrAt_in 0 rfl _).trans ((A_eq m c 0).trans (V_main_arg0 m c))),
      ((h.1 c).1 1).trans (((dats m 0 c).arrAt_in 1 rfl _).trans ((A_eq m c 1).trans (V_main_arg1 m c))),
      ((h.1 c).1 2).trans (((dats m 0 c).arrAt_in 2 rfl _).trans ((A_eq m c 2).trans (V_main_arg2 m c)))⟩) (run_main m ρ)

end Cert.KernelIdeal.Run

end
-- ==== Proof.Finite.lean ====
/- The precondition read back: the queries and the keys are real, and the first pad column of the keys is one. -/
module

public import proofs.«01_k».proof.Pre_finite_rows
public import proofs.«01_k».proof.Proof.Softmax
public import Idealize.ShloMosaic.Lib.ReduceAll
public import Idealize.ShloMosaic.Lib.Pointwise

@[expose] public section

set_option maxRecDepth 16384

noncomputable section

namespace Cert.Pre_finite_rows

open Idealize.ShloMosaic Cert.Attn

instance facts : Facts where
  bcast_S_S2x8x192x16384 := by decide
  reducesTo_S2x8x192x16384_S_d0_1_2_3 := by decide
  h_S_ := by decide
  slices_S2x8x16384x208_S2x8x16384x192_0_0_0_0 := by decide
  bcast_S_S2x8x16384x192 := by decide
  reducesTo_S2x8x16384x192_S_d0_1_2_3 := by decide
  slices_S2x8x16384x208_S2x8x16384x1_0_0_0_192 := by decide
  shapeCasts_S2x8x16384x1_S2x8x16384 := by decide
  bcast_S_S2x8x16384 := by decide
  reducesTo_S2x8x16384_S_d0_1_2 := by decide

instance : Subsingleton S_.Idx := ⟨fun _ _ => funext fun a => a.elim0⟩

theorem ofBits_inf : Ideal.ofBits .bf16 0x7F80#16 = ⊤ := by
  simp [Ideal.ofBits, Ideal.ieee]

/-- Being less than infinity in absolute value is being real. -/
theorem isReal_of_lt {x : EReal} (h : max x (-x) < ⊤) : IsReal x := by
  induction x using EReal.rec with
  | bot => exact absurd h (by simp)
  | coe r => exact ⟨r, rfl⟩
  | top => exact absurd h (by simp)

theorem isReal_of_cmp {x y : EReal} (hy : y = ⊤) (h : Ideal.cmp .olt (max x (-x)) y = 1#1) : IsReal x := by
  subst hy
  refine isReal_of_lt ?_
  by_contra hn
  simp [Ideal.cmp, hn] at h

theorem eq_one_of_cmp {x : EReal} (h : Ideal.cmp .oeq x (Ideal.ofBits .bf16 0x3F80#16) = 1#1) : x = 1 := by
  rw [Ideal.ofBits_one_bf16] at h
  by_contra hn
  simp [Ideal.cmp, hn] at h

variable (q : FVec Ideal S2x8x192x16384 .bf16) (k : FVec Ideal S2x8x16384x208 .bf16) (v : FVec Ideal S2x8x64x128x256 .bf16)

open Facts

theorem read_back (h : fn q k v ix0 = 1#1) : (∀ b h c i, IsReal (q (ix4 b h c i)))
    ∧ (∀ b h j (c : Fin 192), IsReal (k (ix4 b h j (Fin.castAdd 16 c : Fin (192 + 16)))))
    ∧ ∀ b h j, k (ix4 b h j (Fin.natAdd 192 (0 : Fin 16) : Fin (192 + 16))) = 1 := by
  unfold fn at h
  dsimp only at h
  obtain ⟨h12, h3⟩ := IntOp.andi_eq_one.1 h
  obtain ⟨h1, h2⟩ := IntOp.andi_eq_one.1 h12
  have e1 := Host.reduce_andi_all _ _ _ _ _ h1
  have e2 := Host.reduce_andi_all _ _ _ _ _ h2
  have e3 := Host.reduce_andi_all _ _ _ _ _ h3
  refine ⟨fun b h c i => isReal_of_cmp ofBits_inf (e1 (ix4 b h c i)), fun b h j c => isReal_of_cmp ofBits_inf ?_,
    fun b h j => eq_one_of_cmp ?_⟩
  · rw [← e2 (ix4 b h j c)]
    pointwise
    rfl
  · rw [← e3 (ix3 b h j)]
    pointwise
    rfl

end Cert.Pre_finite_rows

end
-- ==== Proof.FfnMath.lean ====
/- The feed-forward part of the layer on extended reals, row by row. -/
module

public import Idealize.ShloMosaic.Lib.Pointwise

@[expose] public section

noncomputable section

namespace Cert.Ffn

open Idealize.ShloMosaic
open scoped BigOperators

/-- The mean of a row of 1024 elements. -/
def mean (y : Fin 1024 → EReal) : EReal := Ideal.div (∑ j, y j) (Ideal.ofBits .f32 0x44800000#32)

/-- A row less its mean, over the square root of its variance plus epsilon, times a gain, plus a shift. -/
def normed (y g b : Fin 1024 → EReal) (j : Fin 1024) : EReal :=
  (y j - mean y) * Ideal.rsqrt (mean (fun l => (y l - mean y) * (y l - mean y)) + Ideal.ofBits .f32 0x3727C5AC#32) * g j + b j

/-- The gated unit: `g` times the logistic of `g`, times `a`. -/
def gated (a g : EReal) : EReal := g * Ideal.logistic g * a

/-- The rows of the input by their position, zero behind the last. -/
def rowsOf (x : Vec Ideal (⟨2, ![32768, 1024]⟩ : Shape) .f32) (n : ℕ) (k : Fin 1024) : EReal :=
  if h : n < 32768 then x (ix2 (⟨n, h⟩ : Fin 32768) k) else 0

theorem rowsOf_of (x : Vec Ideal (⟨2, ![32768, 1024]⟩ : Shape) .f32) (n : ℕ) (h : n < 32768) (k : Fin 1024) :
    rowsOf x n k = x (ix2 (⟨n, h⟩ : Fin 32768) k) := dif_pos h

/-- Row `n` of the up-projection, column `c`. -/
def up {W : ℕ} (x : ℕ → Fin 1024 → EReal) (w : Fin 1024 → Fin W → EReal) (n : ℕ) (c : Fin W) : EReal := ∑ k, x n k * w k c

/-- The row before, zero at the start of a sequence. -/
def before {W : ℕ} (x : ℕ → Fin 1024 → EReal) (w : Fin 1024 → Fin W → EReal) (n : ℕ) (c : Fin W) : EReal :=
  if n % 16384 = 0 then 0 else up x w (n - 1) c

/-- The row behind, zero at the end of a sequence. -/
def behind {W : ℕ} (x : ℕ → Fin 1024 → EReal) (w : Fin 1024 → Fin W → EReal) (n : ℕ) (c : Fin W) : EReal :=
  if n % 16384 = 16383 then 0 else up x w (n + 1) c

/-- The convolution over three rows. -/
def conv {W : ℕ} (x : ℕ → Fin 1024 → EReal) (w : Fin 1024 → Fin W → EReal) (wc : Fin 3 → Fin W → EReal) (n : ℕ) (c : Fin W) : EReal :=
  before x w n c * wc 0 c + up x w n c * wc 1 c + behind x w n c * wc 2 c

/-- The convolution as rows of sequences with a zero row before and behind each. -/
theorem conv_padded {W : ℕ} {x : ℕ → Fin 1024 → EReal} {w : Fin 1024 → Fin W → EReal} {p : Fin 2 → Fin 16386 → Fin W → EReal}
    (hin : ∀ (b : Fin 2) (s : Fin 16384) (c : Fin W), p b ⟨1 + s.val, by omega⟩ c = up x w (b.val * 16384 + s.val) c)
    (hout : ∀ (b : Fin 2) (q : Fin 16386) (c : Fin W), q.val = 0 ∨ q.val = 16385 → p b q c = 0)
    (wc : Fin 3 → Fin W → EReal) (b : Fin 2) (s : Fin 16384) (c : Fin W) :
    p b ⟨s.val, by omega⟩ c * wc 0 c + p b ⟨1 + s.val, by omega⟩ c * wc 1 c + p b ⟨2 + s.val, by omega⟩ c * wc 2 c
      = conv x w wc (b.val * 16384 + s.val) c := by
  have h0 : p b ⟨s.val, by omega⟩ c = before x w (b.val * 16384 + s.val) c := by
    unfold before
    by_cases hs : s.val = 0
    · rw [if_pos (by omega), hout _ _ _ (Or.inl hs)]
    · have e : (⟨s.val, by omega⟩ : Fin 16386) = ⟨1 + (⟨s.val - 1, by omega⟩ : Fin 16384).val, by show 1 + (s.val - 1) < 16386; omega⟩ :=
        Fin.ext (by show s.val = 1 + (s.val - 1); omega)
      rw [if_neg (by omega), e, hin]
      exact congrArg (fun n => up x w n c) (by show b.val * 16384 + (s.val - 1) = b.val * 16384 + s.val - 1; omega)
  have h2 : p b ⟨2 + s.val, by omega⟩ c = behind x w (b.val * 16384 + s.val) c := by
    unfold behind
    by_cases hs : s.val = 16383
    · rw [if_pos (by omega), hout _ _ _ (Or.inr (by show 2 + s.val = 16385; omega))]
    · have e : (⟨2 + s.val, by omega⟩ : Fin 16386) = ⟨1 + (⟨s.val + 1, by omega⟩ : Fin 16384).val, by show 1 + (s.val + 1) < 16386; omega⟩ :=
        Fin.ext (by show 2 + s.val = 1 + (s.val + 1); omega)
      rw [if_neg (by omega), e, hin]
      exact congrArg (fun n => up x w n c) (by show b.val * 16384 + (s.val + 1) = b.val * 16384 + s.val + 1; omega)
  rw [h0, h2, hin]
  rfl

/-- The gated unit of row `n`. -/
def act (x : ℕ → Fin 1024 → EReal) (w : Fin 1024 → Fin 5632 → EReal) (wc : Fin 3 → Fin 5632 → EReal) (n : ℕ) (j : Fin 2816) : EReal :=
  gated (conv x w wc n ⟨j.val, Nat.lt_trans j.isLt (by decide)⟩)
    (conv x w wc n ⟨2816 + j.val, Nat.lt_of_lt_of_le (Nat.add_lt_add_left j.isLt 2816) (by decide)⟩)

/-- Row `n` scaled, plus its feed-forward. -/
def summed (x : ℕ → Fin 1024 → EReal) (w : Fin 1024 → Fin 5632 → EReal) (wc : Fin 3 → Fin 5632 → EReal)
    (wd : Fin 2816 → Fin 1024 → EReal) (n : ℕ) (l : Fin 1024) : EReal :=
  Ideal.ofBits .f32 0x3FB504F3#32 * x n l + ∑ j, act x w wc n j * wd j l

/-- Row `n` of the result. -/
def row (x : ℕ → Fin 1024 → EReal) (w : Fin 1024 → Fin 5632 → EReal) (wc : Fin 3 → Fin 5632 → EReal)
    (wd : Fin 2816 → Fin 1024 → EReal) (g b : Fin 1024 → EReal) (n : ℕ) (j : Fin 1024) : EReal :=
  normed (summed x w wc wd n) g b j

end Cert.Ffn

end
-- ==== Proof.FfnRef.lean ====
/- What the feed-forward reference's result is on extended reals, row by row. -/
module

public import proofs.«01_k».proof.Proof.Gen.Reference2Ideal.Run
public import proofs.«01_k».proof.Proof.FfnMath
public import Idealize.ShloMosaic.Lib.Pointwise

@[expose] public section

set_option maxRecDepth 16384

noncomputable section

namespace Cert.Reference2Ideal.RefValue

open Cert.Reference2Ideal Cert.Reference2Ideal.Gen
open Idealize.ShloMosaic Idealize.SL.Sem
open scoped BigOperators

/-- The two sequences of the input rows. -/
def seqs (x : FVec Ideal S32768x1024 .f32) : FVec Ideal S2x16384x1024 .f32 :=
  shapeCast _ x shapeCasts_S32768x1024_S2x16384x1024

/-- The up-projection. -/
def raised (y : FVec Ideal S2x16384x1024 .f32) (w : FVec Ideal S1024x5632 .bf16) : FVec Ideal S2x16384x5632 .f32 :=
  Host.dotGeneral dot_S2x16384x1024_S1024x5632_S2x16384x5632_2_0_01_1_n_n none y (extf .f32 w bitsLt_bf16_f32)

/-- The up-projection with a zero row before and behind each sequence. -/
def padded (u : FVec Ideal S2x16384x5632 .f32) : FVec Ideal S2x16386x5632 .f32 :=
  pad S2x16386x5632 ![0, 1, 0] ![0, 1, 0] ![0, 0, 0] u (sitofp .f32 (constantI S_ 32 0#32))
    pads_S2x16384x5632_S2x16386x5632_000_110_000 h_S_

/-- The convolution of the padded rows. -/
def mixed (p : FVec Ideal S2x16386x5632 .f32) (cv : FVec Ideal S3x5632 .f32) : FVec Ideal S2x16384x5632 .f32 :=
  addf (addf (addf (broadcastInDim S2x16384x5632 ![] bcast_S_S2x16384x5632 (constant S_ .f32 0x00000000#32))
    (mulf (extractStridedSlice S2x16384x5632 ![0, 0, 0] p slices_S2x16386x5632_S2x16384x5632_0_0_0)
      (broadcastInDim S2x16384x5632 ![0, 1, 2] bcast_S1x1x5632_S2x16384x5632_0_1_2 (broadcastInDim S1x1x5632 ![2] bcast_S5632_S1x1x5632_2
        (shapeCast _ (extractStridedSlice S1x5632 ![0, 0] cv slices_S3x5632_S1x5632_0_0) shapeCasts_S1x5632_S5632)))))
    (mulf (extractStridedSlice S2x16384x5632 ![0, 1, 0] p slices_S2x16386x5632_S2x16384x5632_0_1_0)
      (broadcastInDim S2x16384x5632 ![0, 1, 2] bcast_S1x1x5632_S2x16384x5632_0_1_2 (broadcastInDim S1x1x5632 ![2] bcast_S5632_S1x1x5632_2
        (shapeCast _ (extractStridedSlice S1x5632 ![1, 0] cv slices_S3x5632_S1x5632_1_0) shapeCasts_S1x5632_S5632)))))
    (mulf (extractStridedSlice S2x16384x5632 ![0, 2, 0] p slices_S2x16386x5632_S2x16384x5632_0_2_0)
      (broadcastInDim S2x16384x5632 ![0, 1, 2] bcast_S1x1x5632_S2x16384x5632_0_1_2 (broadcastInDim S1x1x5632 ![2] bcast_S5632_S1x1x5632_2
        (shapeCast _ (extractStridedSlice S1x5632 ![2, 0] cv slices_S3x5632_S1x5632_2_0) shapeCasts_S1x5632_S5632))))

/-- The gated units. -/
def units (h : FVec Ideal S2x16384x5632 .f32) : FVec Ideal S2x16384x2816 .f32 :=
  mulf (mulf (extractStridedSlice S2x16384x2816 ![0, 0, 2816] h slices_S2x16384x5632_S2x16384x2816_0_0_2816)
    (Host.divf (broadcastInDim S2x16384x2816 ![] bcast_S_S2x16384x2816 (constant S_ .f32 0x3F800000#32))
      (addf (broadcastInDim S2x16384x2816 ![] bcast_S_S2x16384x2816 (constant S_ .f32 0x3F800000#32))
        (Host.exp (Host.negf (extractStridedSlice S2x16384x2816 ![0, 0, 2816] h slices_S2x16384x5632_S2x16384x2816_0_0_2816))))))
    (extractStridedSlice S2x16384x2816 ![0, 0, 0] h slices_S2x16384x5632_S2x16384x2816_0_0_0)

/-- The scaled input plus the down-projection. -/
def total (y : FVec Ideal S2x16384x1024 .f32) (a : FVec Ideal S2x16384x2816 .f32) (d : FVec Ideal S2816x1024 .bf16) :
    FVec Ideal S2x16384x1024 .f32 :=
  addf (mulf (broadcastInDim S2x16384x1024 ![] bcast_S_S2x16384x1024 (constant S_ .f32 0x3FB504F3#32)) y)
    (Host.dotGeneral dot_S2x16384x2816_S2816x1024_S2x16384x1024_2_0_01_1_n_n none a (extf .f32 d bitsLt_bf16_f32))

/-- The mean of each row. -/
def means (s : FVec Ideal S2x16384x1024 .f32) : FVec Ideal S2x16384x1 .f32 :=
  Host.divf (broadcastInDim S2x16384x1 ![0, 1] bcast_S2x16384_S2x16384x1_0_1
    (Host.reduceAdd s (constant S_ .f32 0x00000000#32) reducesTo_S2x16384x1024_S2x16384_d2 h_S_))
    (broadcastInDim S2x16384x1 ![] bcast_S_S2x16384x1 (constant S_ .f32 0x44800000#32))

/-- Each row less its mean. -/
def less (s : FVec Ideal S2x16384x1024 .f32) : FVec Ideal S2x16384x1024 .f32 :=
  subf s (broadcastInDim S2x16384x1024 ![0, 1, 2] bcast_S2x16384x1_S2x16384x1024_0_1_2 (means s))

/-- The scale of each row: one over the square root of its variance plus epsilon. -/
def scale (e : FVec Ideal S2x16384x1024 .f32) : FVec Ideal S2x16384x1 .f32 :=
  Host.rsqrt (addf (means (mulf e e)) (broadcastInDim S2x16384x1 ![] bcast_S_S2x16384x1 (constant S_ .f32 0x3727C5AC#32)))

/-- The result, of the rows less their means and their scales. -/
def result (e : FVec Ideal S2x16384x1024 .f32) (v : FVec Ideal S2x16384x1 .f32) (g b : FVec Ideal S1x1024 .f32) :
    FVec Ideal S32768x1024 .f32 :=
  shapeCast _ (addf (mulf (mulf e (broadcastInDim S2x16384x1024 ![0, 1, 2] bcast_S2x16384x1_S2x16384x1024_0_1_2 v))
    (broadcastInDim S2x16384x1024 ![0, 1, 2] bcast_S1x1x1024_S2x16384x1024_0_1_2
      (broadcastInDim S1x1x1024 ![2] bcast_S1024_S1x1x1024_2 (shapeCast _ g shapeCasts_S1x1024_S1024))))
    (broadcastInDim S2x16384x1024 ![0, 1, 2] bcast_S1x1x1024_S2x16384x1024_0_1_2
      (broadcastInDim S1x1x1024 ![2] bcast_S1024_S1x1x1024_2 (shapeCast _ b shapeCasts_S1x1024_S1024)))) shapeCasts_S2x16384x1024_S32768x1024

/-- The sums of the arguments. -/
def sums (x : FVec Ideal S32768x1024 .f32) (w : FVec Ideal S1024x5632 .bf16) (cv : FVec Ideal S3x5632 .f32)
    (d : FVec Ideal S2816x1024 .bf16) : FVec Ideal S2x16384x1024 .f32 :=
  total (seqs x) (units (mixed (padded (raised (seqs x) w)) cv)) d

theorem res_eq (m : (ℓ : Loc nD τ sig) → Buf (Elt Ideal) ℓ) (c : Dev nD) :
    Cert.Reference2Ideal.Value.res_main_v61 m c
      = result (less (sums (m ((c.tc : Thread nD τ).loc main_arg0)) (m ((c.tc : Thread nD τ).loc main_arg1))
          (m ((c.tc : Thread nD τ).loc main_arg2)) (m ((c.tc : Thread nD τ).loc main_arg3))))
        (scale (less (sums (m ((c.tc : Thread nD τ).loc main_arg0)) (m ((c.tc : Thread nD τ).loc main_arg1))
          (m ((c.tc : Thread nD τ).loc main_arg2)) (m ((c.tc : Thread nD τ).loc main_arg3)))))
        (m ((c.tc : Thread nD τ).loc main_arg4)) (m ((c.tc : Thread nD τ).loc main_arg5)) := rfl

theorem seqs_apply (x : FVec Ideal S32768x1024 .f32) (b : Fin 2) (s : Fin 16384) (k : Fin 1024) (n : Fin 32768)
    (hn : n.val = b.val * 16384 + s.val) : seqs x (ix3 b s k) = x (ix2 n k) := by
  have e : n = ⟨b.val * 16384 + s.val, by omega⟩ := Fin.ext hn
  rw [e]
  unfold seqs
  pointwise

theorem raised_apply (y : FVec Ideal S2x16384x1024 .f32) (w : FVec Ideal S1024x5632 .bf16) (b : Fin 2) (s : Fin 16384) (c : Fin 5632) :
    raised y w (ix3 b s c) = ∑ k : Fin 1024, y (ix3 b s k) * w (ix2 k c) := by
  unfold raised
  pointwise

theorem padded_in (u : FVec Ideal S2x16384x5632 .f32) (b : Fin 2) (p : Fin 16386) (c : Fin 5632) (s : Fin 16384)
    (hp : p.val = s.val + 1) : padded u (ix3 b p c) = u (ix3 b s c) := by
  unfold padded pad
  rw [dif_pos]
  · congr 1
    funext a
    match a with
    | ⟨0, _⟩ => exact Fin.ext (by show (b.val - 0) / (0 + 1) = b.val; omega)
    | ⟨1, _⟩ => exact Fin.ext (by show (p.val - 1) / (0 + 1) = s.val; omega)
    | ⟨2, _⟩ => exact Fin.ext (by show (c.val - 0) / (0 + 1) = c.val; omega)
  · intro a
    match a with
    | ⟨0, _⟩ => exact (show 0 ≤ b.val ∧ (b.val - 0) % (0 + 1) = 0 ∧ (b.val - 0) / (0 + 1) < 2 by omega)
    | ⟨1, _⟩ => exact (show 1 ≤ p.val ∧ (p.val - 1) % (0 + 1) = 0 ∧ (p.val - 1) / (0 + 1) < 16384 by omega)
    | ⟨2, _⟩ => exact (show 0 ≤ c.val ∧ (c.val - 0) % (0 + 1) = 0 ∧ (c.val - 0) / (0 + 1) < 5632 by omega)

theorem padded_out (u : FVec Ideal S2x16384x5632 .f32) (b : Fin 2) (p : Fin 16386) (c : Fin 5632)
    (hp : p.val = 0 ∨ p.val = 16385) : padded u (ix3 b p c) = 0 := by
  unfold padded pad
  rw [dif_neg]
  · show ((((0#32 : BitVec 32).toInt : ℝ)) : EReal) = 0
    simp
  · intro h
    have h1 : 1 ≤ p.val ∧ (p.val - 1) % (0 + 1) = 0 ∧ (p.val - 1) / (0 + 1) < 16384 := h (1 : Fin 3)
    omega

theorem mixed_apply (p : FVec Ideal S2x16386x5632 .f32) (cv : FVec Ideal S3x5632 .f32) (b : Fin 2) (s : Fin 16384) (c : Fin 5632) :
    mixed p cv (ix3 b s c)
      = p (ix3 b (⟨s.val, by omega⟩ : Fin 16386) c) * cv (ix2 (0 : Fin 3) c)
        + p (ix3 b (⟨1 + s.val, by omega⟩ : Fin 16386) c) * cv (ix2 (1 : Fin 3) c)
        + p (ix3 b (⟨2 + s.val, by omega⟩ : Fin 16386) c) * cv (ix2 (2 : Fin 3) c) := by
  unfold mixed
  pointwise

theorem units_apply (h : FVec Ideal S2x16384x5632 .f32) (b : Fin 2) (s : Fin 16384) (j : Fin 2816) :
    units h (ix3 b s j) = Cert.Ffn.gated (h (ix3 b s (⟨j.val, Nat.lt_trans j.isLt (by decide)⟩ : Fin 5632)))
      (h (ix3 b s (⟨2816 + j.val, Nat.lt_of_lt_of_le (Nat.add_lt_add_left j.isLt 2816) (by decide)⟩ : Fin 5632))) := by
  unfold units Cert.Ffn.gated Ideal.logistic
  pointwise

theorem total_apply (y : FVec Ideal S2x16384x1024 .f32) (a : FVec Ideal S2x16384x2816 .f32) (d : FVec Ideal S2816x1024 .bf16)
    (b : Fin 2) (s : Fin 16384) (l : Fin 1024) :
    total y a d (ix3 b s l) = Ideal.ofBits .f32 0x3FB504F3#32 * y (ix3 b s l) + ∑ j : Fin 2816, a (ix3 b s j) * d (ix2 j l) := by
  unfold total
  pointwise

theorem means_apply (y : FVec Ideal S2x16384x1024 .f32) (b : Fin 2) (s : Fin 16384) :
    means y (ix3 b s (0 : Fin 1)) = Cert.Ffn.mean fun l => y (ix3 b s l) := by
  unfold means Cert.Ffn.mean
  pointwise

theorem less_apply (y : FVec Ideal S2x16384x1024 .f32) (b : Fin 2) (s : Fin 16384) (l : Fin 1024) :
    less y (ix3 b s l) = y (ix3 b s l) - means y (ix3 b s (0 : Fin 1)) := by
  unfold less
  pointwise

theorem scale_apply (e : FVec Ideal S2x16384x1024 .f32) (b : Fin 2) (s : Fin 16384) :
    scale e (ix3 b s (0 : Fin 1)) = Ideal.rsqrt (Cert.Ffn.mean (fun l => e (ix3 b s l) * e (ix3 b s l)) + Ideal.ofBits .f32 0x3727C5AC#32) := by
  have h := means_apply (mulf e e) b s
  unfold scale
  pointwise
  rw [h]
  pointwise

theorem result_apply (e : FVec Ideal S2x16384x1024 .f32) (v : FVec Ideal S2x16384x1 .f32) (g d : FVec Ideal S1x1024 .f32)
    (n : Fin 32768) (j : Fin 1024) :
    result e v g d (ix2 n j) = e (ix3 (⟨n.val / 16384, by omega⟩ : Fin 2) (⟨n.val % 16384, Nat.mod_lt _ (by decide)⟩ : Fin 16384) j)
      * v (ix3 (⟨n.val / 16384, by omega⟩ : Fin 2) (⟨n.val % 16384, Nat.mod_lt _ (by decide)⟩ : Fin 16384) (0 : Fin 1))
      * g (ix2 (0 : Fin 1) j) + d (ix2 (0 : Fin 1) j) := by
  unfold result
  pointwise

variable (x : FVec Ideal S32768x1024 .f32) (w : FVec Ideal S1024x5632 .bf16) (cv : FVec Ideal S3x5632 .f32)
  (d : FVec Ideal S2816x1024 .bf16) (g h : FVec Ideal S1x1024 .f32) (b : Fin 2) (s : Fin 16384)

theorem seqs_row (k : Fin 1024) : seqs x (ix3 b s k) = Cert.Ffn.rowsOf x (b.val * 16384 + s.val) k := by
  have hlt : b.val * 16384 + s.val < 32768 := by omega
  rw [Cert.Ffn.rowsOf_of x _ hlt k]
  exact seqs_apply x b s k _ rfl

theorem raised_row (c : Fin 5632) :
    raised (seqs x) w (ix3 b s c) = Cert.Ffn.up (Cert.Ffn.rowsOf x) (fun k c => w (ix2 k c)) (b.val * 16384 + s.val) c := by
  rw [raised_apply]
  exact Finset.sum_congr rfl fun k _ => by rw [seqs_row]

/-- The convolution's row. -/
theorem mixed_row (c : Fin 5632) : mixed (padded (raised (seqs x) w)) cv (ix3 b s c)
    = Cert.Ffn.conv (Cert.Ffn.rowsOf x) (fun k c => w (ix2 k c)) (fun a c => cv (ix2 a c)) (b.val * 16384 + s.val) c := by
  rw [mixed_apply]
  exact Cert.Ffn.conv_padded (p := fun b q c => padded (raised (seqs x) w) (ix3 b q c))
    (fun b s c => by rw [padded_in _ b _ c s (by show 1 + s.val = s.val + 1; omega), raised_row])
    (fun b q c h => padded_out _ b q c h) (fun a c => cv (ix2 a c)) b s c

/-- The sums' row. -/
theorem sums_row (l : Fin 1024) : sums x w cv d (ix3 b s l)
    = Cert.Ffn.summed (Cert.Ffn.rowsOf x) (fun k c => w (ix2 k c)) (fun a c => cv (ix2 a c)) (fun k l => d (ix2 k l))
      (b.val * 16384 + s.val) l := by
  unfold sums Cert.Ffn.summed Cert.Ffn.act
  rw [total_apply, seqs_row]
  simp only [units_apply, mixed_row]

/-- The reference's element. -/
theorem element (n : Fin 32768) (j : Fin 1024) :
    result (less (sums x w cv d)) (scale (less (sums x w cv d))) g h (ix2 n j)
      = Cert.Ffn.row (Cert.Ffn.rowsOf x) (fun k c => w (ix2 k c)) (fun a c => cv (ix2 a c)) (fun k l => d (ix2 k l))
        (fun l => g (ix2 (0 : Fin 1) l)) (fun l => h (ix2 (0 : Fin 1) l)) n.val j := by
  rw [result_apply, scale_apply]
  simp only [less_apply, means_apply, sums_row]
  have e : n.val / 16384 * 16384 + n.val % 16384 = n.val := by omega
  simp only [e]
  rfl

/-- An array whose elements are the specification's is the reference's result. -/
theorem result_rows (G : FVec Ideal S32768x1024 .f32) (hG : ∀ (n : Fin 32768) (j : Fin 1024), G (ix2 n j)
      = Cert.Ffn.row (Cert.Ffn.rowsOf x) (fun k c => w (ix2 k c)) (fun a c => cv (ix2 a c)) (fun k l => d (ix2 k l))
        (fun l => g (ix2 (0 : Fin 1) l)) (fun l => h (ix2 (0 : Fin 1) l)) n.val j) :
    result (less (sums x w cv d)) (scale (less (sums x w cv d))) g h = G := by
  funext y
  have hy : y = ix2 (y 0) (y 1) := by
    funext a
    match a with
    | ⟨0, _⟩ => rfl
    | ⟨1, _⟩ => rfl
  rw [hy]
  exact (element x w cv d g h (y 0) (y 1)).trans (hG (y 0) (y 1)).symm

end Cert.Reference2Ideal.RefValue

end
-- ==== Proof.FfnOut.lean ====
/- What one grid point of the feed-forward kernel stores, as one term over its blocks. -/
module

public import proofs.«01_k».proof.Proof.Gen.Kernel2Ideal.Value
public import proofs.«01_k».proof.Proof.FfnMath
public import Idealize.ShloMosaic.Lib.Pipeline.ValueKit.Tiles

@[expose] public section

set_option maxRecDepth 16384

noncomputable section

namespace Cert.Kernel2Ideal.Ffn

open Cert.Kernel2Ideal Cert.Kernel2Ideal.Gen
open Idealize.ShloMosaic Idealize.SL.Sem
open scoped BigOperators

theorem zero_off : (![0, 0] : Fin 2 → Nat) = fun _ => 0 := funext fun a => by fin_cases a <;> rfl

/-- Whether a point's tile of rows is the last of its sequence, as the kernel computes it. -/
def lastTile (i : grid0.Coords) : BitVec 1 :=
  Scalar.cmpi CmpIPredicate.eq
    (Scalar.select
      (Scalar.andi (Scalar.xori (Scalar.cmpi CmpIPredicate.slt (Scalar.remsi (BitVec.ofNat 32 (i 0).val) 32#32) 0#32) 0#1)
        (Scalar.cmpi CmpIPredicate.ne (Scalar.remsi (BitVec.ofNat 32 (i 0).val) 32#32) 0#32))
      (Scalar.addi (Scalar.remsi (BitVec.ofNat 32 (i 0).val) 32#32) 32#32)
      (Scalar.remsi (BitVec.ofNat 32 (i 0).val) 32#32))
    31#32

/-- What the three stores leave in the buffer of rows: eight rows before the tile, the tile, eight rows behind it. -/
def rows (i : grid0.Coords) (x0 : Vec Ideal S8x1024 .f32) (x1 : Vec Ideal S512x1024 .f32) (x2 : Vec Ideal S8x1024 .f32) :
    Vec Ideal S528x1024 .f32 :=
  View.canon
    [(⟨Rect.unit ![520, 0] ![8, 1024] inb_S528x1024_S8x1024_520_0, k0_pay4 (lastTile i) x2⟩ : View.Piece (Elt Ideal) S528x1024 .f32),
      ⟨Rect.unit ![8, 0] ![512, 1024] inb_S528x1024_S512x1024_8_0, k0_pay3 x1⟩,
      ⟨Rect.unit ![0, 0] ![8, 1024] inb_S528x1024_S8x1024_0_0, k0_pay2 i x0⟩]

/-- The up-projection of those rows. -/
def hidden (i : grid0.Coords) (x0 : Vec Ideal S8x1024 .f32) (x1 : Vec Ideal S512x1024 .f32) (x2 : Vec Ideal S8x1024 .f32)
    (x3 : Vec Ideal S1024x5632 .bf16) : Vec Ideal S528x5632 .f32 :=
  k0_pay5 (View.ld (rows i x0 x1 x2) (Rect.unit ![0, 0] ![528, 1024] inb_S528x1024_S528x1024_0_0)) x3

/-- The tile that a point stores, of its rows, the up-projection and the weights. -/
def tile (h : Vec Ideal S528x5632 .f32) (x1 : Vec Ideal S512x1024 .f32) (x4 : Vec Ideal S3x5632 .f32)
    (x5 : Vec Ideal S2816x1024 .bf16) (x6 : Vec Ideal S1x1024 .f32) (x7 : Vec Ideal S1x1024 .f32) : Vec Ideal S512x1024 .f32 :=
  k0_pay1
    (k0_pay6 (View.ld h (Rect.unit ![7, 0] ![512, 5632] inb_S528x5632_S512x5632_7_0))
      (View.ld h (Rect.unit ![8, 0] ![512, 5632] inb_S528x5632_S512x5632_8_0))
      (View.ld h (Rect.unit ![9, 0] ![512, 5632] inb_S528x5632_S512x5632_9_0))
      (View.ld x4 (Rect.unit ![0, 0] ![1, 5632] inb_S3x5632_S1x5632_0_0))
      (View.ld x4 (Rect.unit ![1, 0] ![1, 5632] inb_S3x5632_S1x5632_1_0))
      (View.ld x4 (Rect.unit ![2, 0] ![1, 5632] inb_S3x5632_S1x5632_2_0)))
    x5 x1 x6 x7

/-- What the run leaves in the result's buffer is that tile. -/
theorem out_eq (c : Dev nD) (i : grid0.Coords) (arg1 : Memref sig .tc .vmem S8x1024 .f32) (harg1 : arg1.IsWhole) (arg2 : Memref sig .tc .vmem S512x1024 .f32) (harg2 : arg2.IsWhole) (arg3 : Memref sig .tc .vmem S8x1024 .f32) (harg3 : arg3.IsWhole) (arg4 : Memref sig .tc .vmem S1024x5632 .bf16) (harg4 : arg4.IsWhole) (arg5 : Memref sig .tc .vmem S3x5632 .f32) (harg5 : arg5.IsWhole) (arg6 : Memref sig .tc .vmem S2816x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S512x1024 .f32) (harg9 : arg9.IsWhole)
    (arg10 : Memref sig .tc .vmem S528x1024 .f32) (harg10 : arg10.IsWhole) (arg11 : Memref sig .tc .vmem S528x5632 .f32) (harg11 : arg11.IsWhole)
    (x0 : Vec Ideal S8x1024 .f32) (x1 : Vec Ideal S512x1024 .f32) (x2 : Vec Ideal S8x1024 .f32) (x3 : Vec Ideal S1024x5632 .bf16) (x4 : Vec Ideal S3x5632 .f32) (x5 : Vec Ideal S2816x1024 .bf16) (x6 : Vec Ideal S1x1024 .f32) (x7 : Vec Ideal S1x1024 .f32) :
    out0_A_8 c i arg1 harg1 arg2 harg2 arg3 harg3 arg4 harg4 arg5 harg5 arg6 harg6 arg7 harg7 arg8 harg8 arg9 harg9 arg10 harg10 arg11 harg11 x0 x1 x2 x3 x4 x5 x6 x7 = tile (hidden i x0 x1 x2 x3) x1 x4 x5 x6 x7 := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 arg11 harg11 x0 x1 x2 x3 x4 x5 x6 x7)]
  unfold kernelRun0_A
  dsimp only
  sl_unfold_words
  rw [View.canon_unit_zero zero_off]
  simp only [View.readCov_eq_canon', View.readAt_eq_ld, View.canon_unit_zero (S := S528x5632) zero_off, harg1.read_unread, harg2.read_unread, harg3.read_unread, harg4.read_unread, harg5.read_unread, harg6.read_unread, harg7.read_unread, harg8.read_unread, View.ld_unit_zero (S := S8x1024) zero_off, View.ld_unit_zero (S := S512x1024) zero_off, View.ld_unit_zero (S := S1024x5632) zero_off, View.ld_unit_zero (S := S2816x1024) zero_off, View.ld_unit_zero (S := S1x1024) zero_off]
  rfl

/-! ## The vector computations, element by element -/

theorem pay1_apply (v64 : FVec Ideal S512x2816 .bf16) (v65 : Vec Ideal S2816x1024 .bf16) (v67 : Vec Ideal S512x1024 .f32)
    (v71 v72 : Vec Ideal S1x1024 .f32) (r : Fin 512) (j : Fin 1024) :
    k0_pay1 (F := Ideal) v64 v65 v67 v71 v72 (ix2 r j)
      = Cert.Ffn.normed (fun l => Ideal.ofBits .f32 0x3FB504F3#32 * v67 (ix2 r l) + ∑ k : Fin 2816, v64 (ix2 r k) * v65 (ix2 k l))
          (fun l => v71 (ix2 (0 : Fin 1) l)) (fun l => v72 (ix2 (0 : Fin 1) l)) j := by
  unfold k0_pay1 Cert.Ffn.normed Cert.Ffn.mean
  pointwise

theorem pay5_apply (v38 : Vec Ideal S528x1024 .f32) (v40 : Vec Ideal S1024x5632 .bf16) (r : Fin 528) (c : Fin 5632) :
    k0_pay5 (F := Ideal) v38 v40 (ix2 r c) = ∑ k : Fin 1024, v38 (ix2 r k) * v40 (ix2 k c) := by
  unfold k0_pay5
  pointwise

theorem pay6_apply (v45 v46 v47 : Vec Ideal S512x5632 .f32) (v48 v51 v55 : Vec Ideal S1x5632 .f32) (r : Fin 512) (j : Fin 2816)
    (f : Fin 5632 → EReal) (hf : ∀ c, f c = v45 (ix2 r c) * v48 (ix2 (0 : Fin 1) c) + v46 (ix2 r c) * v51 (ix2 (0 : Fin 1) c)
      + v47 (ix2 r c) * v55 (ix2 (0 : Fin 1) c)) :
    k0_pay6 (F := Ideal) v45 v46 v47 v48 v51 v55 (ix2 r j)
      = Cert.Ffn.gated (f ⟨j.val, Nat.lt_trans j.isLt (by decide)⟩)
          (f ⟨2816 + j.val, Nat.lt_of_lt_of_le (Nat.add_lt_add_left j.isLt 2816) (by decide)⟩) := by
  rw [hf, hf]
  unfold k0_pay6 Cert.Ffn.gated
  pointwise

theorem pay3_apply (v28 : Vec Ideal S512x1024 .f32) (r : Fin 512) (k : Fin 1024) : k0_pay3 (F := Ideal) v28 (ix2 r k) = v28 (ix2 r k) := by
  unfold k0_pay3
  pointwise

/-- The choice between a tile of zeros and another. -/
theorem pay4_apply (b : Bool) (v32 : Vec Ideal S8x1024 .f32) (r : Fin 8) (k : Fin 1024) :
    k0_pay4 (F := Ideal) (BitVec.ofBool b) v32 (ix2 r k) = if b then 0 else v32 (ix2 r k) := by
  cases b
  · unfold k0_pay4
    pointwise
    rfl
  · unfold k0_pay4
    pointwise

theorem last_word : ∀ n : Fin 64, Scalar.cmpi CmpIPredicate.eq
    (Scalar.select
      (Scalar.andi (Scalar.xori (Scalar.cmpi CmpIPredicate.slt (Scalar.remsi (BitVec.ofNat 32 n.val) 32#32) 0#32) 0#1)
        (Scalar.cmpi CmpIPredicate.ne (Scalar.remsi (BitVec.ofNat 32 n.val) 32#32) 0#32))
      (Scalar.addi (Scalar.remsi (BitVec.ofNat 32 n.val) 32#32) 32#32)
      (Scalar.remsi (BitVec.ofNat 32 n.val) 32#32))
    31#32 = BitVec.ofBool (n.val % 32 = 31) := by decide +kernel

theorem first_word : ∀ n : Fin 64, Scalar.cmpi CmpIPredicate.eq
    (Scalar.select
      (Scalar.andi (Scalar.xori (Scalar.cmpi CmpIPredicate.slt (Scalar.remsi (BitVec.ofNat 32 n.val) 32#32) 0#32) 0#1)
        (Scalar.cmpi CmpIPredicate.ne (Scalar.remsi (BitVec.ofNat 32 n.val) 32#32) 0#32))
      (Scalar.addi (Scalar.remsi (BitVec.ofNat 32 n.val) 32#32) 32#32)
      (Scalar.remsi (BitVec.ofNat 32 n.val) 32#32))
    0#32 = BitVec.ofBool (n.val % 32 = 0) := by decide +kernel

theorem pay2_eq (i : grid0.Coords) (v22 : Vec Ideal S8x1024 .f32) :
    k0_pay2 (F := Ideal) i v22 = k0_pay4 (F := Ideal) (BitVec.ofBool ((i 0).val % 32 = 0)) v22 := by
  exact congrArg (fun b => k0_pay4 (F := Ideal) b v22) (first_word (i 0))

theorem lastTile_eq (i : grid0.Coords) : lastTile i = BitVec.ofBool ((i 0).val % 32 = 31) := last_word (i 0)

/-! ## The buffer of rows -/

variable (i : grid0.Coords) (x0 : Vec Ideal S8x1024 .f32) (x1 : Vec Ideal S512x1024 .f32) (x2 : Vec Ideal S8x1024 .f32)

/-- An index of a rectangle of whole rows is its row's and its column's. -/
theorem emb_rows {n : ℕ} (o : ℕ) (inb : ∀ a, (![o, 0] : Fin 2 → ℕ) a + (![n, 1024] : Fin 2 → ℕ) a ≤ S528x1024.size a) (r : Fin n) (k : Fin 1024)
    (h : o + r.val < 528) :
    (Rect.unit (s := S528x1024) ![o, 0] ![n, 1024] inb).emb (ix2 r k) = (ix2 (⟨o + r.val, h⟩ : Fin 528) k : S528x1024.Idx) :=
  funext fun a => Fin.ext (match a with
    | ⟨0, _⟩ => congrArg (o + ·) (Nat.one_mul r.val)
    | ⟨1, _⟩ => (Nat.zero_add _).trans (Nat.one_mul k.val))

/-- Rows outside a rectangle of whole rows. -/
theorem not_mem_rows {n : ℕ} (o : ℕ) (inb : ∀ a, (![o, 0] : Fin 2 → ℕ) a + (![n, 1024] : Fin 2 → ℕ) a ≤ S528x1024.size a) (r : Fin 528) (k : Fin 1024)
    (h : r.val < o ∨ o + n ≤ r.val) :
    (ix2 r k : S528x1024.Idx) ∉ (Rect.unit (s := S528x1024) ![o, 0] ![n, 1024] inb).set := by
  rw [Rect.mem_set_unit]
  intro hm
  have h0 := hm (0 : Fin 2)
  have e1 : o ≤ r.val := h0.1
  have e2 : r.val < o + n := h0.2
  omega

/-- What a store leaves untouched. -/
theorem canon_skip (R : Rect S528x1024) (w : R.shape.Idx → Elt Ideal .f32) (L : List (View.Piece (Elt Ideal) S528x1024 .f32)) (y : S528x1024.Idx)
    (h : y ∉ R.set) : View.canon (⟨R, w⟩ :: L) y = View.canon L y := View.canon_cons_of_not_mem _ _ h

theorem rows_behind (r : Fin 8) (k : Fin 1024) :
    rows i x0 x1 x2 (ix2 (⟨520 + r.val, by omega⟩ : Fin 528) k) = if (i 0).val % 32 = 31 then 0 else x2 (ix2 r k) := by
  unfold rows
  rw [← emb_rows 520 inb_S528x1024_S8x1024_520_0 r k, View.canon_cons_emb, lastTile_eq, pay4_apply]
  simp only [decide_eq_true_eq]

theorem rows_tile (r : Fin 512) (k : Fin 1024) :
    rows i x0 x1 x2 (ix2 (⟨8 + r.val, by omega⟩ : Fin 528) k) = x1 (ix2 r k) := by
  unfold rows
  have h := not_mem_rows (n := 8) 520 inb_S528x1024_S8x1024_520_0 (⟨8 + r.val, by omega⟩ : Fin 528) k
    (Or.inl (by show 8 + r.val < 520; omega))
  rw [canon_skip _ _ _ _ h]
  rw [← emb_rows 8 inb_S528x1024_S512x1024_8_0 r k, View.canon_cons_emb, pay3_apply]

theorem rows_before (r : Fin 8) (k : Fin 1024) :
    rows i x0 x1 x2 (ix2 (⟨0 + r.val, by omega⟩ : Fin 528) k) = if (i 0).val % 32 = 0 then 0 else x0 (ix2 r k) := by
  unfold rows
  have h := not_mem_rows (n := 8) 520 inb_S528x1024_S8x1024_520_0 (⟨0 + r.val, by omega⟩ : Fin 528) k
    (Or.inl (by show 0 + r.val < 520; omega))
  have h' := not_mem_rows (n := 512) 8 inb_S528x1024_S512x1024_8_0 (⟨0 + r.val, by omega⟩ : Fin 528) k
    (Or.inl (by show 0 + r.val < 8; omega))
  rw [canon_skip _ _ _ _ h, canon_skip _ _ _ _ h']
  rw [← emb_rows 0 inb_S528x1024_S8x1024_0_0 r k, View.canon_cons_emb, pay2_eq, pay4_apply]
  simp only [decide_eq_true_eq]

/-- A row of the up-projection. -/
theorem hidden_apply (x3 : Vec Ideal S1024x5632 .bf16) (r : Fin 528) (c : Fin 5632) :
    hidden i x0 x1 x2 x3 (ix2 r c) = ∑ k : Fin 1024, rows i x0 x1 x2 (ix2 r k) * x3 (ix2 k c) := by
  unfold hidden
  rw [pay5_apply]
  refine Finset.sum_congr rfl fun k _ => ?_
  rw [View.ld_unit_zero (S := S528x1024) zero_off]

/-- Rows read from the buffer of the up-projection. -/
theorem ld_hidden (o : ℕ) (h : Vec Ideal S528x5632 .f32) (inb : ∀ a, (![o, 0] : Fin 2 → ℕ) a + (![512, 5632] : Fin 2 → ℕ) a ≤ S528x5632.size a)
    (r : Fin 512) (c : Fin 5632) (ho : o + r.val < 528) :
    View.ld h (Rect.unit (s := S528x5632) ![o, 0] ![512, 5632] inb) (ix2 r c) = h (ix2 (⟨o + r.val, ho⟩ : Fin 528) c) :=
  View.ld_unit_apply_of _ _ _ _ _ _ fun b => match b with
    | ⟨0, _⟩ => rfl
    | ⟨1, _⟩ => (Nat.zero_add _).symm

/-- A row of taps. -/
theorem ld_taps (o : Fin 3) (w : Vec Ideal S3x5632 .f32) (inb : ∀ a, (![o.val, 0] : Fin 2 → ℕ) a + (![1, 5632] : Fin 2 → ℕ) a ≤ S3x5632.size a)
    (c : Fin 5632) : View.ld w (Rect.unit (s := S3x5632) ![o.val, 0] ![1, 5632] inb) (ix2 (0 : Fin 1) c) = w (ix2 o c) :=
  View.ld_unit_apply_of _ _ _ _ _ _ fun b => match b with
    | ⟨0, _⟩ => rfl
    | ⟨1, _⟩ => (Nat.zero_add _).symm

end Cert.Kernel2Ideal.Ffn

end
-- ==== Proof.FfnTile.lean ====
/- What one grid point of the feed-forward kernel stores: the specification's rows. -/
module

public import proofs.«01_k».proof.Proof.FfnOut

@[expose] public section

set_option maxRecDepth 16384

noncomputable section

namespace Cert.Kernel2Ideal.Ffn

open Cert.Kernel2Ideal Cert.Kernel2Ideal.Gen
open Idealize.ShloMosaic Idealize.SL.Sem
open scoped BigOperators

variable (i : grid0.Coords) (x0 : Vec Ideal S8x1024 .f32) (x1 : Vec Ideal S512x1024 .f32) (x2 : Vec Ideal S8x1024 .f32)

/-! ## The rows in the array -/

/-- What a point's blocks hold: rows of `x` around the tile. -/
structure Blocks (x : ℕ → Fin 1024 → EReal) : Prop where
  hp : (i 0).val ≠ 0 → ∀ k, x0 (ix2 (7 : Fin 8) k) = x ((i 0).val * 512 - 1) k
  ht : ∀ (r : Fin 512) k, x1 (ix2 r k) = x ((i 0).val * 512 + r.val) k
  hn : (i 0).val ≠ 63 → ∀ k, x2 (ix2 (0 : Fin 8) k) = x ((i 0).val * 512 + 512) k

variable {i x0 x1 x2} {x : ℕ → Fin 1024 → EReal} (hx : Blocks i x0 x1 x2 x)
include hx

section Convolution

variable {W : ℕ} {h : Fin 528 → Fin W → EReal} {w : Fin 1024 → Fin W → EReal} (hh : ∀ r c, h r c = ∑ k, rows i x0 x1 x2 (ix2 r k) * w k c)
include hh

/-- The up-projection's row of a row of the tile. -/
theorem up_at (r : Fin 512) (c : Fin W) : h (⟨8 + r.val, by omega⟩ : Fin 528) c = Cert.Ffn.up x w ((i 0).val * 512 + r.val) c := by
  rw [hh]
  exact Finset.sum_congr rfl fun k _ => by rw [rows_tile, hx.ht]

/-- The row before it. -/
theorem up_before (r : Fin 512) (c : Fin W) : h (⟨7 + r.val, by omega⟩ : Fin 528) c = Cert.Ffn.before x w ((i 0).val * 512 + r.val) c := by
  unfold Cert.Ffn.before
  by_cases hr : r.val = 0
  · have e : (⟨7 + r.val, by omega⟩ : Fin 528) = ⟨0 + (7 : Fin 8).val, by decide⟩ := Fin.ext (by show 7 + r.val = 7; omega)
    rw [e, hh]
    simp only [rows_before]
    by_cases hi : (i 0).val % 32 = 0
    · simp only [if_pos hi, zero_mul, Finset.sum_const_zero]
      rw [if_pos (by omega)]
    · rw [if_neg (by omega)]
      exact Finset.sum_congr rfl fun k _ => by rw [if_neg hi, hx.hp (by omega), hr]; rfl
  · have e : (⟨7 + r.val, by omega⟩ : Fin 528) = ⟨8 + (⟨r.val - 1, by omega⟩ : Fin 512).val, by show 8 + (r.val - 1) < 528; omega⟩ :=
      Fin.ext (by show 7 + r.val = 8 + (r.val - 1); omega)
    rw [e, up_at hx hh, if_neg (by omega)]
    congr 1
    show (i 0).val * 512 + (r.val - 1) = (i 0).val * 512 + r.val - 1
    omega

/-- The row behind it. -/
theorem up_behind (r : Fin 512) (c : Fin W) : h (⟨9 + r.val, by omega⟩ : Fin 528) c = Cert.Ffn.behind x w ((i 0).val * 512 + r.val) c := by
  unfold Cert.Ffn.behind
  by_cases hr : r.val = 511
  · have e : (⟨9 + r.val, by omega⟩ : Fin 528) = ⟨520 + (0 : Fin 8).val, by decide⟩ := Fin.ext (by show 9 + r.val = 520; omega)
    rw [e, hh]
    simp only [rows_behind]
    by_cases hi : (i 0).val % 32 = 31
    · simp only [if_pos hi, zero_mul, Finset.sum_const_zero]
      rw [if_pos (by omega)]
    · rw [if_neg (by omega)]
      exact Finset.sum_congr rfl fun k _ => by rw [if_neg hi, hx.hn (by omega), hr]
  · have e : (⟨9 + r.val, by omega⟩ : Fin 528) = ⟨8 + (⟨r.val + 1, by omega⟩ : Fin 512).val, by show 8 + (r.val + 1) < 528; omega⟩ :=
      Fin.ext (by show 9 + r.val = 8 + (r.val + 1); omega)
    rw [e, up_at hx hh, if_neg (by omega)]
    rfl

/-- The convolution of a row of the tile. -/
theorem conv_at (wc : Fin 3 → Fin W → EReal) (r : Fin 512) (c : Fin W) :
    h (⟨7 + r.val, by omega⟩ : Fin 528) c * wc 0 c + h (⟨8 + r.val, by omega⟩ : Fin 528) c * wc 1 c + h (⟨9 + r.val, by omega⟩ : Fin 528) c * wc 2 c
      = Cert.Ffn.conv x w wc ((i 0).val * 512 + r.val) c := by
  rw [up_before hx hh, up_at hx hh, up_behind hx hh]
  rfl

end Convolution

variable (x3 : Vec Ideal S1024x5632 .bf16)

/-- The gated units of a row of the tile. -/
theorem gate_apply (x4 : Vec Ideal S3x5632 .f32) (r : Fin 512) (k : Fin 2816) :
    k0_pay6 (F := Ideal) (View.ld (hidden i x0 x1 x2 x3) (Rect.unit ![7, 0] ![512, 5632] inb_S528x5632_S512x5632_7_0))
      (View.ld (hidden i x0 x1 x2 x3) (Rect.unit ![8, 0] ![512, 5632] inb_S528x5632_S512x5632_8_0))
      (View.ld (hidden i x0 x1 x2 x3) (Rect.unit ![9, 0] ![512, 5632] inb_S528x5632_S512x5632_9_0))
      (View.ld x4 (Rect.unit ![0, 0] ![1, 5632] inb_S3x5632_S1x5632_0_0))
      (View.ld x4 (Rect.unit ![1, 0] ![1, 5632] inb_S3x5632_S1x5632_1_0))
      (View.ld x4 (Rect.unit ![2, 0] ![1, 5632] inb_S3x5632_S1x5632_2_0)) (ix2 r k)
      = Cert.Ffn.act x (fun k c => x3 (ix2 k c)) (fun a c => x4 (ix2 a c)) ((i 0).val * 512 + r.val) k := by
  refine pay6_apply _ _ _ _ _ _ r k (Cert.Ffn.conv x (fun k c => x3 (ix2 k c)) (fun a c => x4 (ix2 a c)) ((i 0).val * 512 + r.val)) fun c => ?_
  have h7 := ld_hidden 7 (hidden i x0 x1 x2 x3) inb_S528x5632_S512x5632_7_0 r c (by omega)
  have h8 := ld_hidden 8 (hidden i x0 x1 x2 x3) inb_S528x5632_S512x5632_8_0 r c (by omega)
  have h9 := ld_hidden 9 (hidden i x0 x1 x2 x3) inb_S528x5632_S512x5632_9_0 r c (by omega)
  have w0 := ld_taps 0 x4 inb_S3x5632_S1x5632_0_0 c
  have w1 := ld_taps 1 x4 inb_S3x5632_S1x5632_1_0 c
  have w2 := ld_taps 2 x4 inb_S3x5632_S1x5632_2_0 c
  refine (conv_at hx (h := fun r c => hidden i x0 x1 x2 x3 (ix2 r c)) (hidden_apply i x0 x1 x2 x3) (fun a c => x4 (ix2 a c)) r c).symm.trans ?_
  beta_reduce
  rw [← h7, ← h8, ← h9, ← w0, ← w1, ← w2]
  rfl

/-- Every element of the tile that a point stores is the specification's. -/
theorem tile_apply (x4 : Vec Ideal S3x5632 .f32) (x5 : Vec Ideal S2816x1024 .bf16) (x6 x7 : Vec Ideal S1x1024 .f32)
    (r : Fin 512) (j : Fin 1024) :
    tile (hidden i x0 x1 x2 x3) x1 x4 x5 x6 x7 (ix2 r j)
      = Cert.Ffn.row x (fun k c => x3 (ix2 k c)) (fun a c => x4 (ix2 a c)) (fun a l => x5 (ix2 a l))
          (fun l => x6 (ix2 (0 : Fin 1) l)) (fun l => x7 (ix2 (0 : Fin 1) l)) ((i 0).val * 512 + r.val) j := by
  unfold tile Cert.Ffn.row
  rw [pay1_apply]
  have e : (fun l => Ideal.ofBits .f32 0x3FB504F3#32 * x1 (ix2 r l) + ∑ k : Fin 2816, k0_pay6 (F := Ideal)
      (View.ld (hidden i x0 x1 x2 x3) (Rect.unit ![7, 0] ![512, 5632] inb_S528x5632_S512x5632_7_0))
      (View.ld (hidden i x0 x1 x2 x3) (Rect.unit ![8, 0] ![512, 5632] inb_S528x5632_S512x5632_8_0))
      (View.ld (hidden i x0 x1 x2 x3) (Rect.unit ![9, 0] ![512, 5632] inb_S528x5632_S512x5632_9_0))
      (View.ld x4 (Rect.unit ![0, 0] ![1, 5632] inb_S3x5632_S1x5632_0_0))
      (View.ld x4 (Rect.unit ![1, 0] ![1, 5632] inb_S3x5632_S1x5632_1_0))
      (View.ld x4 (Rect.unit ![2, 0] ![1, 5632] inb_S3x5632_S1x5632_2_0)) (ix2 r k) * x5 (ix2 k l))
      = Cert.Ffn.summed x (fun k c => x3 (ix2 k c)) (fun a c => x4 (ix2 a c)) (fun a l => x5 (ix2 a l)) ((i 0).val * 512 + r.val) := by
    funext l
    unfold Cert.Ffn.summed
    simp only [gate_apply hx, hx.ht]
  rw [e]

end Cert.Kernel2Ideal.Ffn

end
-- ==== Proof.FfnValue.lean ====
/- The feed-forward kernel's result array: every element is the specification's. -/
module

public import proofs.«01_k».proof.Proof.FfnTile
public import proofs.«01_k».proof.Proof.Gen.Kernel2Ideal.Value
public import Idealize.ShloMosaic.Lib.Pipeline.ValueKit.Geometry

@[expose] public section

set_option maxRecDepth 16384

noncomputable section

namespace Cert.Kernel2Ideal.Ffn

open Cert.Kernel2Ideal Cert.Kernel2Ideal.Gen
open Idealize.ShloMosaic Idealize.ShloMosaic.TcCoe Idealize.SL.Sem
open scoped BigOperators

theorem index0 : ∀ t : Fin cfg0.N, win0_0.index t = ![(grid0.coords t 0).val * 64 - 1, 0] :=
  (by decide +kernel : ∀ t : Fin grid0.N, _)
theorem index1 : ∀ t : Fin cfg0.N, win0_1.index t = ![(grid0.coords t 0).val, 0] :=
  (by decide +kernel : ∀ t : Fin grid0.N, _)
theorem index2 : ∀ t : Fin cfg0.N, win0_2.index t = ![min ((grid0.coords t 0).val * 64 + 64) 4095, 0] :=
  (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![0, 0] := (by decide +kernel : ∀ t : Fin grid0.N, _)
theorem index6 : ∀ t : Fin cfg0.N, win0_6.index t = ![0, 0] := (by decide +kernel : ∀ t : Fin grid0.N, _)
theorem index7 : ∀ t : Fin cfg0.N, win0_7.index t = ![0, 0] := (by decide +kernel : ∀ t : Fin grid0.N, _)
theorem index8 : ∀ t : Fin cfg0.N, win0_8.index t = ![(grid0.coords t 0).val, 0] :=
  (by decide +kernel : ∀ t : Fin grid0.N, _)

/-- The tile of a point of the grid. -/
def part (t : Fin cfg0.N) : Fin 64 := grid0.coords t 0

variable (m : (ℓ : Loc nD τ sig) → Buf (Elt Ideal) ℓ) (c : Dev nD)

/-- The arrays the run is given. -/
def argX : Vec Ideal S32768x1024 .f32 := m ((c.tc : Thread nD τ).loc main_arg0)
def argUp : Vec Ideal S1024x5632 .bf16 := m ((c.tc : Thread nD τ).loc main_arg1)
def argTaps : Vec Ideal S3x5632 .f32 := m ((c.tc : Thread nD τ).loc main_arg2)
def argDown : Vec Ideal S2816x1024 .bf16 := m ((c.tc : Thread nD τ).loc main_arg3)
def argGain : Vec Ideal S1x1024 .f32 := m ((c.tc : Thread nD τ).loc main_arg4)
def argShift : Vec Ideal S1x1024 .f32 := m ((c.tc : Thread nD τ).loc main_arg5)

theorem block0 (t : Fin cfg0.N) (ht : (part t).val ≠ 0) (k : Fin 1024) :
    iblk m c 0 t (ix2 (7 : Fin 8) k) = argX m c (ix2 (⟨(part t).val * 512 - 1, by have := (part t).isLt; omega⟩ : Fin 32768) k) := by
  unfold argX
  unfold part at ht ⊢
  blk_ext [iblk, V, index0]

theorem block1 (t : Fin cfg0.N) (r : Fin 512) (k : Fin 1024) :
    iblk m c 1 t (ix2 r k) = argX m c (ix2 (⟨(part t).val * 512 + r.val, by have := (part t).isLt; omega⟩ : Fin 32768) k) := by
  unfold argX part
  blk_ext [iblk, V, index1]

theorem block2 (t : Fin cfg0.N) (ht : (part t).val ≠ 63) (k : Fin 1024) :
    iblk m c 2 t (ix2 (0 : Fin 8) k) = argX m c (ix2 (⟨(part t).val * 512 + 512, by have := (part t).isLt; omega⟩ : Fin 32768) k) := by
  have hlt := (part t).isLt
  unfold argX
  unfold part at ht hlt ⊢
  blk_ext [iblk, V, index2]

theorem block3 (t : Fin cfg0.N) (k : Fin 1024) (l : Fin 5632) : iblk m c 3 t (ix2 k l) = argUp m c (ix2 k l) := by
  unfold argUp
  blk_ext [iblk, V, index3]

theorem block4 (t : Fin cfg0.N) (a : Fin 3) (l : Fin 5632) : iblk m c 4 t (ix2 a l) = argTaps m c (ix2 a l) := by
  unfold argTaps
  blk_ext [iblk, V, index4]

theorem block5 (t : Fin cfg0.N) (k : Fin 2816) (l : Fin 1024) : iblk m c 5 t (ix2 k l) = argDown m c (ix2 k l) := by
  unfold argDown
  blk_ext [iblk, V, index5]

theorem block6 (t : Fin cfg0.N) (l : Fin 1024) : iblk m c 6 t (ix2 (0 : Fin 1) l) = argGain m c (ix2 (0 : Fin 1) l) := by
  unfold argGain
  blk_ext [iblk, V, index6]

theorem block7 (t : Fin cfg0.N) (l : Fin 1024) : iblk m c 7 t (ix2 (0 : Fin 1) l) = argShift m c (ix2 (0 : Fin 1) l) := by
  unfold argShift
  blk_ext [iblk, V, index7]

theorem cover8 : (cfg0.win 8).Covers := by decide +kernel

/-- Where the elements of a block of the result lie. -/
theorem emb8 (t : Fin cfg0.N) (r : Fin 512) (j : Fin 1024) (n : Fin 32768) (hn : n.val = (part t).val * 512 + r.val) :
    ((cfg0.win 8).blk t).view.emb (ix2 r j) = ix2 n j := by
  unfold part at hn
  blk_ext [index8]

/-- The blocks of a point hold the rows around its tile. -/
theorem blocksOf (t : Fin cfg0.N) : Blocks (grid0.coords t) (iblk m c 0 t) (iblk m c 1 t) (iblk m c 2 t) (Cert.Ffn.rowsOf (argX m c)) where
  hp h k := by
    have hlt := (part t).isLt
    have hn : (part t).val * 512 - 1 < 32768 := by omega
    exact (block0 m c t h k).trans (Cert.Ffn.rowsOf_of _ _ hn k).symm
  ht r k := by
    have hlt := (part t).isLt
    have hn : (part t).val * 512 + r.val < 32768 := by omega
    exact (block1 m c t r k).trans (Cert.Ffn.rowsOf_of _ _ hn k).symm
  hn h k := by
    have hlt := (part t).isLt
    have h' : (part t).val ≠ 63 := h
    have hn : (part t).val * 512 + 512 < 32768 := by omega
    exact (block2 m c t h k).trans (Cert.Ffn.rowsOf_of _ _ hn k).symm

/-- What the body leaves in the result's block at a point. -/
def outOf (t : Fin cfg0.N) : Vec Ideal S512x1024 .f32 :=
  tile (hidden (grid0.coords t) (iblk m c 0 t) (iblk m c 1 t) (iblk m c 2 t) (iblk m c 3 t)) (iblk m c 1 t) (iblk m c 4 t) (iblk m c 5 t)
    (iblk m c 6 t) (iblk m c 7 t)

/-- The result of the arrays the run is given. -/
def wanted : Buf (Elt Ideal) ((c.tc : Thread nD τ).loc main_v0) := fun y =>
  Cert.Ffn.row (Cert.Ffn.rowsOf (argX m c)) (fun k l => argUp m c (ix2 k l)) (fun a l => argTaps m c (ix2 a l))
    (fun k l => argDown m c (ix2 k l)) (fun l => argGain m c (ix2 (0 : Fin 1) l)) (fun l => argShift m c (ix2 (0 : Fin 1) l))
    (y 0).val (y 1)

theorem outOf_apply (t : Fin cfg0.N) (r : Fin 512) (j : Fin 1024) (n : Fin 32768) (hn : n.val = (part t).val * 512 + r.val) :
    outOf m c t (ix2 r j) = wanted m c (ix2 n j) := by
  have h := tile_apply (blocksOf m c t) (iblk m c 3 t) (iblk m c 4 t) (iblk m c 5 t) (iblk m c 6 t) (iblk m c 7 t) r j
  simp only [block3, block4, block5, block6, block7] at h
  unfold outOf
  rw [h]
  unfold part at hn
  rw [← hn]
  rfl

/-- The result array of any data of the pipeline, of what the body leaves at each point. -/
theorem result_of (dat : Pipeline.Dat τ (Elt Ideal) Unit ℕ (UR sig nD τ) ℕ cfg0 c) (o : Fin cfg0.N → Vec Ideal S512x1024 .f32)
    (ho : ∀ t, dat.after 8 t = o t) (G : Buf (Elt Ideal) ((c.tc : Thread nD τ).loc main_v0))
    (hG : ∀ (t : Fin cfg0.N) (r : Fin 512) (j : Fin 1024) (n : Fin 32768), n.val = (part t).val * 512 + r.val →
      o t (ix2 r j) = G (ix2 n j)) :
    dat.arrAt 8 cfg0.N = G := by
  refine dat.arrAt_eq_of_covers 8 G cover8 fun t _ y => ?_
  obtain ⟨r, j, hy⟩ : ∃ (r : Fin 512) (j : Fin 1024), y = ix2 r j := ⟨y 0, y 1, by
    funext a
    match a with
    | ⟨0, _⟩ => rfl
    | ⟨1, _⟩ => rfl⟩
  subst hy
  have hlt : (part t).val * 512 + r.val < 32768 := by have := (part t).isLt; omega
  rw [emb8 t r j ⟨_, hlt⟩ rfl, ← hG t r j ⟨_, hlt⟩ rfl]
  exact congrFun (ho t) (ix2 r j)

theorem after8 (t : Fin cfg0.N) : (dats m 0 c).after 8 t = outOf m c t := by
  rw [after0_8]
  unfold outsAt0 outOf
  apply out_eq

theorem final : (dats m 0 c).arrAt 8 cfg0.N = wanted m c :=
  result_of c (dats m 0 c) (outOf m c) (after8 m c) (wanted m c) (outOf_apply m c)

end Cert.Kernel2Ideal.Ffn

end
-- ==== Proof.ProjRef.lean ====
/- What the projection references' result is on extended reals, row by row. -/
module

public import proofs.«01_k».proof.Proof.Gen.Reference3Ideal.Run
public import proofs.«01_k».proof.Proof.FfnMath
public import Idealize.ShloMosaic.Lib.Pointwise

@[expose] public section

set_option maxRecDepth 16384

noncomputable section

namespace Cert.Proj

open Cert.Reference3Ideal Cert.Reference3Ideal.Gen
open Idealize.ShloMosaic Idealize.SL.Sem
open scoped BigOperators

/-- Row `n` of the result, of the rows to project, the rows to add and the weights. -/
def row (a x : Fin 32768 → Fin 1024 → EReal) (w : Fin 1024 → Fin 1024 → EReal) (g b : Fin 1024 → EReal) (n : Fin 32768) (j : Fin 1024) : EReal :=
  Cert.Ffn.normed (fun l => Ideal.ofBits .f32 0x3FB504F3#32 * x n l + ∑ k, a n k * w k l) g b j

/-- The scaled rows plus the projected rows. -/
def total (a x : FVec Ideal S32768x1024 .f32) (w : FVec Ideal S1024x1024 .bf16) : FVec Ideal S32768x1024 .f32 :=
  addf (mulf (broadcastInDim S32768x1024 ![] bcast_S_S32768x1024 (constant S_ .f32 0x3FB504F3#32)) x)
    (Host.dotGeneral dot_S32768x1024_S1024x1024_S32768x1024_1_0_0_1_n_n none a (extf .f32 w bitsLt_bf16_f32))

/-- The mean of each row. -/
def means (s : FVec Ideal S32768x1024 .f32) : FVec Ideal S32768x1 .f32 :=
  Host.divf (broadcastInDim S32768x1 ![0] bcast_S32768_S32768x1_0
    (Host.reduceAdd s (constant S_ .f32 0x00000000#32) reducesTo_S32768x1024_S32768_d1 h_S_))
    (broadcastInDim S32768x1 ![] bcast_S_S32768x1 (constant S_ .f32 0x44800000#32))

/-- Each row less its mean. -/
def less (s : FVec Ideal S32768x1024 .f32) : FVec Ideal S32768x1024 .f32 :=
  subf s (broadcastInDim S32768x1024 ![0, 1] bcast_S32768x1_S32768x1024_0_1 (means s))

/-- The scale of each row: one over the square root of its variance plus epsilon. -/
def scale (e : FVec Ideal S32768x1024 .f32) : FVec Ideal S32768x1 .f32 :=
  Host.rsqrt (addf (means (mulf e e)) (broadcastInDim S32768x1 ![] bcast_S_S32768x1 (constant S_ .f32 0x3727C5AC#32)))

/-- The result, of the rows less their means and their scales. -/
def result (e : FVec Ideal S32768x1024 .f32) (v : FVec Ideal S32768x1 .f32) (g b : FVec Ideal S1x1024 .f32) : FVec Ideal S32768x1024 .f32 :=
  addf (mulf (mulf e (broadcastInDim S32768x1024 ![0, 1] bcast_S32768x1_S32768x1024_0_1 v))
    (broadcastInDim S32768x1024 ![0, 1] bcast_S1x1024_S32768x1024_0_1
      (broadcastInDim S1x1024 ![1] bcast_S1024_S1x1024_1 (shapeCast _ g shapeCasts_S1x1024_S1024))))
    (broadcastInDim S32768x1024 ![0, 1] bcast_S1x1024_S32768x1024_0_1
      (broadcastInDim S1x1024 ![1] bcast_S1024_S1x1024_1 (shapeCast _ b shapeCasts_S1x1024_S1024)))

/-- The reference of the rows to project, in the working type. -/
def ref (a x : FVec Ideal S32768x1024 .f32) (w : FVec Ideal S1024x1024 .bf16) (g b : FVec Ideal S1x1024 .f32) : FVec Ideal S32768x1024 .f32 :=
  result (less (total a x w)) (scale (less (total a x w))) g b

theorem total_apply (a x : FVec Ideal S32768x1024 .f32) (w : FVec Ideal S1024x1024 .bf16) (n : Fin 32768) (l : Fin 1024) :
    total a x w (ix2 n l) = Ideal.ofBits .f32 0x3FB504F3#32 * x (ix2 n l) + ∑ k : Fin 1024, a (ix2 n k) * w (ix2 k l) := by
  unfold total
  pointwise

theorem means_apply (y : FVec Ideal S32768x1024 .f32) (n : Fin 32768) :
    means y (ix2 n (0 : Fin 1)) = Cert.Ffn.mean fun l => y (ix2 n l) := by
  unfold means Cert.Ffn.mean
  pointwise

theorem less_apply (y : FVec Ideal S32768x1024 .f32) (n : Fin 32768) (l : Fin 1024) :
    less y (ix2 n l) = y (ix2 n l) - means y (ix2 n (0 : Fin 1)) := by
  unfold less
  pointwise

theorem scale_apply (e : FVec Ideal S32768x1024 .f32) (n : Fin 32768) :
    scale e (ix2 n (0 : Fin 1)) = Ideal.rsqrt (Cert.Ffn.mean (fun l => e (ix2 n l) * e (ix2 n l)) + Ideal.ofBits .f32 0x3727C5AC#32) := by
  have h := means_apply (mulf e e) n
  unfold scale
  pointwise
  rw [h]
  pointwise

theorem result_apply (e : FVec Ideal S32768x1024 .f32) (v : FVec Ideal S32768x1 .f32) (g d : FVec Ideal S1x1024 .f32)
    (n : Fin 32768) (j : Fin 1024) :
    result e v g d (ix2 n j) = e (ix2 n j) * v (ix2 n (0 : Fin 1)) * g (ix2 (0 : Fin 1) j) + d (ix2 (0 : Fin 1) j) := by
  unfold result
  pointwise

/-- The reference's element. -/
theorem element (a x : FVec Ideal S32768x1024 .f32) (w : FVec Ideal S1024x1024 .bf16) (g b : FVec Ideal S1x1024 .f32) (n : Fin 32768) (j : Fin 1024) :
    ref a x w g b (ix2 n j)
      = row (fun n k => a (ix2 n k)) (fun n k => x (ix2 n k)) (fun k l => w (ix2 k l))
        (fun l => g (ix2 (0 : Fin 1) l)) (fun l => b (ix2 (0 : Fin 1) l)) n j := by
  unfold ref row
  rw [result_apply, scale_apply]
  simp only [less_apply, means_apply, total_apply]
  rfl

/-- An array whose elements are the specification's is the reference's result. -/
theorem ref_rows (a x : FVec Ideal S32768x1024 .f32) (w : FVec Ideal S1024x1024 .bf16) (g b : FVec Ideal S1x1024 .f32) (G : FVec Ideal S32768x1024 .f32)
    (hG : ∀ (n : Fin 32768) (j : Fin 1024), G (ix2 n j) = row (fun n k => a (ix2 n k)) (fun n k => x (ix2 n k)) (fun k l => w (ix2 k l))
      (fun l => g (ix2 (0 : Fin 1) l)) (fun l => b (ix2 (0 : Fin 1) l)) n j) : ref a x w g b = G := by
  funext y
  have hy : y = ix2 (y 0) (y 1) := by
    funext a
    match a with
    | ⟨0, _⟩ => rfl
    | ⟨1, _⟩ => rfl
  rw [hy]
  exact (element a x w g b (y 0) (y 1)).trans (hG (y 0) (y 1)).symm

end Cert.Proj

end
-- ==== Proof.ProjValue.lean ====
/- The projection kernel's result array, for rows given in the short type: every element is the specification's. -/
module

public import proofs.«01_k».proof.Proof.ProjRef
public import proofs.«01_k».proof.Proof.FfnOut
public import proofs.«01_k».proof.Proof.Gen.Kernel3Ideal.Value
public import Idealize.ShloMosaic.Lib.Pipeline.ValueKit.Geometry

@[expose] public section

set_option maxRecDepth 16384

noncomputable section

namespace Cert.Kernel3Ideal.Proj

open Cert.Kernel3Ideal Cert.Kernel3Ideal.Gen
open Idealize.ShloMosaic Idealize.ShloMosaic.TcCoe Idealize.SL.Sem
open scoped BigOperators

theorem pay1_apply (v0 : Vec Ideal S512x1024 .bf16) (v1 : Vec Ideal S1024x1024 .bf16) (v3 : Vec Ideal S512x1024 .f32)
    (v7 v8 : Vec Ideal S1x1024 .f32) (r : Fin 512) (j : Fin 1024) :
    k0_pay1 (F := Ideal) v0 v1 v3 v7 v8 (ix2 r j)
      = Cert.Ffn.normed (fun l => Ideal.ofBits .f32 0x3FB504F3#32 * v3 (ix2 r l) + ∑ k : Fin 1024, v0 (ix2 r k) * v1 (ix2 k l))
          (fun l => v7 (ix2 (0 : Fin 1) l)) (fun l => v8 (ix2 (0 : Fin 1) l)) j := by
  unfold k0_pay1 Cert.Ffn.normed Cert.Ffn.mean
  pointwise

theorem index0 : ∀ t : Fin cfg0.N, win0_0.index t = ![(grid0.coords t 0).val, 0] := (by decide +kernel : ∀ t : Fin grid0.N, _)
theorem index1 : ∀ t : Fin cfg0.N, win0_1.index t = ![(grid0.coords t 0).val, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![(grid0.coords t 0).val, 0] := (by decide +kernel : ∀ t : Fin grid0.N, _)

/-- The tile of a point of the grid. -/
def part (t : Fin cfg0.N) : Fin 64 := grid0.coords t 0

variable (m : (ℓ : Loc nD τ sig) → Buf (Elt Ideal) ℓ) (c : Dev nD)

/-- The arrays the run is given. -/
def argA : Vec Ideal S32768x1024 .bf16 := m ((c.tc : Thread nD τ).loc main_arg0)
def argX : Vec Ideal S32768x1024 .f32 := m ((c.tc : Thread nD τ).loc main_arg1)
def argW : Vec Ideal S1024x1024 .bf16 := m ((c.tc : Thread nD τ).loc main_arg2)
def argGain : Vec Ideal S1x1024 .f32 := m ((c.tc : Thread nD τ).loc main_arg3)
def argShift : Vec Ideal S1x1024 .f32 := m ((c.tc : Thread nD τ).loc main_arg4)

theorem block0 (t : Fin cfg0.N) (r : Fin 512) (k : Fin 1024) :
    iblk m c 0 t (ix2 r k) = argA m c (ix2 (⟨(part t).val * 512 + r.val, by have := (part t).isLt; omega⟩ : Fin 32768) k) := by
  unfold argA part
  blk_ext [iblk, V, index0]

theorem block1 (t : Fin cfg0.N) (r : Fin 512) (k : Fin 1024) :
    iblk m c 1 t (ix2 r k) = argX m c (ix2 (⟨(part t).val * 512 + r.val, by have := (part t).isLt; omega⟩ : Fin 32768) k) := by
  unfold argX part
  blk_ext [iblk, V, index1]

theorem block2 (t : Fin cfg0.N) (k l : Fin 1024) : iblk m c 2 t (ix2 k l) = argW m c (ix2 k l) := by
  unfold argW
  blk_ext [iblk, V, index2]

theorem block3 (t : Fin cfg0.N) (l : Fin 1024) : iblk m c 3 t (ix2 (0 : Fin 1) l) = argGain m c (ix2 (0 : Fin 1) l) := by
  unfold argGain
  blk_ext [iblk, V, index3]

theorem block4 (t : Fin cfg0.N) (l : Fin 1024) : iblk m c 4 t (ix2 (0 : Fin 1) l) = argShift m c (ix2 (0 : Fin 1) l) := by
  unfold argShift
  blk_ext [iblk, V, index4]

theorem cover5 : (cfg0.win 5).Covers := by decide +kernel

/-- Where the elements of a block of the result lie. -/
theorem emb5 (t : Fin cfg0.N) (r : Fin 512) (j : Fin 1024) (n : Fin 32768) (hn : n.val = (part t).val * 512 + r.val) :
    ((cfg0.win 5).blk t).view.emb (ix2 r j) = ix2 n j := by
  unfold part at hn
  blk_ext [index5]

/-- What the body leaves in the result's block at a point. -/
def outOf (t : Fin cfg0.N) : Vec Ideal S512x1024 .f32 :=
  k0_pay1 (iblk m c 0 t) (iblk m c 2 t) (iblk m c 1 t) (iblk m c 3 t) (iblk m c 4 t)

/-- The result of the arrays the run is given. -/
def wanted : Buf (Elt Ideal) ((c.tc : Thread nD τ).loc main_v0) := fun y =>
  Cert.Proj.row (fun n k => argA m c (ix2 n k)) (fun n k => argX m c (ix2 n k)) (fun k l => argW m c (ix2 k l))
    (fun l => argGain m c (ix2 (0 : Fin 1) l)) (fun l => argShift m c (ix2 (0 : Fin 1) l)) (y 0) (y 1)

theorem outOf_apply (t : Fin cfg0.N) (r : Fin 512) (j : Fin 1024) (n : Fin 32768) (hn : n.val = (part t).val * 512 + r.val) :
    outOf m c t (ix2 r j) = wanted m c (ix2 n j) := by
  obtain ⟨n, hlt⟩ := n
  have e : n = (part t).val * 512 + r.val := hn
  subst e
  unfold outOf
  rw [pay1_apply]
  simp only [block0, block1, block2, block3, block4]
  rfl

/-- The result array of any data of the pipeline, of what the body leaves at each point. -/
theorem result_of (dat : Pipeline.Dat τ (Elt Ideal) Unit ℕ (UR sig nD τ) ℕ cfg0 c) (o : Fin cfg0.N → Vec Ideal S512x1024 .f32)
    (ho : ∀ t, dat.after 5 t = o t) (G : Buf (Elt Ideal) ((c.tc : Thread nD τ).loc main_v0))
    (hG : ∀ (t : Fin cfg0.N) (r : Fin 512) (j : Fin 1024) (n : Fin 32768), n.val = (part t).val * 512 + r.val →
      o t (ix2 r j) = G (ix2 n j)) :
    dat.arrAt 5 cfg0.N = G := by
  refine dat.arrAt_eq_of_covers 5 G cover5 fun t _ y => ?_
  obtain ⟨r, j, hy⟩ : ∃ (r : Fin 512) (j : Fin 1024), y = ix2 r j := ⟨y 0, y 1, by
    funext a
    match a with
    | ⟨0, _⟩ => rfl
    | ⟨1, _⟩ => rfl⟩
  subst hy
  have hlt : (part t).val * 512 + r.val < 32768 := by have := (part t).isLt; omega
  rw [emb5 t r j ⟨_, hlt⟩ rfl, ← hG t r j ⟨_, hlt⟩ rfl]
  exact congrFun (ho t) (ix2 r j)

theorem after5 (t : Fin cfg0.N) : (dats m 0 c).after 5 t = outOf m c t := by
  rw [after0_5]
  unfold out0_5 outOf
  rw [View.canon_unit_zero Cert.Kernel2Ideal.Ffn.zero_off]
  simp only [View.ld_unit_zero (S := S512x1024) Cert.Kernel2Ideal.Ffn.zero_off, View.ld_unit_zero (S := S1024x1024) Cert.Kernel2Ideal.Ffn.zero_off,
    View.ld_unit_zero (S := S1x1024) Cert.Kernel2Ideal.Ffn.zero_off]

theorem final : (dats m 0 c).arrAt 5 cfg0.N = wanted m c :=
  result_of c (dats m 0 c) (outOf m c) (after5 m c) (wanted m c) (outOf_apply m c)

end Cert.Kernel3Ideal.Proj

end
-- ==== Proof.ProjWide.lean ====
/- The projection kernel's result array, for rows given in the working type: every element is the specification's. -/
module

public import proofs.«01_k».proof.Proof.ProjRef
public import proofs.«01_k».proof.Proof.FfnOut
public import proofs.«01_k».proof.Proof.Gen.Kernel4Ideal.Value
public import Idealize.ShloMosaic.Lib.Pipeline.ValueKit.Geometry

@[expose] public section

set_option maxRecDepth 16384

noncomputable section

namespace Cert.Kernel4Ideal.Proj

open Cert.Kernel4Ideal Cert.Kernel4Ideal.Gen
open Idealize.ShloMosaic Idealize.ShloMosaic.TcCoe Idealize.SL.Sem
open scoped BigOperators

theorem pay1_apply (v0 : Vec Ideal S512x1024 .f32) (v1 : Vec Ideal S1024x1024 .bf16) (v3 : Vec Ideal S512x1024 .f32)
    (v7 v8 : Vec Ideal S1x1024 .f32) (r : Fin 512) (j : Fin 1024) :
    k0_pay1 (F := Ideal) v0 v1 v3 v7 v8 (ix2 r j)
      = Cert.Ffn.normed (fun l => Ideal.ofBits .f32 0x3FB504F3#32 * v3 (ix2 r l) + ∑ k : Fin 1024, v0 (ix2 r k) * v1 (ix2 k l))
          (fun l => v7 (ix2 (0 : Fin 1) l)) (fun l => v8 (ix2 (0 : Fin 1) l)) j := by
  unfold k0_pay1 Cert.Ffn.normed Cert.Ffn.mean
  pointwise

theorem index0 : ∀ t : Fin cfg0.N, win0_0.index t = ![(grid0.coords t 0).val, 0] := (by decide +kernel : ∀ t : Fin grid0.N, _)
theorem index1 : ∀ t : Fin cfg0.N, win0_1.index t = ![(grid0.coords t 0).val, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![(grid0.coords t 0).val, 0] := (by decide +kernel : ∀ t : Fin grid0.N, _)

/-- The tile of a point of the grid. -/
def part (t : Fin cfg0.N) : Fin 64 := grid0.coords t 0

variable (m : (ℓ : Loc nD τ sig) → Buf (Elt Ideal) ℓ) (c : Dev nD)

/-- The arrays the run is given. -/
def argA : Vec Ideal S32768x1024 .f32 := m ((c.tc : Thread nD τ).loc main_arg0)
def argX : Vec Ideal S32768x1024 .f32 := m ((c.tc : Thread nD τ).loc main_arg1)
def argW : Vec Ideal S1024x1024 .bf16 := m ((c.tc : Thread nD τ).loc main_arg2)
def argGain : Vec Ideal S1x1024 .f32 := m ((c.tc : Thread nD τ).loc main_arg3)
def argShift : Vec Ideal S1x1024 .f32 := m ((c.tc : Thread nD τ).loc main_arg4)

theorem block0 (t : Fin cfg0.N) (r : Fin 512) (k : Fin 1024) :
    iblk m c 0 t (ix2 r k) = argA m c (ix2 (⟨(part t).val * 512 + r.val, by have := (part t).isLt; omega⟩ : Fin 32768) k) := by
  unfold argA part
  blk_ext [iblk, V, index0]

theorem block1 (t : Fin cfg0.N) (r : Fin 512) (k : Fin 1024) :
    iblk m c 1 t (ix2 r k) = argX m c (ix2 (⟨(part t).val * 512 + r.val, by have := (part t).isLt; omega⟩ : Fin 32768) k) := by
  unfold argX part
  blk_ext [iblk, V, index1]

theorem block2 (t : Fin cfg0.N) (k l : Fin 1024) : iblk m c 2 t (ix2 k l) = argW m c (ix2 k l) := by
  unfold argW
  blk_ext [iblk, V, index2]

theorem block3 (t : Fin cfg0.N) (l : Fin 1024) : iblk m c 3 t (ix2 (0 : Fin 1) l) = argGain m c (ix2 (0 : Fin 1) l) := by
  unfold argGain
  blk_ext [iblk, V, index3]

theorem block4 (t : Fin cfg0.N) (l : Fin 1024) : iblk m c 4 t (ix2 (0 : Fin 1) l) = argShift m c (ix2 (0 : Fin 1) l) := by
  unfold argShift
  blk_ext [iblk, V, index4]

theorem cover5 : (cfg0.win 5).Covers := by decide +kernel

/-- Where the elements of a block of the result lie. -/
theorem emb5 (t : Fin cfg0.N) (r : Fin 512) (j : Fin 1024) (n : Fin 32768) (hn : n.val = (part t).val * 512 + r.val) :
    ((cfg0.win 5).blk t).view.emb (ix2 r j) = ix2 n j := by
  unfold part at hn
  blk_ext [index5]

/-- What the body leaves in the result's block at a point. -/
def outOf (t : Fin cfg0.N) : Vec Ideal S512x1024 .f32 :=
  k0_pay1 (iblk m c 0 t) (iblk m c 2 t) (iblk m c 1 t) (iblk m c 3 t) (iblk m c 4 t)

/-- The result of the arrays the run is given. -/
def wanted : Buf (Elt Ideal) ((c.tc : Thread nD τ).loc main_v0) := fun y =>
  Cert.Proj.row (fun n k => argA m c (ix2 n k)) (fun n k => argX m c (ix2 n k)) (fun k l => argW m c (ix2 k l))
    (fun l => argGain m c (ix2 (0 : Fin 1) l)) (fun l => argShift m c (ix2 (0 : Fin 1) l)) (y 0) (y 1)

theorem outOf_apply (t : Fin cfg0.N) (r : Fin 512) (j : Fin 1024) (n : Fin 32768) (hn : n.val = (part t).val * 512 + r.val) :
    outOf m c t (ix2 r j) = wanted m c (ix2 n j) := by
  obtain ⟨n, hlt⟩ := n
  have e : n = (part t).val * 512 + r.val := hn
  subst e
  unfold outOf
  rw [pay1_apply]
  simp only [block0, block1, block2, block3, block4]
  rfl

/-- The result array of any data of the pipeline, of what the body leaves at each point. -/
theorem result_of (dat : Pipeline.Dat τ (Elt Ideal) Unit ℕ (UR sig nD τ) ℕ cfg0 c) (o : Fin cfg0.N → Vec Ideal S512x1024 .f32)
    (ho : ∀ t, dat.after 5 t = o t) (G : Buf (Elt Ideal) ((c.tc : Thread nD τ).loc main_v0))
    (hG : ∀ (t : Fin cfg0.N) (r : Fin 512) (j : Fin 1024) (n : Fin 32768), n.val = (part t).val * 512 + r.val →
      o t (ix2 r j) = G (ix2 n j)) :
    dat.arrAt 5 cfg0.N = G := by
  refine dat.arrAt_eq_of_covers 5 G cover5 fun t _ y => ?_
  obtain ⟨r, j, hy⟩ : ∃ (r : Fin 512) (j : Fin 1024), y = ix2 r j := ⟨y 0, y 1, by
    funext a
    match a with
    | ⟨0, _⟩ => rfl
    | ⟨1, _⟩ => rfl⟩
  subst hy
  have hlt : (part t).val * 512 + r.val < 32768 := by have := (part t).isLt; omega
  rw [emb5 t r j ⟨_, hlt⟩ rfl, ← hG t r j ⟨_, hlt⟩ rfl]
  exact congrFun (ho t) (ix2 r j)

theorem after5 (t : Fin cfg0.N) : (dats m 0 c).after 5 t = outOf m c t := by
  rw [after0_5]
  unfold out0_5 outOf
  rw [View.canon_unit_zero Cert.Kernel2Ideal.Ffn.zero_off]
  simp only [View.ld_unit_zero (S := S512x1024) Cert.Kernel2Ideal.Ffn.zero_off, View.ld_unit_zero (S := S1024x1024) Cert.Kernel2Ideal.Ffn.zero_off,
    View.ld_unit_zero (S := S1x1024) Cert.Kernel2Ideal.Ffn.zero_off]

theorem final : (dats m 0 c).arrAt 5 cfg0.N = wanted m c :=
  result_of c (dats m 0 c) (outOf m c) (after5 m c) (wanted m c) (outOf_apply m c)

end Cert.Kernel4Ideal.Proj

end
-- ==== Proof.HyenaOut.lean ====
/- What one grid point of the input convolution's kernel stores in its three results. -/
module

public import proofs.«01_k».proof.Proof.Gen.Kernel5Ideal.Value
public import proofs.«01_k».proof.Proof.FfnTile

@[expose] public section

set_option maxRecDepth 16384

noncomputable section

namespace Cert.Kernel5Ideal.Hyena

open Cert.Kernel5Ideal Cert.Kernel5Ideal.Gen
open Cert.Kernel2Ideal.Ffn (rows Blocks zero_off conv_at)
open Idealize.ShloMosaic Idealize.ShloMosaic.Tactic Idealize.SL.Sem
open scoped BigOperators

/-- The up-projection of the rows around a tile. -/
def hidden (i : grid0.Coords) (x0 : Vec Ideal S8x1024 .f32) (x1 : Vec Ideal S512x1024 .f32) (x2 : Vec Ideal S8x1024 .f32)
    (x3 : Vec Ideal S1024x3072 .bf16) : Vec Ideal S528x3072 .f32 :=
  k0_pay5 (View.ld (rows i x0 x1 x2) (Rect.unit ![0, 0] ![528, 1024] inb_S528x1024_S528x1024_0_0)) x3

/-- The tile of the convolution. -/
def mixed (h : Vec Ideal S528x3072 .f32) (x4 : Vec Ideal S3x3072 .f32) : FVec Ideal S512x3072 .f32 :=
  k0_pay6 (View.ld h (Rect.unit ![7, 0] ![512, 3072] inb_S528x3072_S512x3072_7_0))
    (View.ld h (Rect.unit ![8, 0] ![512, 3072] inb_S528x3072_S512x3072_8_0))
    (View.ld h (Rect.unit ![9, 0] ![512, 3072] inb_S528x3072_S512x3072_9_0))
    (View.ld x4 (Rect.unit ![0, 0] ![1, 3072] inb_S3x3072_S1x3072_0_0))
    (View.ld x4 (Rect.unit ![1, 0] ![1, 3072] inb_S3x3072_S1x3072_1_0))
    (View.ld x4 (Rect.unit ![2, 0] ![1, 3072] inb_S3x3072_S1x3072_2_0))

/-- A block of 128 rows and 1024 columns of the tile, its rows split. -/
def cut (p q : ℕ) (h : S512x3072.Slices ![p, q] S128x1024) (v : FVec Ideal S512x3072 .f32) : FVec Ideal S16x1x1x8x1024 .f32 :=
  shapeCast S16x1x1x8x1024 (shapeCast S16x8x1024 (extractStridedSlice S128x1024 ![p, q] v h) shapeCasts_S128x1024_S16x8x1024)
    shapeCasts_S16x8x1024_S16x1x1x8x1024

/-- The four stores of a result, of the columns from `q` on. -/
def pieces (q : ℕ) (h0 : S512x3072.Slices ![0, q] S128x1024) (h1 : S512x3072.Slices ![128, q] S128x1024) (h2 : S512x3072.Slices ![256, q] S128x1024)
    (h3 : S512x3072.Slices ![384, q] S128x1024) (v : FVec Ideal S512x3072 .f32) : List (View.Piece (Elt Ideal) S16x1x4x8x1024 .f32) :=
  [(⟨Rect.unit ![0, 0, 3, 0, 0] S16x1x1x8x1024.size inb_S16x1x4x8x1024_S16x1x1x8x1024_0_0_3_0_0, cut 384 q h3 v⟩ : View.Piece (Elt Ideal) S16x1x4x8x1024 .f32),
    ⟨Rect.unit ![0, 0, 2, 0, 0] S16x1x1x8x1024.size inb_S16x1x4x8x1024_S16x1x1x8x1024_0_0_2_0_0, cut 256 q h2 v⟩,
    ⟨Rect.unit ![0, 0, 1, 0, 0] S16x1x1x8x1024.size inb_S16x1x4x8x1024_S16x1x1x8x1024_0_0_1_0_0, cut 128 q h1 v⟩,
    ⟨Rect.unit ![0, 0, 0, 0, 0] S16x1x1x8x1024.size inb_S16x1x4x8x1024_S16x1x1x8x1024_0_0_0_0_0, cut 0 q h0 v⟩]

theorem out5_eq (c : Dev nD) (i : grid0.Coords) (arg1 : Memref sig .tc .vmem S8x1024 .f32) (harg1 : arg1.IsWhole) (arg2 : Memref sig .tc .vmem S512x1024 .f32) (harg2 : arg2.IsWhole) (arg3 : Memref sig .tc .vmem S8x1024 .f32) (harg3 : arg3.IsWhole) (arg4 : Memref sig .tc .vmem S1024x3072 .bf16) (harg4 : arg4.IsWhole) (arg5 : Memref sig .tc .vmem S3x3072 .f32) (harg5 : arg5.IsWhole) (arg6 : Memref sig .tc .vmem S16x1x4x8x1024 .f32) (harg6 : arg6.IsWhole) (arg7 : Memref sig .tc .vmem S16x1x4x8x1024 .f32) (harg7 : arg7.IsWhole) (arg8 : Memref sig .tc .vmem S16x1x4x8x1024 .f32) (harg8 : arg8.IsWhole) (arg9 : Memref sig .tc .vmem S528x1024 .f32) (harg9 : arg9.IsWhole) (arg10 : Memref sig .tc .vmem S528x3072 .f32) (harg10 : arg10.IsWhole)
    (x0 : Vec Ideal S8x1024 .f32) (x1 : Vec Ideal S512x1024 .f32) (x2 : Vec Ideal S8x1024 .f32) (x3 : Vec Ideal S1024x3072 .bf16) (x4 : Vec Ideal S3x3072 .f32) :
    out0_A_5 c i arg1 harg1 arg2 harg2 arg3 harg3 arg4 harg4 arg5 harg5 arg6 harg6 arg7 harg7 arg8 harg8 arg9 harg9 arg10 harg10 x0 x1 x2 x3 x4
      = View.canon (pieces 0 slices_S512x3072_o0_0_S128x1024 slices_S512x3072_o128_0_S128x1024 slices_S512x3072_o256_0_S128x1024
        slices_S512x3072_o384_0_S128x1024 (mixed (hidden i x0 x1 x2 x3) x4)) := by
  unfold out0_A_5
  rw [View.read_writes_eq_canon _ _ _ (cover0_A_5 c i arg1 harg1 arg2 harg2 arg3 harg3 arg4 harg4 arg5 harg5 arg6 harg6 arg7 harg7 arg8 harg8 arg9 harg9 arg10 harg10 x0 x1 x2 x3 x4)]
  unfold kernelRun0_A
  dsimp only
  sl_unfold_words
  simp only [View.readCov_eq_canon', View.readAt_eq_ld, View.canon_unit_zero (S := S528x3072) zero_off, harg1.read_unread, harg2.read_unread, harg3.read_unread, harg4.read_unread, harg5.read_unread, View.ld_unit_zero (S := S8x1024) zero_off, View.ld_unit_zero (S := S512x1024) zero_off, View.ld_unit_zero (S := S1024x3072) zero_off]
  rfl

theorem out6_eq (c : Dev nD) (i : grid0.Coords) (arg1 : Memref sig .tc .vmem S8x1024 .f32) (harg1 : arg1.IsWhole) (arg2 : Memref sig .tc .vmem S512x1024 .f32) (harg2 : arg2.IsWhole) (arg3 : Memref sig .tc .vmem S8x1024 .f32) (harg3 : arg3.IsWhole) (arg4 : Memref sig .tc .vmem S1024x3072 .bf16) (harg4 : arg4.IsWhole) (arg5 : Memref sig .tc .vmem S3x3072 .f32) (harg5 : arg5.IsWhole) (arg6 : Memref sig .tc .vmem S16x1x4x8x1024 .f32) (harg6 : arg6.IsWhole) (arg7 : Memref sig .tc .vmem S16x1x4x8x1024 .f32) (harg7 : arg7.IsWhole) (arg8 : Memref sig .tc .vmem S16x1x4x8x1024 .f32) (harg8 : arg8.IsWhole) (arg9 : Memref sig .tc .vmem S528x1024 .f32) (harg9 : arg9.IsWhole) (arg10 : Memref sig .tc .vmem S528x3072 .f32) (harg10 : arg10.IsWhole)
    (x0 : Vec Ideal S8x1024 .f32) (x1 : Vec Ideal S512x1024 .f32) (x2 : Vec Ideal S8x1024 .f32) (x3 : Vec Ideal S1024x3072 .bf16) (x4 : Vec Ideal S3x3072 .f32) :
    out0_A_6 c i arg1 harg1 arg2 harg2 arg3 harg3 arg4 harg4 arg5 harg5 arg6 harg6 arg7 harg7 arg8 harg8 arg9 harg9 arg10 harg10 x0 x1 x2 x3 x4
      = View.canon (pieces 1024 slices_S512x3072_o0_1024_S128x1024 slices_S512x3072_o128_1024_S128x1024 slices_S512x3072_o256_1024_S128x1024
        slices_S512x3072_o384_1024_S128x1024 (mixed (hidden i x0 x1 x2 x3) x4)) := by
  unfold out0_A_6
  rw [View.read_writes_eq_canon _ _ _ (cover0_A_6 c i arg1 harg1 arg2 harg2 arg3 harg3 arg4 harg4 arg5 harg5 arg6 harg6 arg7 harg7 arg8 harg8 arg9 harg9 arg10 harg10 x0 x1 x2 x3 x4)]
  unfold kernelRun0_A
  dsimp only
  sl_unfold_words
  simp only [View.readCov_eq_canon', View.readAt_eq_ld, View.canon_unit_zero (S := S528x3072) zero_off, harg1.read_unread, harg2.read_unread, harg3.read_unread, harg4.read_unread, harg5.read_unread, View.ld_unit_zero (S := S8x1024) zero_off, View.ld_unit_zero (S := S512x1024) zero_off, View.ld_unit_zero (S := S1024x3072) zero_off]
  rfl

theorem out7_eq (c : Dev nD) (i : grid0.Coords) (arg1 : Memref sig .tc .vmem S8x1024 .f32) (harg1 : arg1.IsWhole) (arg2 : Memref sig .tc .vmem S512x1024 .f32) (harg2 : arg2.IsWhole) (arg3 : Memref sig .tc .vmem S8x1024 .f32) (harg3 : arg3.IsWhole) (arg4 : Memref sig .tc .vmem S1024x3072 .bf16) (harg4 : arg4.IsWhole) (arg5 : Memref sig .tc .vmem S3x3072 .f32) (harg5 : arg5.IsWhole) (arg6 : Memref sig .tc .vmem S16x1x4x8x1024 .f32) (harg6 : arg6.IsWhole) (arg7 : Memref sig .tc .vmem S16x1x4x8x1024 .f32) (harg7 : arg7.IsWhole) (arg8 : Memref sig .tc .vmem S16x1x4x8x1024 .f32) (harg8 : arg8.IsWhole) (arg9 : Memref sig .tc .vmem S528x1024 .f32) (harg9 : arg9.IsWhole) (arg10 : Memref sig .tc .vmem S528x3072 .f32) (harg10 : arg10.IsWhole)
    (x0 : Vec Ideal S8x1024 .f32) (x1 : Vec Ideal S512x1024 .f32) (x2 : Vec Ideal S8x1024 .f32) (x3 : Vec Ideal S1024x3072 .bf16) (x4 : Vec Ideal S3x3072 .f32) :
    out0_A_7 c i arg1 harg1 arg2 harg2 arg3 harg3 arg4 harg4 arg5 harg5 arg6 harg6 arg7 harg7 arg8 harg8 arg9 harg9 arg10 harg10 x0 x1 x2 x3 x4
      = View.canon (pieces 2048 slices_S512x3072_o0_2048_S128x1024 slices_S512x3072_o128_2048_S128x1024 slices_S512x3072_o256_2048_S128x1024
        slices_S512x3072_o384_2048_S128x1024 (mixed (hidden i x0 x1 x2 x3) x4)) := by
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 x0 x1 x2 x3 x4)]
  unfold kernelRun0_A
  dsimp only
  sl_unfold_words
  simp only [View.readCov_eq_canon', View.readAt_eq_ld, View.canon_unit_zero (S := S528x3072) zero_off, harg1.read_unread, harg2.read_unread, harg3.read_unread, harg4.read_unread, harg5.read_unread, View.ld_unit_zero (S := S8x1024) zero_off, View.ld_unit_zero (S := S512x1024) zero_off, View.ld_unit_zero (S := S1024x3072) zero_off]
  rfl

end Cert.Kernel5Ideal.Hyena

end
-- ==== Proof.HyenaTile.lean ====
/- The elements that one grid point of the input convolution's kernel stores: the specification's. -/
module

public import proofs.«01_k».proof.Proof.HyenaOut
public import Idealize.ShloMosaic.Lib.Pipeline.ValueKit.Geometry

@[expose] public section

set_option maxRecDepth 16384

noncomputable section

namespace Cert.Kernel5Ideal.Hyena

open Cert.Kernel5Ideal Cert.Kernel5Ideal.Gen
open Cert.Kernel2Ideal.Ffn (rows Blocks zero_off conv_at)
open Idealize.ShloMosaic Idealize.ShloMosaic.Tactic Idealize.SL.Sem
open scoped BigOperators

theorem pay5_apply (v38 : Vec Ideal S528x1024 .f32) (v40 : Vec Ideal S1024x3072 .bf16) (r : Fin 528) (c : Fin 3072) :
    k0_pay5 (F := Ideal) v38 v40 (ix2 r c) = ∑ k : Fin 1024, v38 (ix2 r k) * v40 (ix2 k c) := by
  unfold k0_pay5
  pointwise

theorem pay6_apply (v45 v46 v47 : Vec Ideal S512x3072 .f32) (v48 v51 v55 : Vec Ideal S1x3072 .f32) (r : Fin 512) (c : Fin 3072) :
    k0_pay6 (F := Ideal) v45 v46 v47 v48 v51 v55 (ix2 r c) = v45 (ix2 r c) * v48 (ix2 (0 : Fin 1) c) + v46 (ix2 r c) * v51 (ix2 (0 : Fin 1) c)
      + v47 (ix2 r c) * v55 (ix2 (0 : Fin 1) c) := by
  unfold k0_pay6
  pointwise

theorem hidden_apply (i : grid0.Coords) (x0 : Vec Ideal S8x1024 .f32) (x1 : Vec Ideal S512x1024 .f32) (x2 : Vec Ideal S8x1024 .f32)
    (x3 : Vec Ideal S1024x3072 .bf16) (r : Fin 528) (c : Fin 3072) :
    hidden i x0 x1 x2 x3 (ix2 r c) = ∑ k : Fin 1024, rows i x0 x1 x2 (ix2 r k) * x3 (ix2 k c) := by
  unfold hidden
  rw [pay5_apply]
  refine Finset.sum_congr rfl fun k _ => ?_
  rw [View.ld_unit_zero (S := S528x1024) zero_off]

/-- Rows read from the buffer of the up-projection. -/
theorem ld_hidden (o : ℕ) (h : Vec Ideal S528x3072 .f32) (inb : ∀ a, (![o, 0] : Fin 2 → ℕ) a + (![512, 3072] : Fin 2 → ℕ) a ≤ S528x3072.size a)
    (r : Fin 512) (c : Fin 3072) (ho : o + r.val < 528) :
    View.ld h (Rect.unit (s := S528x3072) ![o, 0] ![512, 3072] inb) (ix2 r c) = h (ix2 (⟨o + r.val, ho⟩ : Fin 528) c) :=
  View.ld_unit_apply_of _ _ _ _ _ _ fun b => match b with
    | ⟨0, _⟩ => rfl
    | ⟨1, _⟩ => (Nat.zero_add _).symm

/-- A row of taps. -/
theorem ld_taps (o : Fin 3) (w : Vec Ideal S3x3072 .f32) (inb : ∀ a, (![o.val, 0] : Fin 2 → ℕ) a + (![1, 3072] : Fin 2 → ℕ) a ≤ S3x3072.size a)
    (c : Fin 3072) : View.ld w (Rect.unit (s := S3x3072) ![o.val, 0] ![1, 3072] inb) (ix2 (0 : Fin 1) c) = w (ix2 o c) :=
  View.ld_unit_apply_of _ _ _ _ _ _ fun b => match b with
    | ⟨0, _⟩ => rfl
    | ⟨1, _⟩ => (Nat.zero_add _).symm

/-- An element of the convolution's tile. -/
theorem mixed_apply {i : grid0.Coords} {x0 : Vec Ideal S8x1024 .f32} {x1 : Vec Ideal S512x1024 .f32} {x2 : Vec Ideal S8x1024 .f32}
    {x : ℕ → Fin 1024 → EReal} (hx : Blocks i x0 x1 x2 x) (x3 : Vec Ideal S1024x3072 .bf16) (x4 : Vec Ideal S3x3072 .f32) (r : Fin 512) (c : Fin 3072) :
    mixed (hidden i x0 x1 x2 x3) x4 (ix2 r c)
      = Cert.Ffn.conv x (fun k c => x3 (ix2 k c)) (fun a c => x4 (ix2 a c)) ((i 0).val * 512 + r.val) c := by
  unfold mixed
  rw [pay6_apply]
  have h7 := ld_hidden 7 (hidden i x0 x1 x2 x3) inb_S528x3072_S512x3072_7_0 r c (by omega)
  have h8 := ld_hidden 8 (hidden i x0 x1 x2 x3) inb_S528x3072_S512x3072_8_0 r c (by omega)
  have h9 := ld_hidden 9 (hidden i x0 x1 x2 x3) inb_S528x3072_S512x3072_9_0 r c (by omega)
  have w0 := ld_taps 0 x4 inb_S3x3072_S1x3072_0_0 c
  have w1 := ld_taps 1 x4 inb_S3x3072_S1x3072_1_0 c
  have w2 := ld_taps 2 x4 inb_S3x3072_S1x3072_2_0 c
  refine Eq.trans ?_ (conv_at hx (h := fun r c => hidden i x0 x1 x2 x3 (ix2 r c)) (hidden_apply i x0 x1 x2 x3) (fun a c => x4 (ix2 a c)) r c)
  beta_reduce
  rw [← h7, ← h8, ← h9, ← w0, ← w1, ← w2]
  rfl

/-- An element of a block cut from the tile. -/
theorem cut_apply (p q : ℕ) (h : S512x3072.Slices ![p, q] S128x1024) (v : FVec Ideal S512x3072 .f32) (g : Fin 16) (b a : Fin 1) (s : Fin 8) (l : Fin 1024)
    (hp : p + 128 ≤ 512) (hq : q + 1024 ≤ 3072) :
    cut p q h v (ix5 g b a s l) = v (ix2 (⟨p + (g.val * 8 + s.val), by omega⟩ : Fin 512) (⟨q + l.val, by omega⟩ : Fin 3072)) := by
  have e : cut p q h v (ix5 g b a s l)
      = extractStridedSlice S128x1024 ![p, q] v h (ix2 (⟨g.val * 8 + s.val, by omega⟩ : Fin 128) l) := by
    unfold cut
    generalize extractStridedSlice S128x1024 ![p, q] v h = y
    pointwise
  rw [e]
  exact extractStridedSlice_apply _ _ h _ _ fun a => match a with
    | ⟨0, _⟩ => rfl
    | ⟨1, _⟩ => rfl

/-- The result's block of a tile: columns from `q` on, row `128 a + 8 g + s` at `(g, a, s)`. -/
def split (q : ℕ) (hq : q + 1024 ≤ 3072) (v : FVec Ideal S512x3072 .f32) : Vec Ideal S16x1x4x8x1024 .f32 := fun y =>
  v (ix2 (⟨(y 2).val * 128 + ((y 0).val * 8 + (y 3).val), by
      have h0 : (y 0).val < 16 := (y 0).isLt
      have h2 : (y 2).val < 4 := (y 2).isLt
      have h3 : (y 3).val < 8 := (y 3).isLt
      omega⟩ : Fin 512)
    (⟨q + (y 4).val, Nat.lt_of_lt_of_le (Nat.add_lt_add_left (y 4).isLt q) hq⟩ : Fin 3072))

/-- An index of a piece is that of its five coordinates. -/
theorem exists_ix5 (y : S16x1x1x8x1024.Idx) :
    ∃ (g : Fin 16) (b a : Fin 1) (s : Fin 8) (l : Fin 1024), y = ix5 g b a s l := ⟨y 0, y 1, y 2, y 3, y 4, by
  funext a
  match a with
  | ⟨0, _⟩ => rfl
  | ⟨1, _⟩ => rfl
  | ⟨2, _⟩ => rfl
  | ⟨3, _⟩ => rfl
  | ⟨4, _⟩ => rfl⟩

/-- A piece's elements are the block's. -/
theorem cut_split (k p q : ℕ) (hk : p = k * 128) (hp : p + 128 ≤ 512) (hq : q + 1024 ≤ 3072) (h : S512x3072.Slices ![p, q] S128x1024) (v : FVec Ideal S512x3072 .f32)
    (inb : ∀ a, (![0, 0, k, 0, 0] : Fin 5 → ℕ) a + S16x1x1x8x1024.size a ≤ S16x1x4x8x1024.size a) (x : S16x1x1x8x1024.Idx) :
    cut p q h v x = split q hq v ((Rect.unit (s := S16x1x4x8x1024) ![0, 0, k, 0, 0] S16x1x1x8x1024.size inb).emb x) := by
  obtain ⟨g, b, a, s, l, rfl⟩ := exists_ix5 x
  rw [cut_apply p q h v g b a s l hp hq]
  unfold split
  refine congrArg v (funext fun e => Fin.ext ?_)
  match e with
  | ⟨0, _⟩ =>
    show p + (g.val * 8 + s.val) = (k + 1 * a.val) * 128 + ((0 + 1 * g.val) * 8 + (0 + 1 * s.val))
    omega
  | ⟨1, _⟩ =>
    show q + l.val = q + (0 + 1 * l.val)
    omega

theorem canon_pieces (q : ℕ) (h0 : S512x3072.Slices ![0, q] S128x1024) (h1 : S512x3072.Slices ![128, q] S128x1024) (h2 : S512x3072.Slices ![256, q] S128x1024)
    (h3 : S512x3072.Slices ![384, q] S128x1024) (v : FVec Ideal S512x3072 .f32) (hq : q + 1024 ≤ 3072) :
    View.canon (pieces q h0 h1 h2 h3 v) = split q hq v := by
  funext y
  refine View.canon_apply_of_pieces (split q hq v) _ ?_ y ?_
  · unfold pieces
    simp only [List.forall_mem_cons]
    exact ⟨cut_split 3 384 q rfl (by decide) hq h3 v _, cut_split 2 256 q rfl (by decide) hq h2 v _, cut_split 1 128 q rfl (by decide) hq h1 v _,
      cut_split 0 0 q rfl (by decide) hq h0 v _, fun _ h => absurd h List.not_mem_nil⟩
  · exact View.cover_of_tiledL (pieces q h0 h1 h2 h3 v) S16x1x1x8x1024.size (by sl_kernel_rfl) y

end Cert.Kernel5Ideal.Hyena

end
-- ==== Proof.HyenaRef.lean ====
/- What the input convolution's reference's results are on extended reals, row by row. -/
module

public import proofs.«01_k».proof.Proof.Gen.Reference5Ideal.Run
public import proofs.«01_k».proof.Proof.FfnRef
public import Idealize.ShloMosaic.Lib.Pointwise

@[expose] public section

set_option maxRecDepth 16384

noncomputable section

namespace Cert.Reference5Ideal.RefValue

open Cert.Reference5Ideal Cert.Reference5Ideal.Gen
open Idealize.ShloMosaic Idealize.SL.Sem
open Cert.Reference2Ideal.RefValue (seqs seqs_row)
open scoped BigOperators

/-- The up-projection. -/
def raised (y : FVec Ideal S2x16384x1024 .f32) (w : FVec Ideal S1024x3072 .bf16) : FVec Ideal S2x16384x3072 .f32 :=
  Host.dotGeneral dot_S2x16384x1024_S1024x3072_S2x16384x3072_2_0_01_1_n_n none y (extf .f32 w bitsLt_bf16_f32)

/-- The up-projection with a zero row before and behind each sequence. -/
def padded (u : FVec Ideal S2x16384x3072 .f32) : FVec Ideal S2x16386x3072 .f32 :=
  pad S2x16386x3072 ![0, 1, 0] ![0, 1, 0] ![0, 0, 0] u (sitofp .f32 (constantI S_ 32 0#32))
    pads_S2x16384x3072_S2x16386x3072_000_110_000 h_S_

/-- The convolution of the padded rows. -/
def mixed (p : FVec Ideal S2x16386x3072 .f32) (cv : FVec Ideal S3x3072 .f32) : FVec Ideal S2x16384x3072 .f32 :=
  addf (addf (addf (broadcastInDim S2x16384x3072 ![] bcast_S_S2x16384x3072 (constant S_ .f32 0x00000000#32))
    (mulf (extractStridedSlice S2x16384x3072 ![0, 0, 0] p slices_S2x16386x3072_S2x16384x3072_0_0_0)
      (broadcastInDim S2x16384x3072 ![0, 1, 2] bcast_S1x1x3072_S2x16384x3072_0_1_2 (broadcastInDim S1x1x3072 ![2] bcast_S3072_S1x1x3072_2
        (shapeCast _ (extractStridedSlice S1x3072 ![0, 0] cv slices_S3x3072_S1x3072_0_0) shapeCasts_S1x3072_S3072)))))
    (mulf (extractStridedSlice S2x16384x3072 ![0, 1, 0] p slices_S2x16386x3072_S2x16384x3072_0_1_0)
      (broadcastInDim S2x16384x3072 ![0, 1, 2] bcast_S1x1x3072_S2x16384x3072_0_1_2 (broadcastInDim S1x1x3072 ![2] bcast_S3072_S1x1x3072_2
        (shapeCast _ (extractStridedSlice S1x3072 ![1, 0] cv slices_S3x3072_S1x3072_1_0) shapeCasts_S1x3072_S3072)))))
    (mulf (extractStridedSlice S2x16384x3072 ![0, 2, 0] p slices_S2x16386x3072_S2x16384x3072_0_2_0)
      (broadcastInDim S2x16384x3072 ![0, 1, 2] bcast_S1x1x3072_S2x16384x3072_0_1_2 (broadcastInDim S1x1x3072 ![2] bcast_S3072_S1x1x3072_2
        (shapeCast _ (extractStridedSlice S1x3072 ![2, 0] cv slices_S3x3072_S1x3072_2_0) shapeCasts_S1x3072_S3072))))

/-- The columns, with the rows of a sequence split in blocks, in their places and with the middle ahead. -/
def ordered (y : FVec Ideal S2x16384x1024 .f32) : FVec Ideal S16x2x128x8x1024 .f32 :=
  transpose S16x2x128x8x1024 [2, 0, 1, 3, 4] (shapeCast _ y shapeCasts_S2x16384x1024_S2x128x16x8x1024) transposes_S2x128x16x8x1024_S16x2x128x8x1024_2_0_1_3_4

/-- The convolution of the arguments. -/
def convolved (x : FVec Ideal S32768x1024 .f32) (w : FVec Ideal S1024x3072 .bf16) (cv : FVec Ideal S3x3072 .f32) : FVec Ideal S2x16384x3072 .f32 :=
  mixed (padded (raised (seqs x) w)) cv

/-- The three results. -/
def ref0 (x : FVec Ideal S32768x1024 .f32) (w : FVec Ideal S1024x3072 .bf16) (cv : FVec Ideal S3x3072 .f32) : FVec Ideal S16x2x128x8x1024 .f32 :=
  ordered (extractStridedSlice S2x16384x1024 ![0, 0, 0] (convolved x w cv) slices_S2x16384x3072_S2x16384x1024_0_0_0)
def ref1 (x : FVec Ideal S32768x1024 .f32) (w : FVec Ideal S1024x3072 .bf16) (cv : FVec Ideal S3x3072 .f32) : FVec Ideal S16x2x128x8x1024 .f32 :=
  ordered (extractStridedSlice S2x16384x1024 ![0, 0, 1024] (convolved x w cv) slices_S2x16384x3072_S2x16384x1024_0_0_1024)
def ref2 (x : FVec Ideal S32768x1024 .f32) (w : FVec Ideal S1024x3072 .bf16) (cv : FVec Ideal S3x3072 .f32) : FVec Ideal S16x2x128x8x1024 .f32 :=
  ordered (extractStridedSlice S2x16384x1024 ![0, 0, 2048] (convolved x w cv) slices_S2x16384x3072_S2x16384x1024_0_0_2048)

theorem raised_apply (y : FVec Ideal S2x16384x1024 .f32) (w : FVec Ideal S1024x3072 .bf16) (b : Fin 2) (s : Fin 16384) (c : Fin 3072) :
    raised y w (ix3 b s c) = ∑ k : Fin 1024, y (ix3 b s k) * w (ix2 k c) := by
  unfold raised
  pointwise

theorem padded_in (u : FVec Ideal S2x16384x3072 .f32) (b : Fin 2) (p : Fin 16386) (c : Fin 3072) (s : Fin 16384)
    (hp : p.val = s.val + 1) : padded u (ix3 b p c) = u (ix3 b s c) := by
  unfold padded pad
  rw [dif_pos]
  · congr 1
    funext a
    match a with
    | ⟨0, _⟩ => exact Fin.ext (by show (b.val - 0) / (0 + 1) = b.val; omega)
    | ⟨1, _⟩ => exact Fin.ext (by show (p.val - 1) / (0 + 1) = s.val; omega)
    | ⟨2, _⟩ => exact Fin.ext (by show (c.val - 0) / (0 + 1) = c.val; omega)
  · intro a
    match a with
    | ⟨0, _⟩ => exact (show 0 ≤ b.val ∧ (b.val - 0) % (0 + 1) = 0 ∧ (b.val - 0) / (0 + 1) < 2 by omega)
    | ⟨1, _⟩ => exact (show 1 ≤ p.val ∧ (p.val - 1) % (0 + 1) = 0 ∧ (p.val - 1) / (0 + 1) < 16384 by omega)
    | ⟨2, _⟩ => exact (show 0 ≤ c.val ∧ (c.val - 0) % (0 + 1) = 0 ∧ (c.val - 0) / (0 + 1) < 3072 by omega)

theorem padded_out (u : FVec Ideal S2x16384x3072 .f32) (b : Fin 2) (p : Fin 16386) (c : Fin 3072)
    (hp : p.val = 0 ∨ p.val = 16385) : padded u (ix3 b p c) = 0 := by
  unfold padded pad
  rw [dif_neg]
  · show ((((0#32 : BitVec 32).toInt : ℝ)) : EReal) = 0
    simp
  · intro h
    have h1 : 1 ≤ p.val ∧ (p.val - 1) % (0 + 1) = 0 ∧ (p.val - 1) / (0 + 1) < 16384 := h (1 : Fin 3)
    omega

theorem mixed_apply (p : FVec Ideal S2x16386x3072 .f32) (cv : FVec Ideal S3x3072 .f32) (b : Fin 2) (s : Fin 16384) (c : Fin 3072) :
    mixed p cv (ix3 b s c)
      = p (ix3 b (⟨s.val, by omega⟩ : Fin 16386) c) * cv (ix2 (0 : Fin 3) c)
        + p (ix3 b (⟨1 + s.val, by omega⟩ : Fin 16386) c) * cv (ix2 (1 : Fin 3) c)
        + p (ix3 b (⟨2 + s.val, by omega⟩ : Fin 16386) c) * cv (ix2 (2 : Fin 3) c) := by
  unfold mixed
  pointwise

variable (x : FVec Ideal S32768x1024 .f32) (w : FVec Ideal S1024x3072 .bf16) (cv : FVec Ideal S3x3072 .f32)

theorem raised_row (b : Fin 2) (s : Fin 16384) (c : Fin 3072) :
    raised (seqs x) w (ix3 b s c) = Cert.Ffn.up (Cert.Ffn.rowsOf x) (fun k c => w (ix2 k c)) (b.val * 16384 + s.val) c := by
  rw [raised_apply]
  exact Finset.sum_congr rfl fun k _ => by rw [seqs_row]

/-- The convolution's row. -/
theorem convolved_row (b : Fin 2) (s : Fin 16384) (c : Fin 3072) : convolved x w cv (ix3 b s c)
    = Cert.Ffn.conv (Cert.Ffn.rowsOf x) (fun k c => w (ix2 k c)) (fun a c => cv (ix2 a c)) (b.val * 16384 + s.val) c := by
  unfold convolved
  rw [mixed_apply]
  exact Cert.Ffn.conv_padded (p := fun b q c => padded (raised (seqs x) w) (ix3 b q c))
    (fun b s c => by rw [padded_in _ b _ c s (by show 1 + s.val = s.val + 1; omega), raised_row])
    (fun b q c h => padded_out _ b q c h) (fun a c => cv (ix2 a c)) b s c

theorem ordered_apply (y : FVec Ideal S2x16384x1024 .f32) (g : Fin 16) (b : Fin 2) (a : Fin 128) (s : Fin 8) (l : Fin 1024) :
    ordered y (ix5 g b a s l) = y (ix3 b (⟨a.val * 128 + g.val * 8 + s.val, by omega⟩ : Fin 16384) l) := by
  unfold ordered
  pointwise

/-- Column `o` on of the convolution, in the results' order: the element of sequence `b` at row `128 a + 8 g + s`. -/
def wantedOf (o : ℕ) (ho : o + 1024 ≤ 3072) : FVec Ideal S16x2x128x8x1024 .f32 := fun y =>
  Cert.Ffn.conv (Cert.Ffn.rowsOf x) (fun k c => w (ix2 k c)) (fun a c => cv (ix2 a c))
    ((y 1).val * 16384 + ((y 2).val * 128 + (y 0).val * 8 + (y 3).val)) ⟨o + (y 4).val, Nat.lt_of_lt_of_le (Nat.add_lt_add_left (y 4).isLt o) ho⟩

/-- An index of the results is that of its five coordinates. -/
theorem exists_ix5 (y : S16x2x128x8x1024.Idx) :
    ∃ (g : Fin 16) (b : Fin 2) (a : Fin 128) (s : Fin 8) (l : Fin 1024), y = ix5 g b a s l := ⟨y 0, y 1, y 2, y 3, y 4, by
  funext a
  match a with
  | ⟨0, _⟩ => rfl
  | ⟨1, _⟩ => rfl
  | ⟨2, _⟩ => rfl
  | ⟨3, _⟩ => rfl
  | ⟨4, _⟩ => rfl⟩

theorem ordered_part (o : ℕ) (ho : o + 1024 ≤ 3072) (h : S2x16384x3072.Slices ![0, 0, o] S2x16384x1024) :
    ordered (extractStridedSlice S2x16384x1024 ![0, 0, o] (convolved x w cv) h) = wantedOf x w cv o ho := by
  funext y
  obtain ⟨g, b, a, s, l, rfl⟩ := exists_ix5 y
  rw [ordered_apply]
  refine (extractStridedSlice_apply _ _ h _ (ix3 b (⟨a.val * 128 + g.val * 8 + s.val, by omega⟩ : Fin 16384)
    (⟨o + l.val, Nat.lt_of_lt_of_le (Nat.add_lt_add_left l.isLt o) ho⟩ : Fin 3072)) fun a => ?_).trans ?_
  · match a with
    | ⟨0, _⟩ => exact (Nat.zero_add _).symm
    | ⟨1, _⟩ => exact (Nat.zero_add _).symm
    | ⟨2, _⟩ => rfl
  · exact convolved_row x w cv _ _ _

theorem ref0_eq : ref0 x w cv = wantedOf x w cv 0 (by decide) := ordered_part x w cv 0 _ _
theorem ref1_eq : ref1 x w cv = wantedOf x w cv 1024 (by decide) := ordered_part x w cv 1024 _ _
theorem ref2_eq : ref2 x w cv = wantedOf x w cv 2048 (by decide) := ordered_part x w cv 2048 _ _

end Cert.Reference5Ideal.RefValue

end
-- ==== Proof.HyenaValue.lean ====
/- The input convolution's kernel's three result arrays: every element is the specification's. -/
module

public import proofs.«01_k».proof.Proof.HyenaTile
public import proofs.«01_k».proof.Proof.HyenaRef
public import Idealize.ShloMosaic.Lib.Pipeline.ValueKit.Geometry

@[expose] public section

set_option maxRecDepth 16384

noncomputable section

namespace Cert.Kernel5Ideal.Hyena

open Cert.Kernel5Ideal Cert.Kernel5Ideal.Gen
open Cert.Kernel2Ideal.Ffn (Blocks)
open Cert.Reference5Ideal.RefValue (wantedOf)
open Idealize.ShloMosaic Idealize.ShloMosaic.TcCoe Idealize.SL.Sem
open scoped BigOperators

theorem index0 : ∀ t : Fin cfg0.N, win0_0.index t = ![(grid0.coords t 0).val * 64 - 1, 0] :=
  (by decide +kernel : ∀ t : Fin grid0.N, _)
theorem index1 : ∀ t : Fin cfg0.N, win0_1.index t = ![(grid0.coords t 0).val, 0] :=
  (by decide +kernel : ∀ t : Fin grid0.N, _)
theorem index2 : ∀ t : Fin cfg0.N, win0_2.index t = ![min ((grid0.coords t 0).val * 64 + 64) 4095, 0] :=
  (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![0, (grid0.coords t 0).val / 32, (grid0.coords t 0).val % 32, 0, 0] :=
  (by decide +kernel : ∀ t : Fin grid0.N, _)
theorem index6 : ∀ t : Fin cfg0.N, win0_6.index t = ![0, (grid0.coords t 0).val / 32, (grid0.coords t 0).val % 32, 0, 0] :=
  (by decide +kernel : ∀ t : Fin grid0.N, _)
theorem index7 : ∀ t : Fin cfg0.N, win0_7.index t = ![0, (grid0.coords t 0).val / 32, (grid0.coords t 0).val % 32, 0, 0] :=
  (by decide +kernel : ∀ t : Fin grid0.N, _)

/-- The tile of a point of the grid. -/
def part (t : Fin cfg0.N) : Fin 64 := grid0.coords t 0

variable (m : (ℓ : Loc nD τ sig) → Buf (Elt Ideal) ℓ) (c : Dev nD)

/-- The arrays the run is given. -/
def argX : Vec Ideal S32768x1024 .f32 := m ((c.tc : Thread nD τ).loc main_arg0)
def argIn : Vec Ideal S1024x3072 .bf16 := m ((c.tc : Thread nD τ).loc main_arg1)
def argTaps : Vec Ideal S3x3072 .f32 := m ((c.tc : Thread nD τ).loc main_arg2)

theorem block0 (t : Fin cfg0.N) (ht : (part t).val ≠ 0) (k : Fin 1024) :
    iblk m c 0 t (ix2 (7 : Fin 8) k) = argX m c (ix2 (⟨(part t).val * 512 - 1, by have := (part t).isLt; omega⟩ : Fin 32768) k) := by
  unfold argX
  unfold part at ht ⊢
  blk_ext [iblk, V, index0]

theorem block1 (t : Fin cfg0.N) (r : Fin 512) (k : Fin 1024) :
    iblk m c 1 t (ix2 r k) = argX m c (ix2 (⟨(part t).val * 512 + r.val, by have := (part t).isLt; omega⟩ : Fin 32768) k) := by
  unfold argX part
  blk_ext [iblk, V, index1]

theorem block2 (t : Fin cfg0.N) (ht : (part t).val ≠ 63) (k : Fin 1024) :
    iblk m c 2 t (ix2 (0 : Fin 8) k) = argX m c (ix2 (⟨(part t).val * 512 + 512, by have := (part t).isLt; omega⟩ : Fin 32768) k) := by
  have hlt := (part t).isLt
  unfold argX
  unfold part at ht hlt ⊢
  blk_ext [iblk, V, index2]

theorem block3 (t : Fin cfg0.N) (k : Fin 1024) (l : Fin 3072) : iblk m c 3 t (ix2 k l) = argIn m c (ix2 k l) := by
  unfold argIn
  blk_ext [iblk, V, index3]

theorem block4 (t : Fin cfg0.N) (a : Fin 3) (l : Fin 3072) : iblk m c 4 t (ix2 a l) = argTaps m c (ix2 a l) := by
  unfold argTaps
  blk_ext [iblk, V, index4]

/-- The blocks of a point hold the rows around its tile. -/
theorem blocksOf (t : Fin cfg0.N) : Blocks (grid0.coords t) (iblk m c 0 t) (iblk m c 1 t) (iblk m c 2 t) (Cert.Ffn.rowsOf (argX m c)) where
  hp h k := by
    have hlt := (part t).isLt
    have hn : (part t).val * 512 - 1 < 32768 := by omega
    exact (block0 m c t h k).trans (Cert.Ffn.rowsOf_of _ _ hn k).symm
  ht r k := by
    have hlt := (part t).isLt
    have hn : (part t).val * 512 + r.val < 32768 := by omega
    exact (block1 m c t r k).trans (Cert.Ffn.rowsOf_of _ _ hn k).symm
  hn h k := by
    have hlt := (part t).isLt
    have h' : (part t).val ≠ 63 := h
    have hn : (part t).val * 512 + 512 < 32768 := by omega
    exact (block2 m c t h k).trans (Cert.Ffn.rowsOf_of _ _ hn k).symm

/-- What the body leaves in a result's block at a point. -/
def outOf (q : ℕ) (hq : q + 1024 ≤ 3072) (t : Fin cfg0.N) : Vec Ideal S16x1x4x8x1024 .f32 :=
  split q hq (mixed (hidden (grid0.coords t) (iblk m c 0 t) (iblk m c 1 t) (iblk m c 2 t) (iblk m c 3 t)) (iblk m c 4 t))

theorem outOf_apply (q : ℕ) (hq : q + 1024 ≤ 3072) (t : Fin cfg0.N) (g : Fin 16) (z : Fin 1) (a : Fin 4) (s : Fin 8) (l : Fin 1024) (b : Fin 2) (a' : Fin 128)
    (hb : b.val = (part t).val / 32) (ha : a'.val = (part t).val % 32 * 4 + a.val) :
    outOf m c q hq t (ix5 g z a s l) = wantedOf (argX m c) (argIn m c) (argTaps m c) q hq (ix5 g b a' s l) := by
  have h := mixed_apply (blocksOf m c t) (iblk m c 3 t) (iblk m c 4 t) (⟨a.val * 128 + (g.val * 8 + s.val), by omega⟩ : Fin 512)
    (⟨q + l.val, Nat.lt_of_lt_of_le (Nat.add_lt_add_left l.isLt q) hq⟩ : Fin 3072)
  simp only [block3, block4] at h
  refine h.trans ?_
  refine congrArg (fun n => Cert.Ffn.conv (Cert.Ffn.rowsOf (argX m c)) (fun k l => argIn m c (ix2 k l)) (fun a l => argTaps m c (ix2 a l)) n
    (⟨q + l.val, Nat.lt_of_lt_of_le (Nat.add_lt_add_left l.isLt q) hq⟩ : Fin 3072)) ?_
  show (part t).val * 512 + (a.val * 128 + (g.val * 8 + s.val)) = b.val * 16384 + (a'.val * 128 + g.val * 8 + s.val)
  omega

/-- An index of a block is that of its five coordinates. -/
theorem exists_block (y : S16x1x4x8x1024.Idx) :
    ∃ (g : Fin 16) (z : Fin 1) (a : Fin 4) (s : Fin 8) (l : Fin 1024), y = ix5 g z a s l := ⟨y 0, y 1, y 2, y 3, y 4, by
  funext a
  match a with
  | ⟨0, _⟩ => rfl
  | ⟨1, _⟩ => rfl
  | ⟨2, _⟩ => rfl
  | ⟨3, _⟩ => rfl
  | ⟨4, _⟩ => rfl⟩

theorem cover5 : (cfg0.win 5).Covers := by decide +kernel

/-- Where the elements of a block of the result lie. -/
theorem emb5 (t : Fin cfg0.N) (g : Fin 16) (z : Fin 1) (a : Fin 4) (s : Fin 8) (l : Fin 1024) (b : Fin 2) (a' : Fin 128)
    (hb : b.val = (part t).val / 32) (ha : a'.val = (part t).val % 32 * 4 + a.val) :
    ((cfg0.win 5).blk t).view.emb (ix5 g z a s l) = ix5 g b a' s l := by
  unfold part at hb ha
  blk_ext [index5]

/-- The result of the arrays the run is given. -/
def wanted0 : Buf (Elt Ideal) ((c.tc : Thread nD τ).loc main_v0_0) := wantedOf (argX m c) (argIn m c) (argTaps m c) 0 (by decide)

/-- The result array of any data of the pipeline, of what the body leaves at each point. -/
theorem result_of5 (dat : Pipeline.Dat τ (Elt Ideal) Unit ℕ (UR sig nD τ) ℕ cfg0 c)
    (ho : ∀ t, dat.after 5 t = outOf m c 0 (by decide) t) : dat.arrAt 5 cfg0.N = wanted0 m c := by
  refine dat.arrAt_eq_of_covers 5 _ cover5 fun t _ y => ?_
  obtain ⟨g, z, a, s, l, rfl⟩ := exists_block y
  have hlt : (part t).val % 32 * 4 + a.val < 128 := by omega
  have hlb : (part t).val / 32 < 2 := by have := (part t).isLt; omega
  rw [emb5 t g z a s l ⟨_, hlb⟩ ⟨_, hlt⟩ rfl rfl]
  refine (congrFun (ho t) (ix5 g z a s l)).trans ?_
  exact outOf_apply m c 0 (by decide) t g z a s l ⟨_, hlb⟩ ⟨_, hlt⟩ rfl rfl

theorem after5 (t : Fin cfg0.N) : (dats m 0 c).after 5 t = outOf m c 0 (by decide) t := by
  rw [after0_5]
  unfold outsAt0 outOf
  dsimp only
  rw [out5_eq, canon_pieces 0 _ _ _ _ _ (by decide)]

theorem final5 : (dats m 0 c).arrAt 5 cfg0.N = wanted0 m c := result_of5 m c (dats m 0 c) (after5 m c)

theorem cover6 : (cfg0.win 6).Covers := by decide +kernel

/-- Where the elements of a block of the result lie. -/
theorem emb6 (t : Fin cfg0.N) (g : Fin 16) (z : Fin 1) (a : Fin 4) (s : Fin 8) (l : Fin 1024) (b : Fin 2) (a' : Fin 128)
    (hb : b.val = (part t).val / 32) (ha : a'.val = (part t).val % 32 * 4 + a.val) :
    ((cfg0.win 6).blk t).view.emb (ix5 g z a s l) = ix5 g b a' s l := by
  unfold part at hb ha
  blk_ext [index6]

/-- The result of the arrays the run is given. -/
def wanted1 : Buf (Elt Ideal) ((c.tc : Thread nD τ).loc main_v0_1) := wantedOf (argX m c) (argIn m c) (argTaps m c) 1024 (by decide)

/-- The result array of any data of the pipeline, of what the body leaves at each point. -/
theorem result_of6 (dat : Pipeline.Dat τ (Elt Ideal) Unit ℕ (UR sig nD τ) ℕ cfg0 c)
    (ho : ∀ t, dat.after 6 t = outOf m c 1024 (by decide) t) : dat.arrAt 6 cfg0.N = wanted1 m c := by
  refine dat.arrAt_eq_of_covers 6 _ cover6 fun t _ y => ?_
  obtain ⟨g, z, a, s, l, rfl⟩ := exists_block y
  have hlt : (part t).val % 32 * 4 + a.val < 128 := by omega
  have hlb : (part t).val / 32 < 2 := by have := (part t).isLt; omega
  rw [emb6 t g z a s l ⟨_, hlb⟩ ⟨_, hlt⟩ rfl rfl]
  refine (congrFun (ho t) (ix5 g z a s l)).trans ?_
  exact outOf_apply m c 1024 (by decide) t g z a s l ⟨_, hlb⟩ ⟨_, hlt⟩ rfl rfl

theorem after6 (t : Fin cfg0.N) : (dats m 0 c).after 6 t = outOf m c 1024 (by decide) t := by
  rw [after0_6]
  unfold outsAt0 outOf
  dsimp only
  rw [out6_eq, canon_pieces 1024 _ _ _ _ _ (by decide)]

theorem final6 : (dats m 0 c).arrAt 6 cfg0.N = wanted1 m c := result_of6 m c (dats m 0 c) (after6 m c)

theorem cover7 : (cfg0.win 7).Covers := by decide +kernel

/-- Where the elements of a block of the result lie. -/
theorem emb7 (t : Fin cfg0.N) (g : Fin 16) (z : Fin 1) (a : Fin 4) (s : Fin 8) (l : Fin 1024) (b : Fin 2) (a' : Fin 128)
    (hb : b.val = (part t).val / 32) (ha : a'.val = (part t).val % 32 * 4 + a.val) :
    ((cfg0.win 7).blk t).view.emb (ix5 g z a s l) = ix5 g b a' s l := by
  unfold part at hb ha
  blk_ext [index7]

/-- The result of the arrays the run is given. -/
def wanted2 : Buf (Elt Ideal) ((c.tc : Thread nD τ).loc main_v0_2) := wantedOf (argX m c) (argIn m c) (argTaps m c) 2048 (by decide)

/-- The result array of any data of the pipeline, of what the body leaves at each point. -/
theorem result_of7 (dat : Pipeline.Dat τ (Elt Ideal) Unit ℕ (UR sig nD τ) ℕ cfg0 c)
    (ho : ∀ t, dat.after 7 t = outOf m c 2048 (by decide) t) : dat.arrAt 7 cfg0.N = wanted2 m c := by
  refine dat.arrAt_eq_of_covers 7 _ cover7 fun t _ y => ?_
  obtain ⟨g, z, a, s, l, rfl⟩ := exists_block y
  have hlt : (part t).val % 32 * 4 + a.val < 128 := by omega
  have hlb : (part t).val / 32 < 2 := by have := (part t).isLt; omega
  rw [emb7 t g z a s l ⟨_, hlb⟩ ⟨_, hlt⟩ rfl rfl]
  refine (congrFun (ho t) (ix5 g z a s l)).trans ?_
  exact outOf_apply m c 2048 (by decide) t g z a s l ⟨_, hlb⟩ ⟨_, hlt⟩ rfl rfl

theorem after7 (t : Fin cfg0.N) : (dats m 0 c).after 7 t = outOf m c 2048 (by decide) t := by
  rw [after0_7]
  unfold outsAt0 outOf
  dsimp only
  rw [out7_eq, canon_pieces 2048 _ _ _ _ _ (by decide)]

theorem final7 : (dats m 0 c).arrAt 7 cfg0.N = wanted2 m c := result_of7 m c (dats m 0 c) (after7 m c)

end Cert.Kernel5Ideal.Hyena

end
-- ==== Proof.MlaMath.lean ====
/- The attention's projections on extended reals, row by row. -/
module

public import Idealize.ShloMosaic.Lib.Pointwise

@[expose] public section

noncomputable section

namespace Cert.Mla

open Idealize.ShloMosaic
open scoped BigOperators

/-- An index is that of its four, or five, coordinates. -/
theorem exists_ix4 {a b c d : ℕ} (y : Shape.Idx (⟨4, ![a, b, c, d]⟩ : Shape)) :
    ∃ (i : Fin a) (j : Fin b) (k : Fin c) (l : Fin d), y = ix4 i j k l := ⟨y 0, y 1, y 2, y 3, by
  funext e
  match e with
  | ⟨0, _⟩ => rfl
  | ⟨1, _⟩ => rfl
  | ⟨2, _⟩ => rfl
  | ⟨3, _⟩ => rfl⟩
theorem exists_ix5 {a b c d e : ℕ} (y : Shape.Idx (⟨5, ![a, b, c, d, e]⟩ : Shape)) :
    ∃ (i : Fin a) (j : Fin b) (k : Fin c) (l : Fin d) (n : Fin e), y = ix5 i j k l n := ⟨y 0, y 1, y 2, y 3, y 4, by
  funext u
  match u with
  | ⟨0, _⟩ => rfl
  | ⟨1, _⟩ => rfl
  | ⟨2, _⟩ => rfl
  | ⟨3, _⟩ => rfl
  | ⟨4, _⟩ => rfl⟩

/-- A row over the root of its mean square plus epsilon, times a gain; `n` is its length as a number. -/
def scaled {W : ℕ} (n : EReal) (h g : Fin W → EReal) (j : Fin W) : EReal :=
  h j * Ideal.rsqrt (Ideal.div (∑ k, h k * h k) n + Ideal.ofBits .f32 0x358637BD#32) * g j

/-- A pair of halves turned by the angles. -/
def turned (a : Fin 64 → EReal) (t : Fin 32 → EReal) (r : Fin 64) : EReal :=
  if h : r.val < 32 then a r * Ideal.cos (t ⟨r.val, h⟩) - a ⟨32 + r.val, by omega⟩ * Ideal.sin (t ⟨r.val, h⟩)
  else a ⟨r.val - 32, by omega⟩ * Ideal.sin (t ⟨r.val - 32, by omega⟩) + a ⟨32 + (r.val - 32), by omega⟩ * Ideal.cos (t ⟨r.val - 32, by omega⟩)

/-- The other half's place. -/
def other (r : Fin 64) : Fin 64 := if h : r.val < 32 then ⟨32 + r.val, by omega⟩ else ⟨r.val - 32, by omega⟩

/-- The place of an angle. -/
def angle (r : Fin 64) : Fin 32 := if h : r.val < 32 then ⟨r.val, h⟩ else ⟨r.val - 32, by omega⟩

/-- The sign of the sine. -/
def sign (r : Fin 64) : EReal := if r.val < 32 then -1 else 1

/-- Turning, as a product with the cosine plus the other half's product with the signed sine. -/
theorem turned_eq (a : Fin 64 → EReal) (t : Fin 32 → EReal) (r : Fin 64) :
    a r * Ideal.cos (t (angle r)) + a (other r) * (Ideal.sin (t (angle r)) * sign r) = turned a t r := by
  unfold turned angle other sign
  by_cases h : r.val < 32
  · simp only [dif_pos h, if_pos h]
    rw [mul_neg, mul_one, mul_neg, sub_eq_add_neg]
  · simp only [dif_neg h, if_neg h]
    rw [mul_one, add_comm, show (⟨32 + (r.val - 32), by omega⟩ : Fin 64) = r from Fin.ext (by show 32 + (r.val - 32) = r.val; omega)]

/-- The rows, the positions, the frequencies, the weights and the gains. -/
structure Data where
  x : Fin 32768 → Fin 1024 → EReal
  p : Fin 32768 → EReal
  f : Fin 32 → EReal
  wi : Fin 1024 → Fin 704 → EReal
  gq : Fin 384 → EReal
  wq : Fin 384 → Fin 1536 → EReal
  gk : Fin 256 → EReal
  wk : Fin 256 → Fin 2048 → EReal

/-- The call's arguments as such. -/
def dataOf (x : FVec Ideal (⟨2, ![32768, 1024]⟩ : Shape) .f32) (p : IVec (⟨2, ![2, 16384]⟩ : Shape) 32) (f : FVec Ideal (⟨1, ![32]⟩ : Shape) .f32)
    (wi : FVec Ideal (⟨2, ![1024, 704]⟩ : Shape) .f32) (gq : FVec Ideal (⟨1, ![384]⟩ : Shape) .f32) (wq : FVec Ideal (⟨2, ![384, 1536]⟩ : Shape) .f32)
    (gk : FVec Ideal (⟨1, ![256]⟩ : Shape) .f32) (wk : FVec Ideal (⟨2, ![256, 2048]⟩ : Shape) .f32) : Data where
  x n k := x (ix2 n k)
  p n := (((p (ix2 (⟨n.val / 16384, by omega⟩ : Fin 2) (⟨n.val % 16384, by omega⟩ : Fin 16384))).toInt : ℝ) : EReal)
  f j := f (ix1 j)
  wi k c := wi (ix2 k c)
  gq j := gq (ix1 j)
  wq k j := wq (ix2 k j)
  gk j := gk (ix1 j)
  wk k j := wk (ix2 k j)

variable (D : Data)

/-- The projection of row `n`, column `c`. -/
def down (n : Fin 32768) (c : Fin 704) : EReal := ∑ k, D.x n k * D.wi k c

/-- The scaled query part and key part of a row. -/
def forQuery (n : Fin 32768) : Fin 384 → EReal :=
  scaled (Ideal.ofBits .f32 0x43C00000#32) (fun k => down D n ⟨k.val, by omega⟩) D.gq
def forKey (n : Fin 32768) : Fin 256 → EReal :=
  scaled (Ideal.ofBits .f32 0x43800000#32) (fun k => down D n ⟨384 + k.val, by omega⟩) D.gk

/-- The queries, and the keys with the values, column by column. -/
def query (n : Fin 32768) (j : Fin 1536) : EReal := ∑ k, forQuery D n k * D.wq k j
def keyval (n : Fin 32768) (j : Fin 2048) : EReal := ∑ k, forKey D n k * D.wk k j

/-- The angles of a row. -/
def angles (n : Fin 32768) (j : Fin 32) : EReal := D.p n * D.f j

/-- The place of position `s` of sequence `b`. -/
def place (b : Fin 2) (s : Fin 16384) : Fin 32768 := ⟨b.val * 16384 + s.val, by omega⟩

/-- Lane `d` of the query of head `h` at row `n`, before its scale. -/
def queryLane (n : Fin 32768) (h : Fin 8) (d : Fin 192) : EReal :=
  if hd : d.val < 128 then query D n ⟨h.val * 192 + d.val, by omega⟩
  else turned (fun r => query D n ⟨h.val * 192 + 128 + r.val, by omega⟩) (angles D n) ⟨d.val - 128, by omega⟩

/-- Lane `d` of the key of head `h` at row `n`: behind it a one, then zeros. -/
def keyLane (n : Fin 32768) (h : Fin 8) (d : Fin 208) : EReal :=
  if hd : d.val < 128 then keyval D n ⟨h.val * 256 + d.val, by omega⟩
  else if hr : d.val < 192 then turned (fun r => down D n ⟨640 + r.val, by omega⟩) (angles D n) ⟨d.val - 128, by omega⟩
  else if d.val = 192 then 1 else 0

/-- The three results. -/
def wantedQ : FVec Ideal (⟨4, ![2, 8, 192, 16384]⟩ : Shape) .bf16 := fun y =>
  queryLane D (place (y 0) (y 3)) (y 1) (y 2) * Ideal.ofBits .f32 0x3DD53B95#32
def wantedK : FVec Ideal (⟨4, ![2, 8, 16384, 208]⟩ : Shape) .bf16 := fun y => keyLane D (place (y 0) (y 2)) (y 1) (y 3)
def valueRow (c : Fin 64) (l : Fin 256) : Fin 16384 := ⟨c.val * 256 + l.val, by omega⟩
def valueCol (h : Fin 8) (d : Fin 128) : Fin 2048 := ⟨h.val * 256 + 128 + d.val, by omega⟩
def wantedV : FVec Ideal (⟨5, ![2, 8, 64, 128, 256]⟩ : Shape) .bf16 := fun y =>
  keyval D (place (y 0) (valueRow (y 2) (y 4))) (valueCol (y 1) (y 3))

end Cert.Mla

end
-- ==== Proof.MlaRef.lean ====
/- What the projections' reference's results are on extended reals, row by row. -/
module

public import proofs.«01_k».proof.Proof.Gen.Reference6Ideal.Run
public import proofs.«01_k».proof.Proof.FfnRef
public import proofs.«01_k».proof.Proof.MlaMath
public import Idealize.ShloMosaic.Lib.Pointwise

@[expose] public section

set_option maxRecDepth 16384

noncomputable section

namespace Cert.Reference6Ideal.RefValue

open Cert.Reference6Ideal Cert.Reference6Ideal.Gen
open Idealize.ShloMosaic Idealize.SL.Sem
open Cert.Reference2Ideal.RefValue (seqs seqs_row)
open scoped BigOperators

/-- The frequencies. -/
def freqs : FVec Ideal S32 .f32 :=
  Host.divf (broadcastInDim S32 ![] bcast_S_S32 (constant S_ .f32 0x3F800000#32))
    (Host.powf (broadcastInDim S32 ![] bcast_S_S32 (constant S_ .f32 0x461C4000#32))
      (Host.divf (addf (broadcastInDim S32 ![] bcast_S_S32 (constant S_ .f32 0x00000000#32))
        (mulf (broadcastInDim S32 ![] bcast_S_S32 (constant S_ .f32 0x40000000#32)) (sitofp .f32 (iotaInDim S32 32 0))))
        (broadcastInDim S32 ![] bcast_S_S32 (constant S_ .f32 0x42800000#32))))

/-- The angles. -/
def angs (p : IVec S2x16384 32) : FVec Ideal S2x16384x32 .f32 :=
  mulf (broadcastInDim S2x16384x32 ![0, 1, 2] bcast_S2x16384x1_S2x16384x32_0_1_2 (broadcastInDim S2x16384x1 ![0, 1] bcast_S2x16384_S2x16384x1_0_1 (sitofp .f32 p)))
    (broadcastInDim S2x16384x32 ![0, 1, 2] bcast_S1x1x32_S2x16384x32_0_1_2 (broadcastInDim S1x1x32 ![2] bcast_S32_S1x1x32_2 freqs))

/-- The down-projection. -/
def downs (y : FVec Ideal S2x16384x1024 .f32) (w : FVec Ideal S1024x704 .f32) : FVec Ideal S2x16384x704 .f32 :=
  Host.dotGeneral dot_S2x16384x1024_S1024x704_S2x16384x704_2_0_01_1_n_n none y w

/-- The query part, scaled. -/
def scaleQ (h : FVec Ideal S2x16384x384 .f32) (g : FVec Ideal S384 .f32) : FVec Ideal S2x16384x384 .f32 :=
  mulf (mulf h (broadcastInDim S2x16384x384 ![0, 1, 2] bcast_S2x16384x1_S2x16384x384_0_1_2 (Host.rsqrt (addf (Host.divf (broadcastInDim S2x16384x1 ![0, 1] bcast_S2x16384_S2x16384x1_0_1
      (Host.reduceAdd (mulf h h) (constant S_ .f32 0x00000000#32) reducesTo_S2x16384x384_S2x16384_d2 h_S_))
      (broadcastInDim S2x16384x1 ![] bcast_S_S2x16384x1 (constant S_ .f32 0x43C00000#32)))
      (broadcastInDim S2x16384x1 ![] bcast_S_S2x16384x1 (constant S_ .f32 0x358637BD#32))))))
    (broadcastInDim S2x16384x384 ![0, 1, 2] bcast_S1x1x384_S2x16384x384_0_1_2 (broadcastInDim S1x1x384 ![2] bcast_S384_S1x1x384_2 g))

/-- The key part, scaled. -/
def scaleK (h : FVec Ideal S2x16384x256 .f32) (g : FVec Ideal S256 .f32) : FVec Ideal S2x16384x256 .f32 :=
  mulf (mulf h (broadcastInDim S2x16384x256 ![0, 1, 2] bcast_S2x16384x1_S2x16384x256_0_1_2 (Host.rsqrt (addf (Host.divf (broadcastInDim S2x16384x1 ![0, 1] bcast_S2x16384_S2x16384x1_0_1
      (Host.reduceAdd (mulf h h) (constant S_ .f32 0x00000000#32) reducesTo_S2x16384x256_S2x16384_d2 h_S_))
      (broadcastInDim S2x16384x1 ![] bcast_S_S2x16384x1 (constant S_ .f32 0x43800000#32)))
      (broadcastInDim S2x16384x1 ![] bcast_S_S2x16384x1 (constant S_ .f32 0x358637BD#32))))))
    (broadcastInDim S2x16384x256 ![0, 1, 2] bcast_S1x1x256_S2x16384x256_0_1_2 (broadcastInDim S1x1x256 ![2] bcast_S256_S1x1x256_2 g))

/-- The queries, head by head. -/
def queries (h : FVec Ideal S2x16384x704 .f32) (g : FVec Ideal S384 .f32) (w : FVec Ideal S384x1536 .f32) : FVec Ideal S2x16384x8x192 .f32 :=
  shapeCast _ (Host.dotGeneral dot_S2x16384x384_S384x1536_S2x16384x1536_2_0_01_1_n_n none
    (scaleQ (extractStridedSlice S2x16384x384 ![0, 0, 0] h slices_S2x16384x704_S2x16384x384_0_0_0) g) w) shapeCasts_S2x16384x1536_S2x16384x8x192

/-- The keys and values, head by head. -/
def keyvals (h : FVec Ideal S2x16384x704 .f32) (g : FVec Ideal S256 .f32) (w : FVec Ideal S256x2048 .f32) : FVec Ideal S2x16384x8x256 .f32 :=
  shapeCast _ (Host.dotGeneral dot_S2x16384x256_S256x2048_S2x16384x2048_2_0_01_1_n_n none
    (scaleK (extractStridedSlice S2x16384x256 ![0, 0, 384] h slices_S2x16384x704_S2x16384x256_0_0_384) g) w) shapeCasts_S2x16384x2048_S2x16384x8x256

/-- The queries' last lanes turned. -/
def turnQ (q : FVec Ideal S2x16384x8x64 .f32) (t : FVec Ideal S2x16384x32 .f32) : FVec Ideal S2x16384x8x64 .f32 :=
  concatenate S2x16384x8x64 3 [⟨S2x16384x8x32, (subf
      (mulf (extractStridedSlice S2x16384x8x32 ![0, 0, 0, 0] q slices_S2x16384x8x64_S2x16384x8x32_0_0_0_0)
        (broadcastInDim S2x16384x8x32 ![0, 1, 2, 3] bcast_S2x16384x1x32_S2x16384x8x32_0_1_2_3 (broadcastInDim S2x16384x1x32 ![0, 1, 3] bcast_S2x16384x32_S2x16384x1x32_0_1_3 (Host.cos t))))
      (mulf (extractStridedSlice S2x16384x8x32 ![0, 0, 0, 32] q slices_S2x16384x8x64_S2x16384x8x32_0_0_0_32)
        (broadcastInDim S2x16384x8x32 ![0, 1, 2, 3] bcast_S2x16384x1x32_S2x16384x8x32_0_1_2_3 (broadcastInDim S2x16384x1x32 ![0, 1, 3] bcast_S2x16384x32_S2x16384x1x32_0_1_3 (Host.sin t)))))⟩,
    ⟨S2x16384x8x32, (addf
      (mulf (extractStridedSlice S2x16384x8x32 ![0, 0, 0, 0] q slices_S2x16384x8x64_S2x16384x8x32_0_0_0_0)
        (broadcastInDim S2x16384x8x32 ![0, 1, 2, 3] bcast_S2x16384x1x32_S2x16384x8x32_0_1_2_3 (broadcastInDim S2x16384x1x32 ![0, 1, 3] bcast_S2x16384x32_S2x16384x1x32_0_1_3 (Host.sin t))))
      (mulf (extractStridedSlice S2x16384x8x32 ![0, 0, 0, 32] q slices_S2x16384x8x64_S2x16384x8x32_0_0_0_32)
        (broadcastInDim S2x16384x8x32 ![0, 1, 2, 3] bcast_S2x16384x1x32_S2x16384x8x32_0_1_2_3 (broadcastInDim S2x16384x1x32 ![0, 1, 3] bcast_S2x16384x32_S2x16384x1x32_0_1_3 (Host.cos t)))))⟩]
    concatenates_S2x16384x8x32_S2x16384x8x32_S2x16384x8x64_d3

/-- The keys' last lanes turned. -/
def turnK (q : FVec Ideal S2x16384x64 .f32) (t : FVec Ideal S2x16384x32 .f32) : FVec Ideal S2x16384x64 .f32 :=
  concatenate S2x16384x64 2 [⟨S2x16384x32, (subf
      (mulf (extractStridedSlice S2x16384x32 ![0, 0, 0] q slices_S2x16384x64_S2x16384x32_0_0_0) (Host.cos t))
      (mulf (extractStridedSlice S2x16384x32 ![0, 0, 32] q slices_S2x16384x64_S2x16384x32_0_0_32) (Host.sin t)))⟩,
    ⟨S2x16384x32, (addf
      (mulf (extractStridedSlice S2x16384x32 ![0, 0, 0] q slices_S2x16384x64_S2x16384x32_0_0_0) (Host.sin t))
      (mulf (extractStridedSlice S2x16384x32 ![0, 0, 32] q slices_S2x16384x64_S2x16384x32_0_0_32) (Host.cos t)))⟩]
    concatenates_S2x16384x32_S2x16384x32_S2x16384x64_d2

/-- A one, then zeros. -/
def ones : FVec Ideal S16 .f32 := uitofp .f32 (cmpi .eq (iotaInDim S16 32 0) (broadcastInDim S16 ![] bcast_S_S16 (constantI S_ 32 0#32)))

/-- The three results. -/
def refQ (q : FVec Ideal S2x16384x8x192 .f32) (t : FVec Ideal S2x16384x32 .f32) : FVec Ideal S2x8x192x16384 .bf16 :=
  truncf .bf16 (transpose S2x8x192x16384 [0, 2, 3, 1] (mulf (concatenate S2x16384x8x192 3 [
      ⟨S2x16384x8x128, (extractStridedSlice S2x16384x8x128 ![0, 0, 0, 0] q slices_S2x16384x8x192_S2x16384x8x128_0_0_0_0)⟩,
      ⟨S2x16384x8x64, (turnQ (extractStridedSlice S2x16384x8x64 ![0, 0, 0, 128] q slices_S2x16384x8x192_S2x16384x8x64_0_0_0_128) t)⟩]
      concatenates_S2x16384x8x128_S2x16384x8x64_S2x16384x8x192_d3)
    (broadcastInDim S2x16384x8x192 ![] bcast_S_S2x16384x8x192 (constant S_ .f32 0x3DD53B95#32))) transposes_S2x16384x8x192_S2x8x192x16384_0_2_3_1) bitsLt_bf16_f32
def refK (k : FVec Ideal S2x16384x8x256 .f32) (r : FVec Ideal S2x16384x64 .f32) : FVec Ideal S2x8x16384x208 .bf16 :=
  truncf .bf16 (concatenate S2x8x16384x208 3 [
      ⟨S2x8x16384x128, (transpose S2x8x16384x128 [0, 2, 1, 3] (extractStridedSlice S2x16384x8x128 ![0, 0, 0, 0] k slices_S2x16384x8x256_S2x16384x8x128_0_0_0_0) transposes_S2x16384x8x128_S2x8x16384x128_0_2_1_3)⟩,
      ⟨S2x8x16384x64, (broadcastInDim S2x8x16384x64 ![0, 1, 2, 3] bcast_S2x1x16384x64_S2x8x16384x64_0_1_2_3 (broadcastInDim S2x1x16384x64 ![0, 2, 3] bcast_S2x16384x64_S2x1x16384x64_0_2_3 r))⟩,
      ⟨S2x8x16384x16, (broadcastInDim S2x8x16384x16 ![3] bcast_S16_S2x8x16384x16_3 ones)⟩]
      concatenates_S2x8x16384x128_S2x8x16384x64_S2x8x16384x16_S2x8x16384x208_d3) bitsLt_bf16_f32
def refV (k : FVec Ideal S2x16384x8x256 .f32) : FVec Ideal S2x8x64x128x256 .bf16 :=
  truncf .bf16 (transpose S2x8x64x128x256 [0, 3, 1, 4, 2] (shapeCast _ (extractStridedSlice S2x16384x8x128 ![0, 0, 0, 128] k slices_S2x16384x8x256_S2x16384x8x128_0_0_0_128)
    shapeCasts_S2x16384x8x128_S2x64x256x8x128) transposes_S2x64x256x8x128_S2x8x64x128x256_0_3_1_4_2) bitsLt_bf16_f32

theorem angs_apply (p : IVec S2x16384 32) (b : Fin 2) (s : Fin 16384) (j : Fin 32) :
    angs p (ix3 b s j) = ((((p (ix2 b s)).toInt : ℝ)) : EReal) * freqs (ix1 j) := by
  unfold angs
  generalize freqs = f
  pointwise
  rfl

theorem downs_apply (y : FVec Ideal S2x16384x1024 .f32) (w : FVec Ideal S1024x704 .f32) (b : Fin 2) (s : Fin 16384) (c : Fin 704) :
    downs y w (ix3 b s c) = ∑ k : Fin 1024, y (ix3 b s k) * w (ix2 k c) := by
  unfold downs
  pointwise

theorem scaleQ_apply (h : FVec Ideal S2x16384x384 .f32) (g : FVec Ideal S384 .f32) (b : Fin 2) (s : Fin 16384) (c : Fin 384) :
    scaleQ h g (ix3 b s c) = Cert.Mla.scaled (Ideal.ofBits .f32 0x43C00000#32) (fun j => h (ix3 b s j)) (fun j => g (ix1 j)) c := by
  unfold scaleQ Cert.Mla.scaled
  pointwise

theorem scaleK_apply (h : FVec Ideal S2x16384x256 .f32) (g : FVec Ideal S256 .f32) (b : Fin 2) (s : Fin 16384) (c : Fin 256) :
    scaleK h g (ix3 b s c) = Cert.Mla.scaled (Ideal.ofBits .f32 0x43800000#32) (fun j => h (ix3 b s j)) (fun j => g (ix1 j)) c := by
  unfold scaleK Cert.Mla.scaled
  pointwise

theorem queries_apply (h : FVec Ideal S2x16384x704 .f32) (g : FVec Ideal S384 .f32) (w : FVec Ideal S384x1536 .f32)
    (b : Fin 2) (s : Fin 16384) (a : Fin 8) (d : Fin 192) :
    queries h g w (ix4 b s a d) = ∑ k : Fin 384, scaleQ (extractStridedSlice S2x16384x384 ![0, 0, 0] h slices_S2x16384x704_S2x16384x384_0_0_0) g (ix3 b s k)
      * w (ix2 k (⟨a.val * 192 + d.val, by omega⟩ : Fin 1536)) := by
  unfold queries
  generalize scaleQ _ g = q
  pointwise

theorem keyvals_apply (h : FVec Ideal S2x16384x704 .f32) (g : FVec Ideal S256 .f32) (w : FVec Ideal S256x2048 .f32)
    (b : Fin 2) (s : Fin 16384) (a : Fin 8) (d : Fin 256) :
    keyvals h g w (ix4 b s a d) = ∑ k : Fin 256, scaleK (extractStridedSlice S2x16384x256 ![0, 0, 384] h slices_S2x16384x704_S2x16384x256_0_0_384) g (ix3 b s k)
      * w (ix2 k (⟨a.val * 256 + d.val, by omega⟩ : Fin 2048)) := by
  unfold keyvals
  generalize scaleK _ g = q
  pointwise

theorem turnQ_apply (q : FVec Ideal S2x16384x8x64 .f32) (t : FVec Ideal S2x16384x32 .f32) (b : Fin 2) (s : Fin 16384) (a : Fin 8) (r : Fin 64) :
    turnQ q t (ix4 b s a r) = Cert.Mla.turned (fun r => q (ix4 b s a r)) (fun j => t (ix3 b s j)) r := by
  unfold turnQ Cert.Mla.turned
  pointwise

theorem turnK_apply (q : FVec Ideal S2x16384x64 .f32) (t : FVec Ideal S2x16384x32 .f32) (b : Fin 2) (s : Fin 16384) (r : Fin 64) :
    turnK q t (ix3 b s r) = Cert.Mla.turned (fun r => q (ix3 b s r)) (fun j => t (ix3 b s j)) r := by
  unfold turnK Cert.Mla.turned
  pointwise

theorem refQ_apply (q : FVec Ideal S2x16384x8x192 .f32) (t : FVec Ideal S2x16384x32 .f32) (b : Fin 2) (a : Fin 8) (d : Fin 192) (s : Fin 16384) :
    refQ q t (ix4 b a d s) = (if h : d.val < 128 then q (ix4 b s a d)
      else turnQ (extractStridedSlice S2x16384x8x64 ![0, 0, 0, 128] q slices_S2x16384x8x192_S2x16384x8x64_0_0_0_128) t (ix4 b s a (⟨d.val - 128, by omega⟩ : Fin 64)))
      * Ideal.ofBits .f32 0x3DD53B95#32 := by
  unfold refQ
  generalize turnQ _ t = u
  pointwise

theorem refK_apply (k : FVec Ideal S2x16384x8x256 .f32) (r : FVec Ideal S2x16384x64 .f32) (b : Fin 2) (a : Fin 8) (s : Fin 16384) (d : Fin 208) :
    refK k r (ix4 b a s d) = (if h : d.val < 128 then k (ix4 b s a (⟨d.val, by omega⟩ : Fin 256))
      else if h' : d.val - 128 < 64 then r (ix3 b s (⟨d.val - 128, by omega⟩ : Fin 64)) else ones (ix1 (⟨d.val - 128 - 64, by omega⟩ : Fin 16))) := by
  unfold refK
  generalize ones = o
  pointwise

theorem refV_apply (k : FVec Ideal S2x16384x8x256 .f32) (b : Fin 2) (a : Fin 8) (c : Fin 64) (d : Fin 128) (l : Fin 256) :
    refV k (ix5 b a c d l) = k (ix4 b (⟨c.val * 256 + l.val, by omega⟩ : Fin 16384) a (⟨128 + d.val, by omega⟩ : Fin 256)) := by
  unfold refV
  pointwise

theorem ones_apply (i : Fin 16) : ones (ix1 i) = if i.val = 0 then 1 else 0 := by
  have e : ∀ i : Fin 16, (IntOp.cmpi .eq (BitVec.ofNat 32 i.val) 0#32).toNat = if i.val = 0 then 1 else 0 := by decide
  refine (congrArg (fun n : ℕ => ((n : ℝ) : EReal)) (e i)).trans ?_
  split_ifs <;> simp

variable (x : FVec Ideal S32768x1024 .f32) (p : IVec S2x16384 32) (wi : FVec Ideal S1024x704 .f32) (gq : FVec Ideal S384 .f32)
  (wq : FVec Ideal S384x1536 .f32) (gk : FVec Ideal S256 .f32) (wk : FVec Ideal S256x2048 .f32)

/-- The arguments' rows. -/
def D : Cert.Mla.Data := Cert.Mla.dataOf x p freqs wi gq wq gk wk

open Cert.Mla (place exists_ix4 exists_ix5)

theorem angs_row (b : Fin 2) (s : Fin 16384) (j : Fin 32) : angs p (ix3 b s j) = Cert.Mla.angles (D x p wi gq wq gk wk) (place b s) j := by
  rw [angs_apply]
  have e : ∀ (b : Fin 2) (s : Fin 16384) (h : (place b s).val / 16384 < 2) (h' : (place b s).val % 16384 < 16384),
      (ix2 (⟨(place b s).val / 16384, h⟩ : Fin 2) (⟨(place b s).val % 16384, h'⟩ : Fin 16384)) = ix2 b s := by
    intro b s h h'
    rw [show (⟨(place b s).val / 16384, h⟩ : Fin 2) = b from Fin.ext (by show (b.val * 16384 + s.val) / 16384 = b.val; omega),
      show (⟨(place b s).val % 16384, h'⟩ : Fin 16384) = s from Fin.ext (by show (b.val * 16384 + s.val) % 16384 = s.val; omega)]
  show _ = (((p (ix2 (⟨(place b s).val / 16384, _⟩ : Fin 2) (⟨(place b s).val % 16384, _⟩ : Fin 16384))).toInt : ℝ) : EReal) * freqs (ix1 j)
  rw [e]

theorem downs_row (b : Fin 2) (s : Fin 16384) (c : Fin 704) : downs (seqs x) wi (ix3 b s c) = Cert.Mla.down (D x p wi gq wq gk wk) (place b s) c := by
  rw [downs_apply]
  refine Finset.sum_congr rfl fun k _ => ?_
  rw [seqs_row]
  exact congrArg (· * wi (ix2 k c)) (Cert.Ffn.rowsOf_of x (b.val * 16384 + s.val) (place b s).isLt k)

theorem queries_row (b : Fin 2) (s : Fin 16384) (a : Fin 8) (d : Fin 192) :
    queries (downs (seqs x) wi) gq wq (ix4 b s a d) = Cert.Mla.query (D x p wi gq wq gk wk) (place b s) ⟨a.val * 192 + d.val, by omega⟩ := by
  rw [queries_apply]
  refine Finset.sum_congr rfl fun k _ => ?_
  rw [scaleQ_apply]
  refine congrArg (· * _) (congrArg (fun h => Cert.Mla.scaled _ h _ k) (funext fun j => ?_))
  refine (extractStridedSlice_apply _ _ _ _ (ix3 b s (⟨j.val, by omega⟩ : Fin 704)) fun a => ?_).trans (downs_row x p wi gq wq gk wk b s _)
  match a with
  | ⟨0, _⟩ => exact (Nat.zero_add _).symm
  | ⟨1, _⟩ => exact (Nat.zero_add _).symm
  | ⟨2, _⟩ => exact (Nat.zero_add _).symm

theorem keyvals_row (b : Fin 2) (s : Fin 16384) (a : Fin 8) (d : Fin 256) :
    keyvals (downs (seqs x) wi) gk wk (ix4 b s a d) = Cert.Mla.keyval (D x p wi gq wq gk wk) (place b s) ⟨a.val * 256 + d.val, by omega⟩ := by
  rw [keyvals_apply]
  refine Finset.sum_congr rfl fun k _ => ?_
  rw [scaleK_apply]
  refine congrArg (· * _) (congrArg (fun h => Cert.Mla.scaled _ h _ k) (funext fun j => ?_))
  refine (extractStridedSlice_apply _ _ _ _ (ix3 b s (⟨384 + j.val, by omega⟩ : Fin 704)) fun a => ?_).trans (downs_row x p wi gq wq gk wk b s _)
  match a with
  | ⟨0, _⟩ => exact (Nat.zero_add _).symm
  | ⟨1, _⟩ => exact (Nat.zero_add _).symm
  | ⟨2, _⟩ => rfl

theorem refQ_eq : refQ (queries (downs (seqs x) wi) gq wq) (angs p) = Cert.Mla.wantedQ (D x p wi gq wq gk wk) := by
  funext y
  obtain ⟨b, a, d, s, rfl⟩ := exists_ix4 y
  rw [refQ_apply]
  show _ = Cert.Mla.queryLane (D x p wi gq wq gk wk) (place b s) a d * _
  refine congrArg (· * _) ?_
  unfold Cert.Mla.queryLane
  by_cases h : d.val < 128
  · rw [dif_pos h, dif_pos h, queries_row x p wi gq wq gk wk]
  · rw [dif_neg h, dif_neg h, turnQ_apply]
    refine congrFun (congrArg₂ Cert.Mla.turned (funext fun r => ?_) (funext fun j => angs_row x p wi gq wq gk wk b s j)) _
    refine (extractStridedSlice_apply _ _ _ _ (ix4 b s a (⟨128 + r.val, by omega⟩ : Fin 192)) fun a => ?_).trans
      ((queries_row x p wi gq wq gk wk b s a _).trans (congrArg (Cert.Mla.query _ _) (Fin.ext (by
        show a.val * 192 + (128 + r.val) = a.val * 192 + 128 + r.val; omega))))
    match a with
    | ⟨0, _⟩ => exact (Nat.zero_add _).symm
    | ⟨1, _⟩ => exact (Nat.zero_add _).symm
    | ⟨2, _⟩ => exact (Nat.zero_add _).symm
    | ⟨3, _⟩ => rfl

theorem refK_eq : refK (keyvals (downs (seqs x) wi) gk wk)
    (turnK (extractStridedSlice S2x16384x64 ![0, 0, 640] (downs (seqs x) wi) slices_S2x16384x704_S2x16384x64_0_0_640) (angs p)) = Cert.Mla.wantedK (D x p wi gq wq gk wk) := by
  funext y
  obtain ⟨b, a, s, d, rfl⟩ := exists_ix4 y
  rw [refK_apply]
  show _ = Cert.Mla.keyLane (D x p wi gq wq gk wk) (place b s) a d
  unfold Cert.Mla.keyLane
  by_cases h : d.val < 128
  · rw [dif_pos h, dif_pos h, keyvals_row x p wi gq wq gk wk]
  · rw [dif_neg h, dif_neg h]
    by_cases h' : d.val < 192
    · rw [dif_pos h', dif_pos (show d.val - 128 < 64 by omega), turnK_apply]
      refine congrFun (congrArg₂ Cert.Mla.turned (funext fun r => ?_) (funext fun j => angs_row x p wi gq wq gk wk b s j)) _
      refine (extractStridedSlice_apply _ _ _ _ (ix3 b s (⟨640 + r.val, by omega⟩ : Fin 704)) fun a => ?_).trans (downs_row x p wi gq wq gk wk b s _)
      match a with
      | ⟨0, _⟩ => exact (Nat.zero_add _).symm
      | ⟨1, _⟩ => exact (Nat.zero_add _).symm
      | ⟨2, _⟩ => rfl
    · rw [dif_neg h', dif_neg (show ¬ d.val - 128 < 64 by omega), ones_apply]
      by_cases e : d.val = 192
      · rw [if_pos e, if_pos (show d.val - 128 - 64 = 0 by omega)]
      · rw [if_neg e, if_neg (show ¬ d.val - 128 - 64 = 0 by omega)]

theorem refV_eq : refV (keyvals (downs (seqs x) wi) gk wk) = Cert.Mla.wantedV (D x p wi gq wq gk wk) := by
  funext y
  obtain ⟨b, a, c, d, l, rfl⟩ := exists_ix5 y
  rw [refV_apply, keyvals_row x p wi gq wq gk wk]
  exact congrArg (Cert.Mla.keyval _ _) (Fin.ext (by show a.val * 256 + (128 + d.val) = a.val * 256 + 128 + d.val; omega))

/-- The run's key result, by its stages. -/
theorem res_keys (m : (ℓ : Loc nD τ sig) → Buf (Elt Ideal) ℓ) (c : Dev nD) :
    Cert.Reference6Ideal.Value.res_main_v98 m c
      = refK (keyvals (downs (seqs (m ((c.tc : Thread nD τ).loc main_arg0))) (m ((c.tc : Thread nD τ).loc main_arg2)))
          (m ((c.tc : Thread nD τ).loc main_arg5)) (m ((c.tc : Thread nD τ).loc main_arg6)))
        (turnK (extractStridedSlice S2x16384x64 ![0, 0, 640] (downs (seqs (m ((c.tc : Thread nD τ).loc main_arg0))) (m ((c.tc : Thread nD τ).loc main_arg2)))
          slices_S2x16384x704_S2x16384x64_0_0_640) (angs (m ((c.tc : Thread nD τ).loc main_arg1)))) := by
  unfold Cert.Reference6Ideal.Value.res_main_v98 refK turnK keyvals scaleK downs angs freqs seqs ones
  rfl

end Cert.Reference6Ideal.RefValue

end
-- ==== Proof.MlaOut.lean ====
/- What one grid point of the projections' kernel stores in its three results. -/
module

public import proofs.«01_k».proof.Proof.Gen.Kernel6Ideal.Value
public import proofs.«01_k».proof.Proof.FfnTile

@[expose] public section

set_option maxRecDepth 16384

noncomputable section

namespace Cert.Kernel6Ideal.Mla

open Cert.Kernel6Ideal Cert.Kernel6Ideal.Gen
open Cert.Kernel2Ideal.Ffn (zero_off)
open Idealize.ShloMosaic Idealize.ShloMosaic.Tactic Idealize.SL.Sem
open scoped BigOperators

/-- The queries of a tile, lane by row. -/
def lanesQ (x0 : Vec Ideal S512x1024 .f32) (x3 : Vec Ideal S1024x896 .bf16) (x4 : Vec Ideal S1x384 .f32) (x6 : Vec Ideal S2048x384 .bf16) : FVec Ideal S2048x512 .f32 :=
  k0_pay7 (k0_pay4 x0 x3 x4) (k0_pay6 x6) (constant S2048x512 .f32 0x00000000#32)

/-- The values of a tile, lane by row. -/
def lanesV (x0 : Vec Ideal S512x1024 .f32) (x3 : Vec Ideal S1024x896 .bf16) (x5 : Vec Ideal S1x256 .f32) (x8 : Vec Ideal S1024x256 .bf16) : FVec Ideal S1024x512 .f32 :=
  k0_pay8 (k0_pay5 x0 x3 x5) x8

/-- The keys of a tile, row by lane. -/
def lanesK (x0 : Vec Ideal S512x1024 .f32) (x3 : Vec Ideal S1024x896 .bf16) (x5 : Vec Ideal S1x256 .f32) (x7 : Vec Ideal S256x1024 .bf16) : FVec Ideal S512x1024 .f32 :=
  k0_pay9 (k0_pay5 x0 x3 x5) x7

/-- The keys' turned lanes. -/
def turnedK (x0 : Vec Ideal S512x1024 .f32) (x3 : Vec Ideal S1024x896 .bf16) (x1 : Vec Ideal S512x1 .i32) (x9 : Vec Ideal S1x128 .f32) : FVec Ideal S512x64 .bf16 :=
  k0_pay14 (k0_pay3 x0 x3) k0_pay11 (k0_pay12 (k0_pay2 x0 x3) x1 x9) (k0_pay13 x1 x9)

theorem slicesN : ∀ a : Fin 8, S2048x512.Slices ![a.val * 128, 0] S128x512 := by decide
theorem slicesR : ∀ a : Fin 8, S2048x512.Slices ![1024 + a.val * 64, 0] S64x512 := by decide
theorem slicesS : ∀ a : Fin 8, S2048x512.Slices ![1536 + a.val * 64, 0] S64x512 := by decide
theorem slicesK : ∀ a : Fin 8, S512x1024.Slices ![0, a.val * 128] S512x128 := by decide
theorem slicesV : ∀ (a : Fin 8) (z : Fin 2), S1024x512.Slices ![a.val * 128, z.val * 256] S128x256 := by decide

theorem inbN : ∀ (a : Fin 8) (b : Fin 4), (![0, a.val, 0, 0] : Fin 4 → ℕ) b + S1x1x128x512.size b ≤ S1x8x192x512.size b := by decide
theorem inbR : ∀ (a : Fin 8) (b : Fin 4), (![0, a.val, 128, 0] : Fin 4 → ℕ) b + S1x1x64x512.size b ≤ S1x8x192x512.size b := by decide
theorem inbK : ∀ (a : Fin 8) (b : Fin 4), (![0, a.val, 0, 0] : Fin 4 → ℕ) b + S1x1x512x128.size b ≤ S1x8x512x208.size b := by decide
theorem inbT : ∀ (a : Fin 8) (b : Fin 4), (![0, a.val, 0, 128] : Fin 4 → ℕ) b + S1x1x512x64.size b ≤ S1x8x512x208.size b := by decide
theorem inbP : ∀ (a : Fin 8) (b : Fin 4), (![0, a.val, 0, 192] : Fin 4 → ℕ) b + S1x1x512x16.size b ≤ S1x8x512x208.size b := by decide
theorem inbV : ∀ (a : Fin 8) (z : Fin 2) (b : Fin 5), (![0, a.val, z.val, 0, 0] : Fin 5 → ℕ) b + S1x1x1x128x256.size b ≤ S1x8x2x128x256.size b := by decide

/-- A head's first lanes of the queries, times the scale. -/
def cutN (a : Fin 8) (q : FVec Ideal S2048x512 .f32) : FVec Ideal S1x1x128x512 .bf16 :=
  shapeCast S1x1x128x512 (truncf .bf16 (mulf (extractStridedSlice S128x512 ![a.val * 128, 0] q (slicesN a))
    (broadcast S128x512 (Scalar.ofBits .f32 0x3DD53B95#32))) bitsLt_bf16_f32) shapeCasts_S128x512_S1x1x128x512

/-- A head's last lanes of the queries turned, times the scale. -/
def cutR (a : Fin 8) (q : FVec Ideal S2048x512 .f32) (u w : FVec Ideal S64x512 .f32) : FVec Ideal S1x1x64x512 .bf16 :=
  shapeCast S1x1x64x512 (truncf .bf16 (mulf (addf (mulf (extractStridedSlice S64x512 ![1024 + a.val * 64, 0] q (slicesR a)) u)
      (mulf (extractStridedSlice S64x512 ![1536 + a.val * 64, 0] q (slicesS a)) w))
    (broadcast S64x512 (Scalar.ofBits .f32 0x3DD53B95#32))) bitsLt_bf16_f32) shapeCasts_S64x512_S1x1x64x512

/-- A head's first lanes of the keys. -/
def cutK (a : Fin 8) (k : FVec Ideal S512x1024 .f32) : FVec Ideal S1x1x512x128 .bf16 :=
  shapeCast S1x1x512x128 (truncf .bf16 (extractStridedSlice S512x128 ![0, a.val * 128] k (slicesK a)) bitsLt_bf16_f32) shapeCasts_S512x128_S1x1x512x128

/-- A head's half of the values' rows. -/
def cutV (a : Fin 8) (z : Fin 2) (v : FVec Ideal S1024x512 .f32) : FVec Ideal S1x1x1x128x256 .bf16 :=
  shapeCast S1x1x1x128x256 (truncf .bf16 (extractStridedSlice S128x256 ![a.val * 128, z.val * 256] v (slicesV a z)) bitsLt_bf16_f32) shapeCasts_S128x256_S1x1x1x128x256

/-- The heads, the last stored first. -/
def heads : List (Fin 8) := [7, 6, 5, 4, 3, 2, 1, 0]

/-- The stores of the three results. -/
def piecesQ (q : FVec Ideal S2048x512 .f32) (u w : FVec Ideal S64x512 .f32) : List (View.Piece (Elt Ideal) S1x8x192x512 .bf16) :=
  heads.flatMap fun a => [(⟨Rect.unit ![0, a.val, 128, 0] S1x1x64x512.size (inbR a), cutR a q u w⟩ : View.Piece (Elt Ideal) S1x8x192x512 .bf16),
    ⟨Rect.unit ![0, a.val, 0, 0] S1x1x128x512.size (inbN a), cutN a q⟩]
def piecesK (k : FVec Ideal S512x1024 .f32) (r : FVec Ideal S512x64 .bf16) (o : FVec Ideal S512x16 .bf16) : List (View.Piece (Elt Ideal) S1x8x512x208 .bf16) :=
  heads.flatMap fun a => [(⟨Rect.unit ![0, a.val, 0, 192] S1x1x512x16.size (inbP a), shapeCast S1x1x512x16 o shapeCasts_S512x16_S1x1x512x16⟩ : View.Piece (Elt Ideal) S1x8x512x208 .bf16),
    ⟨Rect.unit ![0, a.val, 0, 128] S1x1x512x64.size (inbT a), shapeCast S1x1x512x64 r shapeCasts_S512x64_S1x1x512x64⟩,
    ⟨Rect.unit ![0, a.val, 0, 0] S1x1x512x128.size (inbK a), cutK a k⟩]
def piecesV (v : FVec Ideal S1024x512 .f32) : List (View.Piece (Elt Ideal) S1x8x2x128x256 .bf16) :=
  heads.flatMap fun a => [(⟨Rect.unit ![0, a.val, 1, 0, 0] S1x1x1x128x256.size (inbV a 1), cutV a 1 v⟩ : View.Piece (Elt Ideal) S1x8x2x128x256 .bf16),
    ⟨Rect.unit ![0, a.val, 0, 0, 0] S1x1x1x128x256.size (inbV a 0), cutV a 0 v⟩]

theorem out11_eq (c : Dev nD) (i : grid0.Coords) (arg1 : Memref sig .tc .vmem S512x1024 .f32) (harg1 : arg1.IsWhole) (arg2 : Memref sig .tc .vmem S512x1 .i32) (harg2 : arg2.IsWhole) (arg3 : Memref sig .tc .vmem S1x512 .i32) (harg3 : arg3.IsWhole) (arg4 : Memref sig .tc .vmem S1024x896 .bf16) (harg4 : arg4.IsWhole) (arg5 : Memref sig .tc .vmem S1x384 .f32) (harg5 : arg5.IsWhole) (arg6 : Memref sig .tc .vmem S1x256 .f32) (harg6 : arg6.IsWhole) (arg7 : Memref sig .tc .vmem S2048x384 .bf16) (harg7 : arg7.IsWhole) (arg8 : Memref sig .tc .vmem S256x1024 .bf16) (harg8 : arg8.IsWhole) (arg9 : Memref sig .tc .vmem S1024x256 .bf16) (harg9 : arg9.IsWhole) (arg10 : Memref sig .tc .vmem S1x128 .f32) (harg10 : arg10.IsWhole) (arg11 : Memref sig .tc .vmem S64x512 .f32) (harg11 : arg11.IsWhole) (arg12 : Memref sig .tc .vmem S1x8x192x512 .bf16) (harg12 : arg12.IsWhole) (arg13 : Memref sig .tc .vmem S1x8x512x208 .bf16) (harg13 : arg13.IsWhole) (arg14 : Memref sig .tc .vmem S1x8x2x128x256 .bf16) (harg14 : arg14.IsWhole)
    (x0 : Vec Ideal S512x1024 .f32) (x1 : Vec Ideal S512x1 .i32) (x2 : Vec Ideal S1x512 .i32) (x3 : Vec Ideal S1024x896 .bf16) (x4 : Vec Ideal S1x384 .f32) (x5 : Vec Ideal S1x256 .f32) (x6 : Vec Ideal S2048x384 .bf16) (x7 : Vec Ideal S256x1024 .bf16) (x8 : Vec Ideal S1024x256 .bf16) (x9 : Vec Ideal S1x128 .f32) (x10 : Vec Ideal S64x512 .f32) :
    out0_A_11 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10
      = View.canon (piecesQ (lanesQ x0 x3 x4 x6) (k0_pay16 x10 x2) (k0_pay17 x10 x2)) := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10)]
  unfold kernelRun0_A
  dsimp only
  sl_unfold_words
  simp only [View.readCov_eq_canon', View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S512x1024) zero_off, View.ld_unit_zero (S := S512x1) zero_off, View.ld_unit_zero (S := S1x512) zero_off, View.ld_unit_zero (S := S1024x896) zero_off, View.ld_unit_zero (S := S1x384) zero_off, View.ld_unit_zero (S := S1x256) zero_off, View.ld_unit_zero (S := S2048x384) zero_off, View.ld_unit_zero (S := S256x1024) zero_off, View.ld_unit_zero (S := S1024x256) zero_off, View.ld_unit_zero (S := S1x128) zero_off, View.ld_unit_zero (S := S64x512) zero_off]
  rfl

theorem out12_eq (c : Dev nD) (i : grid0.Coords) (arg1 : Memref sig .tc .vmem S512x1024 .f32) (harg1 : arg1.IsWhole) (arg2 : Memref sig .tc .vmem S512x1 .i32) (harg2 : arg2.IsWhole) (arg3 : Memref sig .tc .vmem S1x512 .i32) (harg3 : arg3.IsWhole) (arg4 : Memref sig .tc .vmem S1024x896 .bf16) (harg4 : arg4.IsWhole) (arg5 : Memref sig .tc .vmem S1x384 .f32) (harg5 : arg5.IsWhole) (arg6 : Memref sig .tc .vmem S1x256 .f32) (harg6 : arg6.IsWhole) (arg7 : Memref sig .tc .vmem S2048x384 .bf16) (harg7 : arg7.IsWhole) (arg8 : Memref sig .tc .vmem S256x1024 .bf16) (harg8 : arg8.IsWhole) (arg9 : Memref sig .tc .vmem S1024x256 .bf16) (harg9 : arg9.IsWhole) (arg10 : Memref sig .tc .vmem S1x128 .f32) (harg10 : arg10.IsWhole) (arg11 : Memref sig .tc .vmem S64x512 .f32) (harg11 : arg11.IsWhole) (arg12 : Memref sig .tc .vmem S1x8x192x512 .bf16) (harg12 : arg12.IsWhole) (arg13 : Memref sig .tc .vmem S1x8x512x208 .bf16) (harg13 : arg13.IsWhole) (arg14 : Memref sig .tc .vmem S1x8x2x128x256 .bf16) (harg14 : arg14.IsWhole)
    (x0 : Vec Ideal S512x1024 .f32) (x1 : Vec Ideal S512x1 .i32) (x2 : Vec Ideal S1x512 .i32) (x3 : Vec Ideal S1024x896 .bf16) (x4 : Vec Ideal S1x384 .f32) (x5 : Vec Ideal S1x256 .f32) (x6 : Vec Ideal S2048x384 .bf16) (x7 : Vec Ideal S256x1024 .bf16) (x8 : Vec Ideal S1024x256 .bf16) (x9 : Vec Ideal S1x128 .f32) (x10 : Vec Ideal S64x512 .f32) :
    out0_A_12 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10
      = View.canon (piecesK (lanesK x0 x3 x5 x7) (turnedK x0 x3 x1 x9) k0_pay18) := by
  unfold out0_A_12
  rw [View.read_writes_eq_canon _ _ _ (cover0_A_12 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10)]
  unfold kernelRun0_A
  dsimp only
  sl_unfold_words
  simp only [View.readCov_eq_canon', View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S512x1024) zero_off, View.ld_unit_zero (S := S512x1) zero_off, View.ld_unit_zero (S := S1x512) zero_off, View.ld_unit_zero (S := S1024x896) zero_off, View.ld_unit_zero (S := S1x384) zero_off, View.ld_unit_zero (S := S1x256) zero_off, View.ld_unit_zero (S := S2048x384) zero_off, View.ld_unit_zero (S := S256x1024) zero_off, View.ld_unit_zero (S := S1024x256) zero_off, View.ld_unit_zero (S := S1x128) zero_off, View.ld_unit_zero (S := S64x512) zero_off]
  rfl

theorem out13_eq (c : Dev nD) (i : grid0.Coords) (arg1 : Memref sig .tc .vmem S512x1024 .f32) (harg1 : arg1.IsWhole) (arg2 : Memref sig .tc .vmem S512x1 .i32) (harg2 : arg2.IsWhole) (arg3 : Memref sig .tc .vmem S1x512 .i32) (harg3 : arg3.IsWhole) (arg4 : Memref sig .tc .vmem S1024x896 .bf16) (harg4 : arg4.IsWhole) (arg5 : Memref sig .tc .vmem S1x384 .f32) (harg5 : arg5.IsWhole) (arg6 : Memref sig .tc .vmem S1x256 .f32) (harg6 : arg6.IsWhole) (arg7 : Memref sig .tc .vmem S2048x384 .bf16) (harg7 : arg7.IsWhole) (arg8 : Memref sig .tc .vmem S256x1024 .bf16) (harg8 : arg8.IsWhole) (arg9 : Memref sig .tc .vmem S1024x256 .bf16) (harg9 : arg9.IsWhole) (arg10 : Memref sig .tc .vmem S1x128 .f32) (harg10 : arg10.IsWhole) (arg11 : Memref sig .tc .vmem S64x512 .f32) (harg11 : arg11.IsWhole) (arg12 : Memref sig .tc .vmem S1x8x192x512 .bf16) (harg12 : arg12.IsWhole) (arg13 : Memref sig .tc .vmem S1x8x512x208 .bf16) (harg13 : arg13.IsWhole) (arg14 : Memref sig .tc .vmem S1x8x2x128x256 .bf16) (harg14 : arg14.IsWhole)
    (x0 : Vec Ideal S512x1024 .f32) (x1 : Vec Ideal S512x1 .i32) (x2 : Vec Ideal S1x512 .i32) (x3 : Vec Ideal S1024x896 .bf16) (x4 : Vec Ideal S1x384 .f32) (x5 : Vec Ideal S1x256 .f32) (x6 : Vec Ideal S2048x384 .bf16) (x7 : Vec Ideal S256x1024 .bf16) (x8 : Vec Ideal S1024x256 .bf16) (x9 : Vec Ideal S1x128 .f32) (x10 : Vec Ideal S64x512 .f32) :
    out0_A_13 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10
      = View.canon (piecesV (lanesV x0 x3 x5 x8)) := by
  unfold out0_A_13
  rw [View.read_writes_eq_canon _ _ _ (cover0_A_13 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10)]
  unfold kernelRun0_A
  dsimp only
  sl_unfold_words
  simp only [View.readCov_eq_canon', View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S512x1024) zero_off, View.ld_unit_zero (S := S512x1) zero_off, View.ld_unit_zero (S := S1x512) zero_off, View.ld_unit_zero (S := S1024x896) zero_off, View.ld_unit_zero (S := S1x384) zero_off, View.ld_unit_zero (S := S1x256) zero_off, View.ld_unit_zero (S := S2048x384) zero_off, View.ld_unit_zero (S := S256x1024) zero_off, View.ld_unit_zero (S := S1024x256) zero_off, View.ld_unit_zero (S := S1x128) zero_off, View.ld_unit_zero (S := S64x512) zero_off]
  rfl

end Cert.Kernel6Ideal.Mla

end
-- ==== Proof.MlaTile.lean ====
/- The elements of one grid point's tiles: the rows' projections. -/
module

public import proofs.«01_k».proof.Proof.MlaOut
public import proofs.«01_k».proof.Proof.MlaMath
public import Idealize.ShloMosaic.Lib.IdealHost
public import Idealize.ShloMosaic.Lib.Pipeline.ValueKit.Geometry

@[expose] public section

set_option maxRecDepth 16384

noncomputable section

namespace Cert.Kernel6Ideal.Mla

open Cert.Kernel6Ideal Cert.Kernel6Ideal.Gen
open Cert.Mla
open Idealize.ShloMosaic Idealize.ShloMosaic.Tactic Idealize.SL.Sem
open scoped BigOperators

theorem ofBits_neg_one : Ideal.ofBits .f32 0xBF800000#32 = -1 := by
  have h : Ideal.ofBits .f32 0xBF800000#32 = ((-(1 : ℝ)) : EReal) := by
    simp [Ideal.ofBits, Ideal.ieee, -EReal.coe_mul, -EReal.coe_neg]; norm_num
  rw [h]
  simp

theorem pay1_apply (x0 : Vec Ideal S512x1024 .f32) (x3 : Vec Ideal S1024x896 .bf16) (r : Fin 512) (c : Fin 896) :
    k0_pay1 (F := Ideal) x0 x3 (ix2 r c) = ∑ k : Fin 1024, x0 (ix2 r k) * x3 (ix2 k c) := by
  unfold k0_pay1
  pointwise

theorem pay2_apply (x0 : Vec Ideal S512x1024 .f32) (x3 : Vec Ideal S1024x896 .bf16) (r : Fin 512) (j : Fin 64) :
    k0_pay2 (F := Ideal) x0 x3 (ix2 r j) = k0_pay1 x0 x3 (ix2 r (⟨640 + j.val, by omega⟩ : Fin 896)) := by
  unfold k0_pay2
  pointwise

theorem pay3_apply (x0 : Vec Ideal S512x1024 .f32) (x3 : Vec Ideal S1024x896 .bf16) (r : Fin 512) (j : Fin 64) :
    k0_pay3 (F := Ideal) x0 x3 (ix2 r j) = k0_pay1 x0 x3 (ix2 r (⟨768 + j.val, by omega⟩ : Fin 896)) := by
  unfold k0_pay3
  pointwise

theorem pay4_apply (x0 : Vec Ideal S512x1024 .f32) (x3 : Vec Ideal S1024x896 .bf16) (x4 : Vec Ideal S1x384 .f32) (r : Fin 512) (j : Fin 384) :
    k0_pay4 (F := Ideal) x0 x3 x4 (ix2 r j) = scaled (Ideal.ofBits .f32 0x43C00000#32)
      (fun k : Fin 384 => k0_pay1 x0 x3 (ix2 r (⟨k.val, by omega⟩ : Fin 896))) (fun k => x4 (ix2 (0 : Fin 1) k)) j := by
  unfold k0_pay4 scaled
  pointwise

theorem pay5_apply (x0 : Vec Ideal S512x1024 .f32) (x3 : Vec Ideal S1024x896 .bf16) (x5 : Vec Ideal S1x256 .f32) (r : Fin 512) (j : Fin 256) :
    k0_pay5 (F := Ideal) x0 x3 x5 (ix2 r j) = scaled (Ideal.ofBits .f32 0x43800000#32)
      (fun k : Fin 256 => k0_pay1 x0 x3 (ix2 r (⟨384 + k.val, by omega⟩ : Fin 896))) (fun k => x5 (ix2 (0 : Fin 1) k)) j := by
  unfold k0_pay5 scaled
  pointwise

theorem lanesQ_apply (x0 : Vec Ideal S512x1024 .f32) (x3 : Vec Ideal S1024x896 .bf16) (x4 : Vec Ideal S1x384 .f32) (x6 : Vec Ideal S2048x384 .bf16)
    (l : Fin 2048) (r : Fin 512) : lanesQ x0 x3 x4 x6 (ix2 l r) = ∑ k : Fin 384, x6 (ix2 l k) * k0_pay4 (F := Ideal) x0 x3 x4 (ix2 r k) := by
  unfold lanesQ k0_pay7 k0_pay6
  pointwise

theorem lanesV_apply (x0 : Vec Ideal S512x1024 .f32) (x3 : Vec Ideal S1024x896 .bf16) (x5 : Vec Ideal S1x256 .f32) (x8 : Vec Ideal S1024x256 .bf16)
    (l : Fin 1024) (r : Fin 512) : lanesV x0 x3 x5 x8 (ix2 l r) = ∑ k : Fin 256, x8 (ix2 l k) * k0_pay5 (F := Ideal) x0 x3 x5 (ix2 r k) := by
  unfold lanesV k0_pay8
  pointwise

theorem lanesK_apply (x0 : Vec Ideal S512x1024 .f32) (x3 : Vec Ideal S1024x896 .bf16) (x5 : Vec Ideal S1x256 .f32) (x7 : Vec Ideal S256x1024 .bf16)
    (r : Fin 512) (l : Fin 1024) : lanesK x0 x3 x5 x7 (ix2 r l) = ∑ k : Fin 256, k0_pay5 (F := Ideal) x0 x3 x5 (ix2 r k) * x7 (ix2 k l) := by
  unfold lanesK k0_pay9
  pointwise

theorem pay10_apply (x1 : Vec Ideal S512x1 .i32) (x9 : Vec Ideal S1x128 .f32) (r : Fin 512) (l : Fin 128) :
    k0_pay10 (F := Ideal) x1 x9 (ix2 r l) = (((x1 (ix2 r (0 : Fin 1))).toInt : ℝ) : EReal) * x9 (ix2 (0 : Fin 1) l) := by
  unfold k0_pay10
  pointwise
  rfl

theorem pay15_apply (x10 : Vec Ideal S64x512 .f32) (x2 : Vec Ideal S1x512 .i32) (r : Fin 64) (s : Fin 512) :
    k0_pay15 (F := Ideal) x10 x2 (ix2 r s) = x10 (ix2 r s) * (((x2 (ix2 (0 : Fin 1) s)).toInt : ℝ) : EReal) := by
  unfold k0_pay15
  pointwise
  rfl

/-- Whether a lane lies in the first half, as the kernel computes it. -/
theorem low_lane : ∀ j : Fin 64, IntOp.cmpi CmpIPredicate.slt
        (Scalar.select
          (IntOp.andi
            (IntOp.xori
              (IntOp.cmpi CmpIPredicate.slt
                (IntOp.remsi ArithUnit.vector (BitVec.ofNat 32 j.val)
                  (Scalar.select (Scalar.cmpi CmpIPredicate.eq 64#32 0#32) 1#32 64#32))
                0#32)
              (Scalar.cmpi CmpIPredicate.slt (Scalar.select (Scalar.cmpi CmpIPredicate.eq 64#32 0#32) 1#32 64#32) 0#32))
            (IntOp.cmpi CmpIPredicate.ne
              (IntOp.remsi ArithUnit.vector (BitVec.ofNat 32 j.val)
                (Scalar.select (Scalar.cmpi CmpIPredicate.eq 64#32 0#32) 1#32 64#32))
              0#32))
          (IntOp.addi
            (IntOp.remsi ArithUnit.vector (BitVec.ofNat 32 j.val)
              (Scalar.select (Scalar.cmpi CmpIPredicate.eq 64#32 0#32) 1#32 64#32))
            (Scalar.select (Scalar.cmpi CmpIPredicate.eq 64#32 0#32) 1#32 64#32))
          (IntOp.remsi ArithUnit.vector (BitVec.ofNat 32 j.val)
            (Scalar.select (Scalar.cmpi CmpIPredicate.eq 64#32 0#32) 1#32 64#32)))
        32#32 = if j.val < 32 then 1#1 else 0#1 := by decide +kernel
theorem low_row : ∀ j : Fin 64, IntOp.cmpi CmpIPredicate.slt (BitVec.ofNat 32 j.val) 32#32 = if j.val < 32 then 1#1 else 0#1 := by decide +kernel

/-- The first lane's mark, as a number. -/
theorem first_lane : ∀ j : Fin 16, (BitVec.setWidth 32 (IntOp.cmpi CmpIPredicate.eq (BitVec.ofNat 32 j.val) 0#32)).toInt = if j.val = 0 then 1 else 0 := by
  decide +kernel

theorem select_sign (j : Fin 64) : Scalar.select (if j.val < 32 then 1#1 else 0#1) (Ideal.ofBits .f32 0xBF800000#32) 1 = sign j := by
  unfold sign
  rw [ofBits_neg_one]
  by_cases h : j.val < 32
  · rw [if_pos h, if_pos h]; rfl
  · rw [if_neg h, if_neg h]; rfl

theorem pay11_apply (j : Fin 64) : k0_pay11 (F := Ideal) (ix2 (0 : Fin 1) (⟨j.val, by omega⟩ : Fin 128)) = sign j := by
  unfold k0_pay11
  pointwise
  rw [low_lane, select_sign]

theorem pay16_apply (x10 : Vec Ideal S64x512 .f32) (x2 : Vec Ideal S1x512 .i32) (r : Fin 64) (s : Fin 512) :
    k0_pay16 (F := Ideal) x10 x2 (ix2 r s) = Ideal.cos (k0_pay15 (F := Ideal) x10 x2 (ix2 r s)) := by
  unfold k0_pay16
  pointwise

theorem pay17_apply (x10 : Vec Ideal S64x512 .f32) (x2 : Vec Ideal S1x512 .i32) (r : Fin 64) (s : Fin 512) :
    k0_pay17 (F := Ideal) x10 x2 (ix2 r s) = Ideal.sin (k0_pay15 (F := Ideal) x10 x2 (ix2 r s)) * sign r := by
  unfold k0_pay17
  pointwise
  rw [low_row, select_sign]

theorem pay18_apply (r : Fin 512) (j : Fin 16) : k0_pay18 (F := Ideal) (ix2 r j) = if j.val = 0 then 1 else 0 := by
  unfold k0_pay18
  pointwise
  show (((BitVec.setWidth 32 (IntOp.cmpi CmpIPredicate.eq (BitVec.ofNat 32 j.val) 0#32)).toInt : ℝ) : EReal) = _
  rw [first_lane]
  by_cases h : j.val = 0
  · rw [if_pos h, if_pos h]; simp
  · rw [if_neg h, if_neg h]; simp

theorem turnedK_apply (x0 : Vec Ideal S512x1024 .f32) (x3 : Vec Ideal S1024x896 .bf16) (x1 : Vec Ideal S512x1 .i32) (x9 : Vec Ideal S1x128 .f32)
    (r : Fin 512) (j : Fin 64) :
    turnedK x0 x3 x1 x9 (ix2 r j) = k0_pay2 (F := Ideal) x0 x3 (ix2 r j) * Ideal.cos (k0_pay10 (F := Ideal) x1 x9 (ix2 r (⟨j.val, by omega⟩ : Fin 128)))
      + k0_pay3 (F := Ideal) x0 x3 (ix2 r j) * (Ideal.sin (k0_pay10 (F := Ideal) x1 x9 (ix2 r (⟨j.val, by omega⟩ : Fin 128))) * sign j) := by
  rw [← pay11_apply]
  unfold turnedK k0_pay14 k0_pay12 k0_pay13
  pointwise

theorem cutN_apply (a : Fin 8) (q : FVec Ideal S2048x512 .f32) (i j : Fin 1) (d : Fin 128) (s : Fin 512) :
    cutN a q (ix4 i j d s) = q (ix2 (⟨a.val * 128 + d.val, by omega⟩ : Fin 2048) s) * Ideal.ofBits .f32 0x3DD53B95#32 := by
  unfold cutN
  pointwise

theorem cutR_apply (a : Fin 8) (q : FVec Ideal S2048x512 .f32) (u w : FVec Ideal S64x512 .f32) (i j : Fin 1) (d : Fin 64) (s : Fin 512) :
    cutR a q u w (ix4 i j d s) = (q (ix2 (⟨1024 + a.val * 64 + d.val, by omega⟩ : Fin 2048) s) * u (ix2 d s)
      + q (ix2 (⟨1536 + a.val * 64 + d.val, by omega⟩ : Fin 2048) s) * w (ix2 d s)) * Ideal.ofBits .f32 0x3DD53B95#32 := by
  unfold cutR
  pointwise

theorem cutK_apply (a : Fin 8) (k : FVec Ideal S512x1024 .f32) (i j : Fin 1) (s : Fin 512) (d : Fin 128) :
    cutK a k (ix4 i j s d) = k (ix2 s (⟨a.val * 128 + d.val, by omega⟩ : Fin 1024)) := by
  unfold cutK
  pointwise

theorem castT_apply (r : FVec Ideal S512x64 .bf16) (i j : Fin 1) (s : Fin 512) (d : Fin 64) :
    shapeCast S1x1x512x64 r shapeCasts_S512x64_S1x1x512x64 (ix4 i j s d) = r (ix2 s d) := by
  pointwise

theorem castP_apply (o : FVec Ideal S512x16 .bf16) (i j : Fin 1) (s : Fin 512) (d : Fin 16) :
    shapeCast S1x1x512x16 o shapeCasts_S512x16_S1x1x512x16 (ix4 i j s d) = o (ix2 s d) := by
  pointwise

theorem cutV_apply (a : Fin 8) (z : Fin 2) (v : FVec Ideal S1024x512 .f32) (i j n : Fin 1) (d : Fin 128) (l : Fin 256) :
    cutV a z v (ix5 i j n d l) = v (ix2 (⟨a.val * 128 + d.val, by omega⟩ : Fin 1024) (⟨z.val * 256 + l.val, by omega⟩ : Fin 512)) := by
  unfold cutV
  pointwise

end Cert.Kernel6Ideal.Mla

end
-- ==== Proof.MlaBlock.lean ====
/- What one grid point of the projections' kernel stores, of the rows it is given. -/
module

public import proofs.«01_k».proof.Proof.MlaTile

@[expose] public section

set_option maxRecDepth 16384

noncomputable section

namespace Cert.Kernel6Ideal.Mla

open Cert.Kernel6Ideal Cert.Kernel6Ideal.Gen
open Cert.Mla
open Idealize.ShloMosaic Idealize.ShloMosaic.Tactic Idealize.SL.Sem
open scoped BigOperators

/-- The blocks of a grid point hold the rows `n` of the data and the whole weights. -/
structure Holds (D : Data) (n : Fin 512 → Fin 32768) (x0 : Vec Ideal S512x1024 .f32) (x1 : Vec Ideal S512x1 .i32) (x2 : Vec Ideal S1x512 .i32)
    (x3 : Vec Ideal S1024x896 .bf16) (x4 : Vec Ideal S1x384 .f32) (x5 : Vec Ideal S1x256 .f32) (x6 : Vec Ideal S2048x384 .bf16)
    (x7 : Vec Ideal S256x1024 .bf16) (x8 : Vec Ideal S1024x256 .bf16) (x9 : Vec Ideal S1x128 .f32) (x10 : Vec Ideal S64x512 .f32) : Prop where
  rows : ∀ r k, x0 (ix2 r k) = D.x (n r) k
  down : ∀ r, (((x1 (ix2 r (0 : Fin 1))).toInt : ℝ) : EReal) = D.p (n r)
  across : ∀ r, (((x2 (ix2 (0 : Fin 1) r)).toInt : ℝ) : EReal) = D.p (n r)
  first : ∀ (k : Fin 1024) (c : Fin 704), x3 (ix2 k (⟨c.val, by omega⟩ : Fin 896)) = D.wi k c
  swapped : ∀ (k : Fin 1024) (r : Fin 64), x3 (ix2 k (⟨768 + r.val, by omega⟩ : Fin 896)) = D.wi k ⟨640 + (other r).val, by omega⟩
  gainQ : ∀ j, x4 (ix2 (0 : Fin 1) j) = D.gq j
  gainK : ∀ j, x5 (ix2 (0 : Fin 1) j) = D.gk j
  queryN : ∀ (a : Fin 8) (d : Fin 128) (k : Fin 384), x6 (ix2 (⟨a.val * 128 + d.val, by omega⟩ : Fin 2048) k) = D.wq k ⟨a.val * 192 + d.val, by omega⟩
  queryR : ∀ (a : Fin 8) (r : Fin 64) (k : Fin 384), x6 (ix2 (⟨1024 + a.val * 64 + r.val, by omega⟩ : Fin 2048) k) = D.wq k ⟨a.val * 192 + 128 + r.val, by omega⟩
  queryS : ∀ (a : Fin 8) (r : Fin 64) (k : Fin 384), x6 (ix2 (⟨1536 + a.val * 64 + r.val, by omega⟩ : Fin 2048) k) = D.wq k ⟨a.val * 192 + 128 + (other r).val, by omega⟩
  key : ∀ (k : Fin 256) (a : Fin 8) (d : Fin 128), x7 (ix2 k (⟨a.val * 128 + d.val, by omega⟩ : Fin 1024)) = D.wk k ⟨a.val * 256 + d.val, by omega⟩
  value : ∀ (a : Fin 8) (d : Fin 128) (k : Fin 256), x8 (ix2 (⟨a.val * 128 + d.val, by omega⟩ : Fin 1024) k) = D.wk k ⟨a.val * 256 + 128 + d.val, by omega⟩
  lane : ∀ r : Fin 64, x9 (ix2 (0 : Fin 1) (⟨r.val, by omega⟩ : Fin 128)) = D.f (angle r)
  row : ∀ (r : Fin 64) (s : Fin 512), x10 (ix2 r s) = D.f (angle r)

section
variable {D : Data} {n : Fin 512 → Fin 32768} {x0 : Vec Ideal S512x1024 .f32} {x1 : Vec Ideal S512x1 .i32} {x2 : Vec Ideal S1x512 .i32}
    {x3 : Vec Ideal S1024x896 .bf16} {x4 : Vec Ideal S1x384 .f32} {x5 : Vec Ideal S1x256 .f32} {x6 : Vec Ideal S2048x384 .bf16}
    {x7 : Vec Ideal S256x1024 .bf16} {x8 : Vec Ideal S1024x256 .bf16} {x9 : Vec Ideal S1x128 .f32} {x10 : Vec Ideal S64x512 .f32}
    (H : Holds D n x0 x1 x2 x3 x4 x5 x6 x7 x8 x9 x10)
include H

theorem Holds.pay1_first (r : Fin 512) (c : Fin 704) : k0_pay1 (F := Ideal) x0 x3 (ix2 r (⟨c.val, by omega⟩ : Fin 896)) = Cert.Mla.down D (n r) c := by
  rw [pay1_apply]
  exact Finset.sum_congr rfl fun k _ => by rw [H.rows, H.first]

theorem Holds.pay1_swapped (r : Fin 512) (j : Fin 64) :
    k0_pay1 (F := Ideal) x0 x3 (ix2 r (⟨768 + j.val, by omega⟩ : Fin 896)) = Cert.Mla.down D (n r) ⟨640 + (other j).val, by omega⟩ := by
  rw [pay1_apply]
  exact Finset.sum_congr rfl fun k _ => by rw [H.rows, H.swapped]

theorem Holds.pay4 (r : Fin 512) (j : Fin 384) : k0_pay4 (F := Ideal) x0 x3 x4 (ix2 r j) = forQuery D (n r) j := by
  rw [pay4_apply, forQuery, show (fun k : Fin 384 => k0_pay1 (F := Ideal) x0 x3 (ix2 r (⟨k.val, by omega⟩ : Fin 896)))
    = fun k => Cert.Mla.down D (n r) ⟨k.val, by omega⟩ from funext fun k => H.pay1_first r ⟨k.val, by omega⟩,
    show (fun k => x4 (ix2 (0 : Fin 1) k)) = D.gq from funext H.gainQ]

theorem Holds.pay5 (r : Fin 512) (j : Fin 256) : k0_pay5 (F := Ideal) x0 x3 x5 (ix2 r j) = forKey D (n r) j := by
  rw [pay5_apply, forKey, show (fun k : Fin 256 => k0_pay1 (F := Ideal) x0 x3 (ix2 r (⟨384 + k.val, by omega⟩ : Fin 896)))
    = fun k => Cert.Mla.down D (n r) ⟨384 + k.val, by omega⟩ from funext fun k => H.pay1_first r ⟨384 + k.val, by omega⟩,
    show (fun k => x5 (ix2 (0 : Fin 1) k)) = D.gk from funext H.gainK]

theorem Holds.lanesN (a : Fin 8) (d : Fin 128) (r : Fin 512) :
    lanesQ x0 x3 x4 x6 (ix2 (⟨a.val * 128 + d.val, by omega⟩ : Fin 2048) r) = query D (n r) ⟨a.val * 192 + d.val, by omega⟩ := by
  rw [lanesQ_apply, query]
  exact Finset.sum_congr rfl fun k _ => by rw [H.pay4, H.queryN, mul_comm]

theorem Holds.lanesR (a : Fin 8) (j : Fin 64) (r : Fin 512) :
    lanesQ x0 x3 x4 x6 (ix2 (⟨1024 + a.val * 64 + j.val, by omega⟩ : Fin 2048) r) = query D (n r) ⟨a.val * 192 + 128 + j.val, by omega⟩ := by
  rw [lanesQ_apply, query]
  exact Finset.sum_congr rfl fun k _ => by rw [H.pay4, H.queryR, mul_comm]

theorem Holds.lanesS (a : Fin 8) (j : Fin 64) (r : Fin 512) :
    lanesQ x0 x3 x4 x6 (ix2 (⟨1536 + a.val * 64 + j.val, by omega⟩ : Fin 2048) r) = query D (n r) ⟨a.val * 192 + 128 + (other j).val, by omega⟩ := by
  rw [lanesQ_apply, query]
  exact Finset.sum_congr rfl fun k _ => by rw [H.pay4, H.queryS, mul_comm]

theorem Holds.lanesK (a : Fin 8) (d : Fin 128) (r : Fin 512) :
    lanesK x0 x3 x5 x7 (ix2 r (⟨a.val * 128 + d.val, by omega⟩ : Fin 1024)) = keyval D (n r) ⟨a.val * 256 + d.val, by omega⟩ := by
  rw [lanesK_apply, keyval]
  exact Finset.sum_congr rfl fun k _ => by rw [H.pay5, H.key]

theorem Holds.lanesV (a : Fin 8) (d : Fin 128) (r : Fin 512) :
    lanesV x0 x3 x5 x8 (ix2 (⟨a.val * 128 + d.val, by omega⟩ : Fin 1024) r) = keyval D (n r) ⟨a.val * 256 + 128 + d.val, by omega⟩ := by
  rw [lanesV_apply, keyval]
  exact Finset.sum_congr rfl fun k _ => by rw [H.pay5, H.value, mul_comm]

theorem Holds.anglesK (r : Fin 512) (j : Fin 64) : k0_pay10 (F := Ideal) x1 x9 (ix2 r (⟨j.val, by omega⟩ : Fin 128)) = angles D (n r) (angle j) := by
  rw [pay10_apply, H.down, H.lane, angles]

theorem Holds.anglesQ (r : Fin 512) (j : Fin 64) : k0_pay15 (F := Ideal) x10 x2 (ix2 j r) = angles D (n r) (angle j) := by
  rw [pay15_apply, H.across, H.row, angles, mul_comm]

theorem Holds.turnedK (r : Fin 512) (j : Fin 64) :
    turnedK x0 x3 x1 x9 (ix2 r j) = turned (fun r' => Cert.Mla.down D (n r) ⟨640 + r'.val, by omega⟩) (angles D (n r)) j := by
  rw [turnedK_apply, pay2_apply, pay3_apply, H.anglesK, H.pay1_swapped,
    show k0_pay1 (F := Ideal) x0 x3 (ix2 r (⟨640 + j.val, by omega⟩ : Fin 896)) = Cert.Mla.down D (n r) ⟨640 + j.val, by omega⟩ from
      H.pay1_first r ⟨640 + j.val, by omega⟩]
  exact turned_eq (fun r' => Cert.Mla.down D (n r) ⟨640 + r'.val, by omega⟩) (angles D (n r)) j

theorem Holds.turnedQ (a : Fin 8) (r : Fin 512) (j : Fin 64) :
    lanesQ x0 x3 x4 x6 (ix2 (⟨1024 + a.val * 64 + j.val, by omega⟩ : Fin 2048) r) * k0_pay16 (F := Ideal) x10 x2 (ix2 j r)
      + lanesQ x0 x3 x4 x6 (ix2 (⟨1536 + a.val * 64 + j.val, by omega⟩ : Fin 2048) r) * k0_pay17 (F := Ideal) x10 x2 (ix2 j r)
      = turned (fun r' => query D (n r) ⟨a.val * 192 + 128 + r'.val, by omega⟩) (angles D (n r)) j := by
  rw [pay16_apply, pay17_apply, H.anglesQ, H.lanesR, H.lanesS]
  exact turned_eq (fun r' => query D (n r) ⟨a.val * 192 + 128 + r'.val, by omega⟩) (angles D (n r)) j
end

/-- What the three blocks hold. -/
def blockQ (D : Data) (n : Fin 512 → Fin 32768) : Vec Ideal S1x8x192x512 .bf16 := fun y => queryLane D (n (y 3)) (y 1) (y 2) * Ideal.ofBits .f32 0x3DD53B95#32
def blockK (D : Data) (n : Fin 512 → Fin 32768) : Vec Ideal S1x8x512x208 .bf16 := fun y => keyLane D (n (y 2)) (y 1) (y 3)
def blockV (D : Data) (n : Fin 512 → Fin 32768) : Vec Ideal S1x8x2x128x256 .bf16 := fun y =>
  keyval D (n ⟨(show Fin 2 from y 2).val * 256 + (show Fin 256 from y 4).val, by have := (show Fin 2 from y 2).isLt; have := (show Fin 256 from y 4).isLt; omega⟩)
    (valueCol (y 1) (y 3))

/-- Where a store's elements lie. -/
theorem embN (a : Fin 8) (i j : Fin 1) (d : Fin 128) (s : Fin 512) : (Rect.unit (s := S1x8x192x512) ![0, a.val, 0, 0] S1x1x128x512.size (inbN a)).emb (ix4 i j d s)
    = ix4 (0 : Fin 1) a (⟨d.val, by omega⟩ : Fin 192) s := funext fun e => Fin.ext (match e with
  | ⟨0, _⟩ => (show 0 + 1 * i.val = 0 by omega)
  | ⟨1, _⟩ => (show a.val + 1 * j.val = a.val by omega)
  | ⟨2, _⟩ => (show 0 + 1 * d.val = d.val by omega)
  | ⟨3, _⟩ => (show 0 + 1 * s.val = s.val by omega))
theorem embR (a : Fin 8) (i j : Fin 1) (d : Fin 64) (s : Fin 512) : (Rect.unit (s := S1x8x192x512) ![0, a.val, 128, 0] S1x1x64x512.size (inbR a)).emb (ix4 i j d s)
    = ix4 (0 : Fin 1) a (⟨128 + d.val, by omega⟩ : Fin 192) s := funext fun e => Fin.ext (match e with
  | ⟨0, _⟩ => (show 0 + 1 * i.val = 0 by omega)
  | ⟨1, _⟩ => (show a.val + 1 * j.val = a.val by omega)
  | ⟨2, _⟩ => (show 128 + 1 * d.val = 128 + d.val by omega)
  | ⟨3, _⟩ => (show 0 + 1 * s.val = s.val by omega))
theorem embK (a : Fin 8) (i j : Fin 1) (s : Fin 512) (d : Fin 128) : (Rect.unit (s := S1x8x512x208) ![0, a.val, 0, 0] S1x1x512x128.size (inbK a)).emb (ix4 i j s d)
    = ix4 (0 : Fin 1) a s (⟨d.val, by omega⟩ : Fin 208) := funext fun e => Fin.ext (match e with
  | ⟨0, _⟩ => (show 0 + 1 * i.val = 0 by omega)
  | ⟨1, _⟩ => (show a.val + 1 * j.val = a.val by omega)
  | ⟨2, _⟩ => (show 0 + 1 * s.val = s.val by omega)
  | ⟨3, _⟩ => (show 0 + 1 * d.val = d.val by omega))
theorem embT (a : Fin 8) (i j : Fin 1) (s : Fin 512) (d : Fin 64) : (Rect.unit (s := S1x8x512x208) ![0, a.val, 0, 128] S1x1x512x64.size (inbT a)).emb (ix4 i j s d)
    = ix4 (0 : Fin 1) a s (⟨128 + d.val, by omega⟩ : Fin 208) := funext fun e => Fin.ext (match e with
  | ⟨0, _⟩ => (show 0 + 1 * i.val = 0 by omega)
  | ⟨1, _⟩ => (show a.val + 1 * j.val = a.val by omega)
  | ⟨2, _⟩ => (show 0 + 1 * s.val = s.val by omega)
  | ⟨3, _⟩ => (show 128 + 1 * d.val = 128 + d.val by omega))
theorem embP (a : Fin 8) (i j : Fin 1) (s : Fin 512) (d : Fin 16) : (Rect.unit (s := S1x8x512x208) ![0, a.val, 0, 192] S1x1x512x16.size (inbP a)).emb (ix4 i j s d)
    = ix4 (0 : Fin 1) a s (⟨192 + d.val, by omega⟩ : Fin 208) := funext fun e => Fin.ext (match e with
  | ⟨0, _⟩ => (show 0 + 1 * i.val = 0 by omega)
  | ⟨1, _⟩ => (show a.val + 1 * j.val = a.val by omega)
  | ⟨2, _⟩ => (show 0 + 1 * s.val = s.val by omega)
  | ⟨3, _⟩ => (show 192 + 1 * d.val = 192 + d.val by omega))
theorem embV (a : Fin 8) (z : Fin 2) (i j o : Fin 1) (d : Fin 128) (l : Fin 256) :
    (Rect.unit (s := S1x8x2x128x256) ![0, a.val, z.val, 0, 0] S1x1x1x128x256.size (inbV a z)).emb (ix5 i j o d l)
    = ix5 (0 : Fin 1) a z d l := funext fun e => Fin.ext (match e with
  | ⟨0, _⟩ => (show 0 + 1 * i.val = 0 by omega)
  | ⟨1, _⟩ => (show a.val + 1 * j.val = a.val by omega)
  | ⟨2, _⟩ => (show z.val + 1 * o.val = z.val by omega)
  | ⟨3, _⟩ => (show 0 + 1 * d.val = d.val by omega)
  | ⟨4, _⟩ => (show 0 + 1 * l.val = l.val by omega))

theorem blockQ_first (D : Data) (n : Fin 512 → Fin 32768) (a : Fin 8) (d : Fin 128) (s : Fin 512) :
    blockQ D n (ix4 (0 : Fin 1) a (⟨d.val, by omega⟩ : Fin 192) s) = query D (n s) ⟨a.val * 192 + d.val, by omega⟩ * Ideal.ofBits .f32 0x3DD53B95#32 := by
  show queryLane D (n s) a (⟨d.val, by omega⟩ : Fin 192) * _ = _
  rw [queryLane, dif_pos d.isLt]

theorem blockQ_last (D : Data) (n : Fin 512 → Fin 32768) (a : Fin 8) (d : Fin 64) (s : Fin 512) :
    blockQ D n (ix4 (0 : Fin 1) a (⟨128 + d.val, by omega⟩ : Fin 192) s)
      = turned (fun r => query D (n s) ⟨a.val * 192 + 128 + r.val, by omega⟩) (angles D (n s)) d * Ideal.ofBits .f32 0x3DD53B95#32 := by
  show queryLane D (n s) a (⟨128 + d.val, by omega⟩ : Fin 192) * _ = _
  rw [queryLane, dif_neg (show ¬ 128 + d.val < 128 by omega)]
  exact congrArg (fun j => turned (fun r => query D (n s) ⟨a.val * 192 + 128 + r.val, by omega⟩) (angles D (n s)) j * _)
    (Fin.ext (show 128 + d.val - 128 = d.val by omega))

theorem blockK_first (D : Data) (n : Fin 512 → Fin 32768) (a : Fin 8) (s : Fin 512) (d : Fin 128) :
    blockK D n (ix4 (0 : Fin 1) a s (⟨d.val, by omega⟩ : Fin 208)) = keyval D (n s) ⟨a.val * 256 + d.val, by omega⟩ := by
  show keyLane D (n s) a (⟨d.val, by omega⟩ : Fin 208) = _
  rw [keyLane, dif_pos d.isLt]

theorem blockK_turned (D : Data) (n : Fin 512 → Fin 32768) (a : Fin 8) (s : Fin 512) (d : Fin 64) :
    blockK D n (ix4 (0 : Fin 1) a s (⟨128 + d.val, by omega⟩ : Fin 208))
      = turned (fun r => Cert.Mla.down D (n s) ⟨640 + r.val, by omega⟩) (angles D (n s)) d := by
  show keyLane D (n s) a (⟨128 + d.val, by omega⟩ : Fin 208) = _
  rw [keyLane, dif_neg (show ¬ 128 + d.val < 128 by omega), dif_pos (show 128 + d.val < 192 by omega)]
  exact congrArg (turned (fun r => Cert.Mla.down D (n s) ⟨640 + r.val, by omega⟩) (angles D (n s))) (Fin.ext (show 128 + d.val - 128 = d.val by omega))

theorem blockK_ones (D : Data) (n : Fin 512 → Fin 32768) (a : Fin 8) (s : Fin 512) (d : Fin 16) :
    blockK D n (ix4 (0 : Fin 1) a s (⟨192 + d.val, by omega⟩ : Fin 208)) = if d.val = 0 then 1 else 0 := by
  show keyLane D (n s) a (⟨192 + d.val, by omega⟩ : Fin 208) = _
  rw [keyLane, dif_neg (show ¬ 192 + d.val < 128 by omega), dif_neg (show ¬ 192 + d.val < 192 by omega)]
  by_cases h : d.val = 0
  · rw [if_pos h, if_pos (show 192 + d.val = 192 by omega)]
  · rw [if_neg h, if_neg (show ¬ 192 + d.val = 192 by omega)]

theorem blockV_apply (D : Data) (n : Fin 512 → Fin 32768) (a : Fin 8) (z : Fin 2) (d : Fin 128) (l : Fin 256) :
    blockV D n (ix5 (0 : Fin 1) a z d l) = keyval D (n ⟨z.val * 256 + l.val, by omega⟩) ⟨a.val * 256 + 128 + d.val, by omega⟩ := rfl

theorem coverQ (q : FVec Ideal S2048x512 .f32) (u w : FVec Ideal S64x512 .f32) (y : S1x8x192x512.Idx) : ∃ p ∈ piecesQ q u w, y ∈ p.1.set :=
  View.cover_of_tiledBy (piecesQ q u w) ![1, 1, 64, 512] (by sl_kernel_rfl) y
theorem coverK (k : FVec Ideal S512x1024 .f32) (r : FVec Ideal S512x64 .bf16) (o : FVec Ideal S512x16 .bf16) (y : S1x8x512x208.Idx) :
    ∃ p ∈ piecesK k r o, y ∈ p.1.set :=
  View.cover_of_tiledBy (piecesK k r o) ![1, 1, 512, 16] (by sl_kernel_rfl) y
theorem coverV (v : FVec Ideal S1024x512 .f32) (y : S1x8x2x128x256.Idx) : ∃ p ∈ piecesV v, y ∈ p.1.set :=
  View.cover_of_tiledL (piecesV v) S1x1x1x128x256.size (by sl_kernel_rfl) y

section
variable {D : Data} {n : Fin 512 → Fin 32768} {x0 : Vec Ideal S512x1024 .f32} {x1 : Vec Ideal S512x1 .i32} {x2 : Vec Ideal S1x512 .i32}
    {x3 : Vec Ideal S1024x896 .bf16} {x4 : Vec Ideal S1x384 .f32} {x5 : Vec Ideal S1x256 .f32} {x6 : Vec Ideal S2048x384 .bf16}
    {x7 : Vec Ideal S256x1024 .bf16} {x8 : Vec Ideal S1024x256 .bf16} {x9 : Vec Ideal S1x128 .f32} {x10 : Vec Ideal S64x512 .f32}
    (H : Holds D n x0 x1 x2 x3 x4 x5 x6 x7 x8 x9 x10)
include H

/-- The stores of the queries make their block. -/
theorem canonQ : View.canon (piecesQ (lanesQ x0 x3 x4 x6) (k0_pay16 x10 x2) (k0_pay17 x10 x2)) = blockQ D n := by
  funext y
  refine View.canon_apply_of_pieces (blockQ D n) _ ?_ y (coverQ _ _ _ y)
  intro p hp
  obtain ⟨a, -, h⟩ := List.mem_flatMap.1 hp
  simp only [List.mem_cons, List.not_mem_nil, or_false] at h
  rcases h with rfl | rfl
  · intro x
    obtain ⟨i, j, d, s, rfl⟩ := exists_ix4 (a := 1) (b := 1) (c := 64) (d := 512) x
    refine (cutR_apply a _ _ _ i j d s).trans ?_
    rw [H.turnedQ]
    exact (blockQ_last D n a d s).symm.trans (congrArg (blockQ D n) (embR a i j d s).symm)
  · intro x
    obtain ⟨i, j, d, s, rfl⟩ := exists_ix4 (a := 1) (b := 1) (c := 128) (d := 512) x
    refine (cutN_apply a _ i j d s).trans ?_
    rw [H.lanesN]
    exact (blockQ_first D n a d s).symm.trans (congrArg (blockQ D n) (embN a i j d s).symm)

/-- The stores of the keys make their block. -/
theorem canonK : View.canon (piecesK (Cert.Kernel6Ideal.Mla.lanesK x0 x3 x5 x7) (Cert.Kernel6Ideal.Mla.turnedK x0 x3 x1 x9) k0_pay18) = blockK D n := by
  funext y
  refine View.canon_apply_of_pieces (blockK D n) _ ?_ y (coverK _ _ _ y)
  intro p hp
  obtain ⟨a, -, h⟩ := List.mem_flatMap.1 hp
  simp only [List.mem_cons, List.not_mem_nil, or_false] at h
  rcases h with rfl | rfl | rfl
  · intro x
    obtain ⟨i, j, s, d, rfl⟩ := exists_ix4 (a := 1) (b := 1) (c := 512) (d := 16) x
    refine (castP_apply (k0_pay18 (F := Ideal)) i j s d).trans ?_
    rw [pay18_apply]
    exact (blockK_ones D n a s d).symm.trans (congrArg (blockK D n) (embP a i j s d).symm)
  · intro x
    obtain ⟨i, j, s, d, rfl⟩ := exists_ix4 (a := 1) (b := 1) (c := 512) (d := 64) x
    refine (castT_apply (Cert.Kernel6Ideal.Mla.turnedK x0 x3 x1 x9) i j s d).trans ?_
    rw [H.turnedK]
    exact (blockK_turned D n a s d).symm.trans (congrArg (blockK D n) (embT a i j s d).symm)
  · intro x
    obtain ⟨i, j, s, d, rfl⟩ := exists_ix4 (a := 1) (b := 1) (c := 512) (d := 128) x
    refine (cutK_apply a _ i j s d).trans ?_
    rw [H.lanesK]
    exact (blockK_first D n a s d).symm.trans (congrArg (blockK D n) (embK a i j s d).symm)

/-- The stores of the values make their block. -/
theorem canonV : View.canon (piecesV (Cert.Kernel6Ideal.Mla.lanesV x0 x3 x5 x8)) = blockV D n := by
  funext y
  refine View.canon_apply_of_pieces (blockV D n) _ ?_ y (coverV _ y)
  intro p hp
  obtain ⟨a, -, h⟩ := List.mem_flatMap.1 hp
  simp only [List.mem_cons, List.not_mem_nil, or_false] at h
  have one : ∀ (z : Fin 2) (x : S1x1x1x128x256.Idx), cutV a z (Cert.Kernel6Ideal.Mla.lanesV x0 x3 x5 x8) x
      = blockV D n ((Rect.unit (s := S1x8x2x128x256) ![0, a.val, z.val, 0, 0] S1x1x1x128x256.size (inbV a z)).emb x) := by
    intro z x
    obtain ⟨i, j, o, d, l, rfl⟩ := exists_ix5 (a := 1) (b := 1) (c := 1) (d := 128) (e := 256) x
    refine (cutV_apply a z _ i j o d l).trans ?_
    rw [H.lanesV]
    exact (blockV_apply D n a z d l).symm.trans (congrArg (blockV D n) (embV a z i j o d l).symm)
  rcases h with rfl | rfl
  · exact one 1
  · exact one 0
end

end Cert.Kernel6Ideal.Mla

end
-- ==== Proof.MlaHost.lean ====
/- What the host hands the projections' call: the weights in its lanes' order, the frequencies, the positions. -/
module

public import proofs.«01_k».proof.Proof.Gen.Kernel6Ideal.Frame.Runs
public import Idealize.ShloMosaic.Lib.StableHlo.Run
public import Idealize.ShloMosaic.Lib.Pointwise

@[expose] public section

set_option maxRecDepth 16384

noncomputable section

namespace Cert.Kernel6Ideal.Mla

open Cert.Kernel6Ideal Cert.Kernel6Ideal.Gen
open Idealize.ShloMosaic Idealize.ShloMosaic.TcCoe Idealize.SL.Sem Idealize.ShloMosaic.StableHlo
open scoped BigOperators

/-- The frequencies. -/
def freqs : FVec Ideal S32 .f32 :=
  Host.divf (broadcastInDim S32 ![] bcast_S_S32 (constant S_ .f32 0x3F800000#32))
    (Host.powf (broadcastInDim S32 ![] bcast_S_S32 (constant S_ .f32 0x461C4000#32))
      (Host.divf (addf (broadcastInDim S32 ![] bcast_S_S32 (constant S_ .f32 0x00000000#32))
        (mulf (broadcastInDim S32 ![] bcast_S_S32 (constant S_ .f32 0x40000000#32)) (sitofp .f32 (iotaInDim S32 32 0))))
        (broadcastInDim S32 ![] bcast_S_S32 (constant S_ .f32 0x42800000#32))))

/-- The down-projection's weights: behind them the turned columns with their halves swapped, between zeros. -/
def hostIn (w : FVec Ideal S1024x704 .f32) : FVec Ideal S1024x896 .bf16 :=
  truncf .bf16 (concatenate S1024x896 1 [⟨S1024x704, w⟩, ⟨S1024x64, broadcastInDim S1024x64 ![] bcast_S_S1024x64 (constant S_ .f32 0x00000000#32)⟩,
    ⟨S1024x32, extractStridedSlice S1024x32 ![0, 672] w slices_S1024x704_S1024x32_0_672⟩, ⟨S1024x32, extractStridedSlice S1024x32 ![0, 640] w slices_S1024x704_S1024x32_0_640⟩,
    ⟨S1024x64, broadcastInDim S1024x64 ![] bcast_S_S1024x64 (constant S_ .f32 0x00000000#32)⟩]
    concatenates_S1024x704_S1024x64_S1024x32_S1024x32_S1024x64_S1024x896_d1) bitsLt_bf16_f32

/-- The heads' first query lanes, then their last, then these with their halves swapped. -/
def hostQ (w : FVec Ideal S384x8x192 .f32) : FVec Ideal S2048x384 .bf16 :=
  truncf .bf16 (transpose S2048x384 [1, 0] (concatenate S384x2048 1 [
    ⟨S384x1024, shapeCast S384x1024 (extractStridedSlice S384x8x128 ![0, 0, 0] w slices_S384x8x192_S384x8x128_0_0_0) shapeCasts_S384x8x128_S384x1024⟩,
    ⟨S384x512, shapeCast S384x512 (extractStridedSlice S384x8x64 ![0, 0, 128] w slices_S384x8x192_S384x8x64_0_0_128) shapeCasts_S384x8x64_S384x512⟩,
    ⟨S384x512, shapeCast S384x512 (concatenate S384x8x64 2 [⟨S384x8x32, extractStridedSlice S384x8x32 ![0, 0, 160] w slices_S384x8x192_S384x8x32_0_0_160⟩,
      ⟨S384x8x32, extractStridedSlice S384x8x32 ![0, 0, 128] w slices_S384x8x192_S384x8x32_0_0_128⟩] concatenates_S384x8x32_S384x8x32_S384x8x64_d2) shapeCasts_S384x8x64_S384x512⟩]
    concatenates_S384x1024_S384x512_S384x512_S384x2048_d1) transposes_S384x2048_S2048x384_1_0) bitsLt_bf16_f32

/-- The keys' and the values' weights. -/
def hostK (w : FVec Ideal S256x8x256 .f32) : FVec Ideal S256x1024 .bf16 :=
  truncf .bf16 (shapeCast S256x1024 (extractStridedSlice S256x8x128 ![0, 0, 0] w slices_S256x8x256_S256x8x128_0_0_0) shapeCasts_S256x8x128_S256x1024) bitsLt_bf16_f32
def hostV (w : FVec Ideal S256x8x256 .f32) : FVec Ideal S1024x256 .bf16 :=
  truncf .bf16 (transpose S1024x256 [1, 0] (shapeCast S256x1024 (extractStridedSlice S256x8x128 ![0, 0, 128] w slices_S256x8x256_S256x8x128_0_0_128)
    shapeCasts_S256x8x128_S256x1024) transposes_S256x1024_S1024x256_1_0) bitsLt_bf16_f32

/-- The frequencies along the lanes, and down the lanes of a tile. -/
def hostF (f : FVec Ideal S32 .f32) : FVec Ideal S1x128 .f32 :=
  broadcastInDim S1x128 ![1] bcast_S128_S1x128_1 (shapeCast S128 (broadcastInDim S4x32 ![0, 1] bcast_S1x32_S4x32_0_1 (shapeCast S1x32 f shapeCasts_S32_S1x32)) shapeCasts_S4x32_S128)
def hostB (f : FVec Ideal S32 .f32) : FVec Ideal S64x512 .f32 :=
  broadcastInDim S64x512 ![0, 1] bcast_S64x1_S64x512_0_1 (broadcastInDim S64x1 ![0] bcast_S64_S64x1_0
    (shapeCast S64 (broadcastInDim S2x32 ![0, 1] bcast_S1x32_S2x32_0_1 (shapeCast S1x32 f shapeCasts_S32_S1x32)) shapeCasts_S2x32_S64))

theorem hostIn_apply (w : FVec Ideal S1024x704 .f32) (k : Fin 1024) (c : Fin 704) : hostIn w (ix2 k (⟨c.val, by omega⟩ : Fin 896)) = w (ix2 k c) := by
  unfold hostIn
  pointwise

theorem hostIn_swap (w : FVec Ideal S1024x704 .f32) (k : Fin 1024) (r : Fin 64) : hostIn w (ix2 k (⟨768 + r.val, by omega⟩ : Fin 896))
    = w (ix2 k (if h : r.val < 32 then ⟨672 + r.val, by omega⟩ else ⟨640 + (r.val - 32), by omega⟩ : Fin 704)) := by
  unfold hostIn
  pointwise
  by_cases h : r.val < 32
  · simp only [dif_pos h]
    split_ifs <;> first
      | (exfalso; omega)
      | exact congrArg w (congrArg (ix2 k) (Fin.ext (by dsimp only; omega)))
  · simp only [dif_neg h]
    split_ifs <;> first
      | (exfalso; omega)
      | exact congrArg w (congrArg (ix2 k) (Fin.ext (by dsimp only; omega)))

theorem hostQ_apply (w : FVec Ideal S384x8x192 .f32) (a : Fin 8) (d : Fin 128) (k : Fin 384) :
    hostQ w (ix2 (⟨a.val * 128 + d.val, by omega⟩ : Fin 2048) k) = w (ix3 k a (⟨d.val, by omega⟩ : Fin 192)) := by
  unfold hostQ
  pointwise
  rw [dif_pos (by omega)]

theorem hostQ_last (w : FVec Ideal S384x8x192 .f32) (a : Fin 8) (r : Fin 64) (k : Fin 384) :
    hostQ w (ix2 (⟨1024 + a.val * 64 + r.val, by omega⟩ : Fin 2048) k) = w (ix3 k a (⟨128 + r.val, by omega⟩ : Fin 192)) := by
  unfold hostQ
  pointwise
  split_ifs <;> first
    | (exfalso; omega)
    | exact congrArg w (congrArg₂ (ix3 k) (Fin.ext (by dsimp only; omega)) (Fin.ext (by dsimp only; omega)))

theorem hostQ_swap (w : FVec Ideal S384x8x192 .f32) (a : Fin 8) (r : Fin 64) (k : Fin 384) :
    hostQ w (ix2 (⟨1536 + a.val * 64 + r.val, by omega⟩ : Fin 2048) k)
      = w (ix3 k a (if h : r.val < 32 then ⟨160 + r.val, by omega⟩ else ⟨128 + (r.val - 32), by omega⟩ : Fin 192)) := by
  unfold hostQ
  pointwise
  by_cases h : r.val < 32
  · simp only [dif_pos h]
    split_ifs <;> first
      | (exfalso; omega)
      | exact congrArg w (congrArg₂ (ix3 k) (Fin.ext (by dsimp only; omega)) (Fin.ext (by dsimp only; omega)))
  · simp only [dif_neg h]
    split_ifs <;> first
      | (exfalso; omega)
      | exact congrArg w (congrArg₂ (ix3 k) (Fin.ext (by dsimp only; omega)) (Fin.ext (by dsimp only; omega)))

theorem hostK_apply (w : FVec Ideal S256x8x256 .f32) (k : Fin 256) (a : Fin 8) (d : Fin 128) :
    hostK w (ix2 k (⟨a.val * 128 + d.val, by omega⟩ : Fin 1024)) = w (ix3 k a (⟨d.val, by omega⟩ : Fin 256)) := by
  unfold hostK
  pointwise

theorem hostV_apply (w : FVec Ideal S256x8x256 .f32) (k : Fin 256) (a : Fin 8) (d : Fin 128) :
    hostV w (ix2 (⟨a.val * 128 + d.val, by omega⟩ : Fin 1024) k) = w (ix3 k a (⟨128 + d.val, by omega⟩ : Fin 256)) := by
  unfold hostV
  pointwise

theorem hostF_apply (f : FVec Ideal S32 .f32) (l : Fin 128) : hostF f (ix2 (0 : Fin 1) l) = f (ix1 (⟨l.val % 32, by omega⟩ : Fin 32)) := by
  unfold hostF
  pointwise

theorem hostB_apply (f : FVec Ideal S32 .f32) (r : Fin 64) (s : Fin 512) : hostB f (ix2 r s) = f (ix1 (⟨r.val % 32, by omega⟩ : Fin 32)) := by
  unfold hostB
  pointwise

variable (m : (ℓ : Loc nD τ sig) → Buf (Elt Ideal) ℓ) (c : Dev nD)

theorem V_v21 : V m c main_v21 = hostIn (m ((c.tc : Thread nD τ).loc main_arg2)) := by
  unfold V hostOps0
  after_results_simp <;> rfl

theorem V_v39 : V m c main_v39 = hostF freqs := by
  unfold V hostOps0
  after_results_simp <;> rfl

theorem V_v22 : V m c main_v22 = hostQ (shapeCast S384x8x192 (m ((c.tc : Thread nD τ).loc main_arg4)) shapeCasts_S384x1536_S384x8x192) := by
  unfold V hostOps0
  after_results_simp <;> rfl

theorem V_v23 : V m c main_v23 = hostK (shapeCast S256x8x256 (m ((c.tc : Thread nD τ).loc main_arg6)) shapeCasts_S256x2048_S256x8x256) := by
  unfold V hostOps0
  after_results_simp <;> rfl

theorem V_v24 : V m c main_v24 = hostV (shapeCast S256x8x256 (m ((c.tc : Thread nD τ).loc main_arg6)) shapeCasts_S256x2048_S256x8x256) := by
  unfold V hostOps0
  after_results_simp <;> rfl

theorem V_v44 : V m c main_v44 = hostB freqs := by
  unfold V hostOps0
  after_results_simp <;> rfl

theorem V_v45 : V m c main_v45 = shapeCast S32768x1 (m ((c.tc : Thread nD τ).loc main_arg1)) shapeCasts_S2x16384_S32768x1 := by
  unfold V hostOps0
  after_results_simp <;> rfl

theorem V_v46 : V m c main_v46 = shapeCast S1x32768 (m ((c.tc : Thread nD τ).loc main_arg1)) shapeCasts_S2x16384_S1x32768 := by
  unfold V hostOps0
  after_results_simp <;> rfl

theorem V_v47 : V m c main_v47 = broadcastInDim S1x384 ![1] bcast_S384_S1x384_1 (m ((c.tc : Thread nD τ).loc main_arg3)) := by
  unfold V hostOps0
  after_results_simp <;> rfl

theorem V_v48 : V m c main_v48 = broadcastInDim S1x256 ![1] bcast_S256_S1x256_1 (m ((c.tc : Thread nD τ).loc main_arg5)) := by
  unfold V hostOps0
  after_results_simp <;> rfl

end Cert.Kernel6Ideal.Mla

end
-- ==== Proof.MlaValue.lean ====
/- The projections' kernel's three result arrays: every element is the specification's. -/
module

public import proofs.«01_k».proof.Proof.MlaBlock
public import proofs.«01_k».proof.Proof.MlaHost
public import Idealize.ShloMosaic.Lib.Pipeline.ValueKit.Geometry

@[expose] public section

set_option maxRecDepth 16384

noncomputable section

namespace Cert.Kernel6Ideal.Mla

open Cert.Kernel6Ideal Cert.Kernel6Ideal.Gen
open Cert.Mla
open Idealize.ShloMosaic Idealize.ShloMosaic.TcCoe Idealize.SL.Sem
open scoped BigOperators

theorem index0 : ∀ t : Fin cfg0.N, win0_0.index t = ![(grid0.coords t 0).val, 0] := (by decide +kernel : ∀ t : Fin grid0.N, _)
theorem index1 : ∀ t : Fin cfg0.N, win0_1.index t = ![(grid0.coords t 0).val, 0] := (by decide +kernel : ∀ t : Fin grid0.N, _)
theorem index2 : ∀ t : Fin cfg0.N, win0_2.index t = ![0, (grid0.coords t 0).val] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![0, 0] := (by decide +kernel : ∀ t : Fin grid0.N, _)
theorem index6 : ∀ t : Fin cfg0.N, win0_6.index t = ![0, 0] := (by decide +kernel : ∀ t : Fin grid0.N, _)
theorem index7 : ∀ t : Fin cfg0.N, win0_7.index t = ![0, 0] := (by decide +kernel : ∀ t : Fin grid0.N, _)
theorem index8 : ∀ t : Fin cfg0.N, win0_8.index t = ![0, 0] := (by decide +kernel : ∀ t : Fin grid0.N, _)
theorem index9 : ∀ t : Fin cfg0.N, win0_9.index t = ![0, 0] := (by decide +kernel : ∀ t : Fin grid0.N, _)
theorem index10 : ∀ t : Fin cfg0.N, win0_10.index t = ![0, 0] := (by decide +kernel : ∀ t : Fin grid0.N, _)
theorem index11 : ∀ t : Fin cfg0.N, win0_11.index t = ![(grid0.coords t 0).val / 32, 0, 0, (grid0.coords t 0).val % 32] := (by decide +kernel : ∀ t : Fin grid0.N, _)
theorem index12 : ∀ t : Fin cfg0.N, win0_12.index t = ![(grid0.coords t 0).val / 32, 0, (grid0.coords t 0).val % 32, 0] := (by decide +kernel : ∀ t : Fin grid0.N, _)
theorem index13 : ∀ t : Fin cfg0.N, win0_13.index t = ![(grid0.coords t 0).val / 32, 0, (grid0.coords t 0).val % 32, 0, 0] := (by decide +kernel : ∀ t : Fin grid0.N, _)

/-- The tile of a point of the grid, and its rows. -/
def part (t : Fin cfg0.N) : Fin 64 := grid0.coords t 0
def rowOf (t : Fin cfg0.N) (r : Fin 512) : Fin 32768 := ⟨(part t).val * 512 + r.val, by have := (part t).isLt; omega⟩

variable (m : (ℓ : Loc nD τ sig) → Buf (Elt Ideal) ℓ) (c : Dev nD)

/-- The arrays the run is given. -/
def argX : Vec Ideal S32768x1024 .f32 := m ((c.tc : Thread nD τ).loc main_arg0)
def argP : Vec Ideal S2x16384 .i32 := m ((c.tc : Thread nD τ).loc main_arg1)
def argIn : Vec Ideal S1024x704 .f32 := m ((c.tc : Thread nD τ).loc main_arg2)
def argGq : Vec Ideal S384 .f32 := m ((c.tc : Thread nD τ).loc main_arg3)
def argQ : Vec Ideal S384x1536 .f32 := m ((c.tc : Thread nD τ).loc main_arg4)
def argGk : Vec Ideal S256 .f32 := m ((c.tc : Thread nD τ).loc main_arg5)
def argK : Vec Ideal S256x2048 .f32 := m ((c.tc : Thread nD τ).loc main_arg6)

/-- They, as the projections' data. -/
def dataAt : Data := dataOf (argX m c) (argP m c) freqs (argIn m c) (argGq m c) (argQ m c) (argGk m c) (argK m c)

/-- The arrays the call is given: what the host computes of them. -/
def inP : Vec Ideal S32768x1 .i32 := V m c main_v45
def inT : Vec Ideal S1x32768 .i32 := V m c main_v46
def inW : Vec Ideal S1024x896 .bf16 := V m c main_v21
def inGq : Vec Ideal S1x384 .f32 := V m c main_v47
def inGk : Vec Ideal S1x256 .f32 := V m c main_v48
def inQ : Vec Ideal S2048x384 .bf16 := V m c main_v22
def inK : Vec Ideal S256x1024 .bf16 := V m c main_v23
def inV : Vec Ideal S1024x256 .bf16 := V m c main_v24
def inF : Vec Ideal S1x128 .f32 := V m c main_v39
def inB : Vec Ideal S64x512 .f32 := V m c main_v44

theorem block0 (t : Fin cfg0.N) (r : Fin 512) (k : Fin 1024) : iblk m c 0 t (ix2 r k) = argX m c (ix2 (rowOf t r) k) := by
  unfold argX rowOf part
  blk_ext [iblk, V, index0]
theorem block1 (t : Fin cfg0.N) (r : Fin 512) (z : Fin 1) : iblk m c 1 t (ix2 r z) = inP m c (ix2 (rowOf t r) z) := by
  unfold inP rowOf part
  blk_ext [iblk, index1]
theorem block2 (t : Fin cfg0.N) (r : Fin 512) (z : Fin 1) : iblk m c 2 t (ix2 z r) = inT m c (ix2 z (rowOf t r)) := by
  unfold inT rowOf part
  blk_ext [iblk, index2]
theorem block3 (t : Fin cfg0.N) (a : Fin 1024) (b : Fin 896) : iblk m c 3 t (ix2 a b) = inW m c (ix2 a b) := by
  unfold inW
  blk_ext [iblk, index3]
theorem block4 (t : Fin cfg0.N) (a : Fin 1) (b : Fin 384) : iblk m c 4 t (ix2 a b) = inGq m c (ix2 a b) := by
  unfold inGq
  blk_ext [iblk, index4]
theorem block5 (t : Fin cfg0.N) (a : Fin 1) (b : Fin 256) : iblk m c 5 t (ix2 a b) = inGk m c (ix2 a b) := by
  unfold inGk
  blk_ext [iblk, index5]
theorem block6 (t : Fin cfg0.N) (a : Fin 2048) (b : Fin 384) : iblk m c 6 t (ix2 a b) = inQ m c (ix2 a b) := by
  unfold inQ
  blk_ext [iblk, index6]
theorem block7 (t : Fin cfg0.N) (a : Fin 256) (b : Fin 1024) : iblk m c 7 t (ix2 a b) = inK m c (ix2 a b) := by
  unfold inK
  blk_ext [iblk, index7]
theorem block8 (t : Fin cfg0.N) (a : Fin 1024) (b : Fin 256) : iblk m c 8 t (ix2 a b) = inV m c (ix2 a b) := by
  unfold inV
  blk_ext [iblk, index8]
theorem block9 (t : Fin cfg0.N) (a : Fin 1) (b : Fin 128) : iblk m c 9 t (ix2 a b) = inF m c (ix2 a b) := by
  unfold inF
  blk_ext [iblk, index9]
theorem block10 (t : Fin cfg0.N) (a : Fin 64) (b : Fin 512) : iblk m c 10 t (ix2 a b) = inB m c (ix2 a b) := by
  unfold inB
  blk_ext [iblk, index10]

/-- The positions, down a column and along a row. -/
theorem column_apply (p : IVec S2x16384 32) (r : Fin 32768) (z : Fin 1) :
    shapeCast S32768x1 p shapeCasts_S2x16384_S32768x1 (ix2 r z) = p (ix2 (⟨r.val / 16384, by omega⟩ : Fin 2) (⟨r.val % 16384, by omega⟩ : Fin 16384)) := by
  pointwise
theorem line_apply (p : IVec S2x16384 32) (r : Fin 32768) (z : Fin 1) :
    shapeCast S1x32768 p shapeCasts_S2x16384_S1x32768 (ix2 z r) = p (ix2 (⟨r.val / 16384, by omega⟩ : Fin 2) (⟨r.val % 16384, by omega⟩ : Fin 16384)) := by
  pointwise
theorem inP_apply (r : Fin 32768) (z : Fin 1) :
    inP m c (ix2 r z) = argP m c (ix2 (⟨r.val / 16384, by omega⟩ : Fin 2) (⟨r.val % 16384, by omega⟩ : Fin 16384)) := by
  unfold inP
  rw [V_v45]
  exact column_apply (argP m c) r z
theorem inT_apply (r : Fin 32768) (z : Fin 1) :
    inT m c (ix2 z r) = argP m c (ix2 (⟨r.val / 16384, by omega⟩ : Fin 2) (⟨r.val % 16384, by omega⟩ : Fin 16384)) := by
  unfold inT
  rw [V_v46]
  exact line_apply (argP m c) r z
theorem inGq_apply (z : Fin 1) (j : Fin 384) : inGq m c (ix2 z j) = argGq m c (ix1 j) := by
  unfold inGq argGq
  rw [V_v47]
  pointwise
theorem inGk_apply (z : Fin 1) (j : Fin 256) : inGk m c (ix2 z j) = argGk m c (ix1 j) := by
  unfold inGk argGk
  rw [V_v48]
  pointwise

/-- The heads' columns of the weights. -/
theorem splitQ_apply (w : FVec Ideal S384x1536 .f32) (k : Fin 384) (a : Fin 8) (d : Fin 192) :
    shapeCast S384x8x192 w shapeCasts_S384x1536_S384x8x192 (ix3 k a d) = w (ix2 k (⟨a.val * 192 + d.val, by omega⟩ : Fin 1536)) := by
  pointwise
theorem splitK_apply (w : FVec Ideal S256x2048 .f32) (k : Fin 256) (a : Fin 8) (d : Fin 256) :
    shapeCast S256x8x256 w shapeCasts_S256x2048_S256x8x256 (ix3 k a d) = w (ix2 k (⟨a.val * 256 + d.val, by omega⟩ : Fin 2048)) := by
  pointwise

/-- The place of an angle is the remainder. -/
theorem angle_eq (r : Fin 64) : (⟨r.val % 32, by omega⟩ : Fin 32) = angle r := by
  unfold angle
  by_cases h : r.val < 32
  · rw [dif_pos h]; exact Fin.ext (by dsimp only; omega)
  · rw [dif_neg h]; exact Fin.ext (by dsimp only; omega)

/-- The blocks of a point hold the tile's rows and the whole weights. -/
theorem holds (t : Fin cfg0.N) : Holds (dataAt m c) (rowOf t) (iblk m c 0 t) (iblk m c 1 t) (iblk m c 2 t) (iblk m c 3 t) (iblk m c 4 t) (iblk m c 5 t)
    (iblk m c 6 t) (iblk m c 7 t) (iblk m c 8 t) (iblk m c 9 t) (iblk m c 10 t) where
  rows r k := block0 m c t r k
  down r := by rw [block1, inP_apply]; rfl
  across r := by rw [block2, inT_apply]; rfl
  first k j := by
    rw [block3]
    unfold inW
    rw [V_v21]
    exact hostIn_apply _ k j
  swapped k r := by
    rw [block3]
    unfold inW
    rw [V_v21]
    refine (hostIn_swap _ k r).trans (congrArg (fun j => argIn m c (ix2 k j)) ?_)
    unfold other
    by_cases h : r.val < 32
    · rw [dif_pos h]; exact Fin.ext (by simp only [dif_pos h]; omega)
    · rw [dif_neg h]; exact Fin.ext (by simp only [dif_neg h])
  gainQ j := by rw [block4, inGq_apply]; rfl
  gainK j := by rw [block5, inGk_apply]; rfl
  queryN a d k := by
    rw [block6]
    unfold inQ
    rw [V_v22]
    exact (hostQ_apply _ a d k).trans (splitQ_apply _ k a _)
  queryR a r k := by
    rw [block6]
    unfold inQ
    rw [V_v22]
    refine ((hostQ_last _ a r k).trans (splitQ_apply _ k a _)).trans (congrArg (fun j => argQ m c (ix2 k j)) (Fin.ext ?_))
    dsimp only
    omega
  queryS a r k := by
    rw [block6]
    unfold inQ
    rw [V_v22]
    refine ((hostQ_swap _ a r k).trans (splitQ_apply _ k a _)).trans (congrArg (fun j => argQ m c (ix2 k j)) (Fin.ext ?_))
    unfold other
    by_cases h : r.val < 32
    · simp only [dif_pos h]; omega
    · simp only [dif_neg h]; omega
  key k a d := by
    rw [block7]
    unfold inK
    rw [V_v23]
    exact (hostK_apply _ k a d).trans (splitK_apply _ k a _)
  value a d k := by
    rw [block8]
    unfold inV
    rw [V_v24]
    refine ((hostV_apply _ k a d).trans (splitK_apply _ k a _)).trans (congrArg (fun j => argK m c (ix2 k j)) (Fin.ext ?_))
    dsimp only
    omega
  lane r := by
    rw [block9]
    unfold inF
    rw [V_v39, ← angle_eq]
    exact hostF_apply _ _
  row r s := by
    rw [block10]
    unfold inB
    rw [V_v44, ← angle_eq]
    exact hostB_apply _ r s

/-- The three results of the arrays the run is given. -/
def wanted0 : Buf (Elt Ideal) ((c.tc : Thread nD τ).loc main_v49_0) := wantedQ (dataAt m c)
def wanted1 : Buf (Elt Ideal) ((c.tc : Thread nD τ).loc main_v49_1) := wantedK (dataAt m c)
def wanted2 : Buf (Elt Ideal) ((c.tc : Thread nD τ).loc main_v49_2) := wantedV (dataAt m c)

theorem cover11 : (cfg0.win 11).Covers := by decide +kernel
theorem cover12 : (cfg0.win 12).Covers := by decide +kernel
theorem cover13 : (cfg0.win 13).Covers := by decide +kernel

/-- Where the elements of a point's blocks lie. -/
theorem emb11 (t : Fin cfg0.N) (z : Fin 1) (a : Fin 8) (d : Fin 192) (s : Fin 512) (b : Fin 2) (s' : Fin 16384)
    (hb : b.val = (part t).val / 32) (hs : s'.val = (part t).val % 32 * 512 + s.val) :
    ((cfg0.win 11).blk t).view.emb (ix4 z a d s) = ix4 b a d s' := by
  unfold part at hb hs
  blk_ext [index11]
theorem emb12 (t : Fin cfg0.N) (z : Fin 1) (a : Fin 8) (s : Fin 512) (d : Fin 208) (b : Fin 2) (s' : Fin 16384)
    (hb : b.val = (part t).val / 32) (hs : s'.val = (part t).val % 32 * 512 + s.val) :
    ((cfg0.win 12).blk t).view.emb (ix4 z a s d) = ix4 b a s' d := by
  unfold part at hb hs
  blk_ext [index12]
theorem emb13 (t : Fin cfg0.N) (z : Fin 1) (a : Fin 8) (n : Fin 2) (d : Fin 128) (l : Fin 256) (b : Fin 2) (n' : Fin 64)
    (hb : b.val = (part t).val / 32) (hn : n'.val = (part t).val % 32 * 2 + n.val) :
    ((cfg0.win 13).blk t).view.emb (ix5 z a n d l) = ix5 b a n' d l := by
  unfold part at hb hn
  blk_ext [index13]

/-- The result arrays of any data of the pipeline, of what the body leaves at each point. -/
theorem result_of11 (dat : Pipeline.Dat τ (Elt Ideal) Unit ℕ (UR sig nD τ) ℕ cfg0 c)
    (ho : ∀ t, dat.after 11 t = blockQ (dataAt m c) (rowOf t)) : dat.arrAt 11 cfg0.N = wanted0 m c := by
  refine dat.arrAt_eq_of_covers 11 _ cover11 fun t _ y => ?_
  obtain ⟨z, a, d, s, rfl⟩ := exists_ix4 (a := 1) (b := 8) (c := 192) (d := 512) y
  have hls : (part t).val % 32 * 512 + s.val < 16384 := by omega
  have hlb : (part t).val / 32 < 2 := by have := (part t).isLt; omega
  rw [emb11 t z a d s ⟨_, hlb⟩ ⟨_, hls⟩ rfl rfl]
  refine (congrFun (ho t) (ix4 z a d s)).trans ?_
  refine congrArg (fun n => queryLane (dataAt m c) n a d * Ideal.ofBits .f32 0x3DD53B95#32) (Fin.ext ?_)
  show (part t).val * 512 + s.val = (part t).val / 32 * 16384 + ((part t).val % 32 * 512 + s.val)
  omega
theorem result_of12 (dat : Pipeline.Dat τ (Elt Ideal) Unit ℕ (UR sig nD τ) ℕ cfg0 c)
    (ho : ∀ t, dat.after 12 t = blockK (dataAt m c) (rowOf t)) : dat.arrAt 12 cfg0.N = wanted1 m c := by
  refine dat.arrAt_eq_of_covers 12 _ cover12 fun t _ y => ?_
  obtain ⟨z, a, s, d, rfl⟩ := exists_ix4 (a := 1) (b := 8) (c := 512) (d := 208) y
  have hls : (part t).val % 32 * 512 + s.val < 16384 := by omega
  have hlb : (part t).val / 32 < 2 := by have := (part t).isLt; omega
  rw [emb12 t z a s d ⟨_, hlb⟩ ⟨_, hls⟩ rfl rfl]
  refine (congrFun (ho t) (ix4 z a s d)).trans ?_
  refine congrArg (fun n => keyLane (dataAt m c) n a d) (Fin.ext ?_)
  show (part t).val * 512 + s.val = (part t).val / 32 * 16384 + ((part t).val % 32 * 512 + s.val)
  omega
theorem result_of13 (dat : Pipeline.Dat τ (Elt Ideal) Unit ℕ (UR sig nD τ) ℕ cfg0 c)
    (ho : ∀ t, dat.after 13 t = blockV (dataAt m c) (rowOf t)) : dat.arrAt 13 cfg0.N = wanted2 m c := by
  refine dat.arrAt_eq_of_covers 13 _ cover13 fun t _ y => ?_
  obtain ⟨z, a, n, d, l, rfl⟩ := exists_ix5 (a := 1) (b := 8) (c := 2) (d := 128) (e := 256) y
  have hln : (part t).val % 32 * 2 + n.val < 64 := by omega
  have hlb : (part t).val / 32 < 2 := by have := (part t).isLt; omega
  rw [emb13 t z a n d l ⟨_, hlb⟩ ⟨_, hln⟩ rfl rfl]
  refine (congrFun (ho t) (ix5 z a n d l)).trans ?_
  refine congrArg (fun n => keyval (dataAt m c) n (valueCol a d)) (Fin.ext ?_)
  show (part t).val * 512 + (n.val * 256 + l.val) = (part t).val / 32 * 16384 + (((part t).val % 32 * 2 + n.val) * 256 + l.val)
  omega

theorem after11 (t : Fin cfg0.N) : (dats m 0 c).after 11 t = blockQ (dataAt m c) (rowOf t) := by
  rw [after0_11]
  unfold outsAt0
  dsimp only
  rw [out11_eq, canonQ (holds m c t)]
theorem after12 (t : Fin cfg0.N) : (dats m 0 c).after 12 t = blockK (dataAt m c) (rowOf t) := by
  rw [after0_12]
  unfold outsAt0
  dsimp only
  rw [out12_eq, canonK (holds m c t)]
theorem after13 (t : Fin cfg0.N) : (dats m 0 c).after 13 t = blockV (dataAt m c) (rowOf t) := by
  rw [after0_13]
  unfold outsAt0
  dsimp only
  rw [out13_eq, canonV (holds m c t)]

theorem final11 : (dats m 0 c).arrAt 11 cfg0.N = wanted0 m c := result_of11 m c (dats m 0 c) (after11 m c)
theorem final12 : (dats m 0 c).arrAt 12 cfg0.N = wanted1 m c := result_of12 m c (dats m 0 c) (after12 m c)
theorem final13 : (dats m 0 c).arrAt 13 cfg0.N = wanted2 m c := result_of13 m c (dats m 0 c) (after13 m c)

end Cert.Kernel6Ideal.Mla

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Value
public import proofs.«01_k».proof.Proof.Gen.Reference6Ideal
public import proofs.«01_k».proof.Proof.Gen.Reference6Ideal.Run
public import proofs.«01_k».proof.Proof.FrameBits
public import proofs.«01_k».proof.Proof.FrameIdeal
public import proofs.«01_k».proof.Proof.Value
public import proofs.«01_k».proof.Proof.Finite
public import proofs.«01_k».proof.Proof.FfnRef
public import proofs.«01_k».proof.Proof.FfnValue
public import proofs.«01_k».proof.Proof.ProjValue
public import proofs.«01_k».proof.Proof.ProjWide
public import proofs.«01_k».proof.Proof.HyenaValue
public import proofs.«01_k».proof.Proof.MlaRef
public import proofs.«01_k».proof.Proof.MlaValue
public import Idealize.ShloMosaic.Adequacy
public import Idealize.ShloMosaic.Init

@[expose] public section

noncomputable section

namespace Cert.Proof

open Idealize.ShloMosaic Idealize.SL.Sem Cert.Kernel

theorem frame_ri : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- Under the precondition the kernel ends with the reference's result. -/
theorem algebraic : Cert.algebraic_KernelIdeal_ReferenceIdeal_pre_finite_rows := by
  intro m g m' g' hpre hagree
  have hf : ∀ c, Cert.KernelIdeal.Run.Finite (Cert.KernelIdeal.Run.argQ m c) (Cert.KernelIdeal.Run.argK m c) := fun c => by
    obtain ⟨hq, hk, h1⟩ := Cert.Pre_finite_rows.read_back _ _ _ (congrFun (hpre c) ix0)
    exact ⟨hq, hk, h1⟩
  refine ⟨fun c => Cert.KernelIdeal.Run.wanted m c, Cert.KernelIdeal.Run.value m g hf, ?_⟩
  refine (θ_run Cert.ReferenceIdeal.defs _ _).mono (fun _ h c => ⟨(h c).1.trans ?_, (h c).2⟩)
    (Cert.ReferenceIdeal.Value.run (F := Ideal) m' g')
  rw [Cert.ReferenceIdeal.RefValue.res_eq, (hagree c).1, (hagree c).2.1, (hagree c).2.2]
  rfl

theorem frame_ri2 : Cert.quiescent_Reference2Ideal := fun m ρ _ =>
  (θ_run Cert.Reference2Ideal.defs _ _).mono (fun r h => ⟨fun c => (h c).2,
      Idealize.ShloMosaic.sem_eq_zero_of_no_sems (by decide) r.2⟩)
    (Cert.Reference2Ideal.Value.run (F := Ideal) m ρ)

/-- The feed-forward kernel ends with its reference's result. -/
theorem algebraic2 : Cert.algebraic_Kernel2Ideal_Reference2Ideal := by
  intro m g m' g' _ hagree
  refine ⟨fun c => Cert.Kernel2Ideal.Ffn.wanted m c,
    (θ_run Cert.Kernel2Ideal.defs _ _).mono (fun _ h c => ⟨(h c).1.trans (Cert.Kernel2Ideal.Ffn.final m c), (h c).2⟩)
      (Cert.Kernel2Ideal.Value.run_blocks m g), ?_⟩
  refine (θ_run Cert.Reference2Ideal.defs _ _).mono (fun _ h c => ⟨(h c).1.trans ?_, (h c).2⟩)
    (Cert.Reference2Ideal.Value.run (F := Ideal) m' g')
  rw [Cert.Reference2Ideal.RefValue.res_eq, (hagree c).1, (hagree c).2.1, (hagree c).2.2.1, (hagree c).2.2.2.1,
    (hagree c).2.2.2.2.1, (hagree c).2.2.2.2.2]
  exact Cert.Reference2Ideal.RefValue.result_rows _ _ _ _ _ _ _ fun _ _ => rfl

theorem frame_ri3 : Cert.quiescent_Reference3Ideal := fun m ρ _ =>
  (θ_run Cert.Reference3Ideal.defs _ _).mono (fun r h => ⟨fun c => (h c).2,
      Idealize.ShloMosaic.sem_eq_zero_of_no_sems (by decide) r.2⟩)
    (Cert.Reference3Ideal.Value.run (F := Ideal) m ρ)

/-- The projection kernel of rows in the short type ends with its reference's result. -/
theorem algebraic3 : Cert.algebraic_Kernel3Ideal_Reference3Ideal := by
  intro m g m' g' _ hagree
  refine ⟨fun c => Cert.Kernel3Ideal.Proj.wanted m c,
    (θ_run Cert.Kernel3Ideal.defs _ _).mono (fun _ h c => ⟨(h c).1.trans (Cert.Kernel3Ideal.Proj.final m c), (h c).2⟩)
      (Cert.Kernel3Ideal.Value.run_blocks m g), ?_⟩
  refine (θ_run Cert.Reference3Ideal.defs _ _).mono (fun _ h c => ⟨(h c).1.trans ?_, (h c).2⟩)
    (Cert.Reference3Ideal.Value.run (F := Ideal) m' g')
  refine Eq.trans (b := Cert.Proj.ref (extf .f32 (m' ((c.tc : Thread _ _).loc Cert.Reference3Ideal.main_arg0)) Cert.Reference3Ideal.Gen.bitsLt_bf16_f32)
    (m' ((c.tc : Thread _ _).loc Cert.Reference3Ideal.main_arg1)) (m' ((c.tc : Thread _ _).loc Cert.Reference3Ideal.main_arg2))
    (m' ((c.tc : Thread _ _).loc Cert.Reference3Ideal.main_arg3)) (m' ((c.tc : Thread _ _).loc Cert.Reference3Ideal.main_arg4))) rfl ?_
  rw [(hagree c).1, (hagree c).2.1, (hagree c).2.2.1, (hagree c).2.2.2.1, (hagree c).2.2.2.2]
  exact Cert.Proj.ref_rows _ _ _ _ _ _ fun _ _ => rfl

theorem frame_ri4 : Cert.quiescent_Reference4Ideal := fun m ρ _ =>
  (θ_run Cert.Reference4Ideal.defs _ _).mono (fun r h => ⟨fun c => (h c).2,
      Idealize.ShloMosaic.sem_eq_zero_of_no_sems (by decide) r.2⟩)
    (Cert.Reference4Ideal.Value.run (F := Ideal) m ρ)

/-- The projection kernel of rows in the working type ends with its reference's result. -/
theorem algebraic4 : Cert.algebraic_Kernel4Ideal_Reference4Ideal := by
  intro m g m' g' _ hagree
  refine ⟨fun c => Cert.Kernel4Ideal.Proj.wanted m c,
    (θ_run Cert.Kernel4Ideal.defs _ _).mono (fun _ h c => ⟨(h c).1.trans (Cert.Kernel4Ideal.Proj.final m c), (h c).2⟩)
      (Cert.Kernel4Ideal.Value.run_blocks m g), ?_⟩
  refine (θ_run Cert.Reference4Ideal.defs _ _).mono (fun _ h c => ⟨(h c).1.trans ?_, (h c).2⟩)
    (Cert.Reference4Ideal.Value.run (F := Ideal) m' g')
  refine Eq.trans (b := Cert.Proj.ref (m' ((c.tc : Thread _ _).loc Cert.Reference4Ideal.main_arg0))
    (m' ((c.tc : Thread _ _).loc Cert.Reference4Ideal.main_arg1)) (m' ((c.tc : Thread _ _).loc Cert.Reference4Ideal.main_arg2))
    (m' ((c.tc : Thread _ _).loc Cert.Reference4Ideal.main_arg3)) (m' ((c.tc : Thread _ _).loc Cert.Reference4Ideal.main_arg4))) rfl ?_
  rw [(hagree c).1, (hagree c).2.1, (hagree c).2.2.1, (hagree c).2.2.2.1, (hagree c).2.2.2.2]
  exact Cert.Proj.ref_rows _ _ _ _ _ _ fun _ _ => rfl

theorem frame_ri5 : Cert.quiescent_Reference5Ideal := fun m ρ _ =>
  (θ_run Cert.Reference5Ideal.defs _ _).mono (fun r h => ⟨fun c => (h c).2.2.2,
      Idealize.ShloMosaic.sem_eq_zero_of_no_sems (by decide) r.2⟩)
    (Cert.Reference5Ideal.Value.run (F := Ideal) m ρ)

/-- The input convolution's kernel ends with its reference's three results. -/
theorem algebraic5 : Cert.algebraic_Kernel5Ideal_Reference5Ideal := by
  intro m g m' g' _ hagree
  refine ⟨fun c => Cert.Kernel5Ideal.Hyena.wanted0 m c, fun c => Cert.Kernel5Ideal.Hyena.wanted1 m c, fun c => Cert.Kernel5Ideal.Hyena.wanted2 m c,
    (θ_run Cert.Kernel5Ideal.defs _ _).mono (fun _ h c => ⟨(h c).1.trans (Cert.Kernel5Ideal.Hyena.final5 m c),
      (h c).2.1.trans (Cert.Kernel5Ideal.Hyena.final6 m c), (h c).2.2.1.trans (Cert.Kernel5Ideal.Hyena.final7 m c), (h c).2.2.2⟩)
      (Cert.Kernel5Ideal.Value.run_blocks m g), ?_⟩
  refine (θ_run Cert.Reference5Ideal.defs _ _).mono (fun _ h c => ⟨(h c).1.trans ?_, (h c).2.1.trans ?_, (h c).2.2.1.trans ?_, (h c).2.2.2⟩)
    (Cert.Reference5Ideal.Value.run (F := Ideal) m' g')
  · refine Eq.trans (b := Cert.Reference5Ideal.RefValue.ref0 (m' ((c.tc : Thread _ _).loc Cert.Reference5Ideal.main_arg0))
      (m' ((c.tc : Thread _ _).loc Cert.Reference5Ideal.main_arg1)) (m' ((c.tc : Thread _ _).loc Cert.Reference5Ideal.main_arg2))) rfl ?_
    rw [(hagree c).1, (hagree c).2.1, (hagree c).2.2]
    exact Cert.Reference5Ideal.RefValue.ref0_eq _ _ _
  · refine Eq.trans (b := Cert.Reference5Ideal.RefValue.ref1 (m' ((c.tc : Thread _ _).loc Cert.Reference5Ideal.main_arg0))
      (m' ((c.tc : Thread _ _).loc Cert.Reference5Ideal.main_arg1)) (m' ((c.tc : Thread _ _).loc Cert.Reference5Ideal.main_arg2))) rfl ?_
    rw [(hagree c).1, (hagree c).2.1, (hagree c).2.2]
    exact Cert.Reference5Ideal.RefValue.ref1_eq _ _ _
  · refine Eq.trans (b := Cert.Reference5Ideal.RefValue.ref2 (m' ((c.tc : Thread _ _).loc Cert.Reference5Ideal.main_arg0))
      (m' ((c.tc : Thread _ _).loc Cert.Reference5Ideal.main_arg1)) (m' ((c.tc : Thread _ _).loc Cert.Reference5Ideal.main_arg2))) rfl ?_
    rw [(hagree c).1, (hagree c).2.1, (hagree c).2.2]
    exact Cert.Reference5Ideal.RefValue.ref2_eq _ _ _

theorem frame_ri6 : Cert.quiescent_Reference6Ideal := fun m ρ _ =>
  (θ_run Cert.Reference6Ideal.defs _ _).mono (fun r h => ⟨fun c => (h c).2.2.2,
      Idealize.ShloMosaic.sem_eq_zero_of_no_sems (by decide) r.2⟩)
    (Cert.Reference6Ideal.Value.run (F := Ideal) m ρ)

/-- The attention's projections' kernel ends with its reference's three results. -/
theorem algebraic6 : Cert.algebraic_Kernel6Ideal_Reference6Ideal := by
  intro m g m' g' _ hagree
  refine ⟨fun c => Cert.Kernel6Ideal.Mla.wanted0 m c, fun c => Cert.Kernel6Ideal.Mla.wanted1 m c, fun c => Cert.Kernel6Ideal.Mla.wanted2 m c,
    (θ_run Cert.Kernel6Ideal.defs _ _).mono (fun _ h c => ⟨(h c).1.trans (Cert.Kernel6Ideal.Mla.final11 m c),
      (h c).2.1.trans (Cert.Kernel6Ideal.Mla.final12 m c), (h c).2.2.1.trans (Cert.Kernel6Ideal.Mla.final13 m c), (h c).2.2.2⟩)
      (Cert.Kernel6Ideal.Value.run_blocks m g), ?_⟩
  refine (θ_run Cert.Reference6Ideal.defs _ _).mono (fun _ h c => ⟨(h c).1.trans ?_, (h c).2.1.trans ?_, (h c).2.2.1.trans ?_, (h c).2.2.2⟩)
    (Cert.Reference6Ideal.Value.run (F := Ideal) m' g')
  · refine Eq.trans (b := Cert.Reference6Ideal.RefValue.refQ (Cert.Reference6Ideal.RefValue.queries (Cert.Reference6Ideal.RefValue.downs (Cert.Reference2Ideal.RefValue.seqs (m' ((c.tc : Thread _ _).loc Cert.Reference6Ideal.main_arg0))) (m' ((c.tc : Thread _ _).loc Cert.Reference6Ideal.main_arg2)))
      (m' ((c.tc : Thread _ _).loc Cert.Reference6Ideal.main_arg3)) (m' ((c.tc : Thread _ _).loc Cert.Reference6Ideal.main_arg4))) (Cert.Reference6Ideal.RefValue.angs (m' ((c.tc : Thread _ _).loc Cert.Reference6Ideal.main_arg1)))) rfl ?_
    rw [(hagree c).1, (hagree c).2.1, (hagree c).2.2.1, (hagree c).2.2.2.1, (hagree c).2.2.2.2.1]
    exact Cert.Reference6Ideal.RefValue.refQ_eq (Cert.Kernel6Ideal.Mla.argX m c) (Cert.Kernel6Ideal.Mla.argP m c) (Cert.Kernel6Ideal.Mla.argIn m c)
      (Cert.Kernel6Ideal.Mla.argGq m c) (Cert.Kernel6Ideal.Mla.argQ m c) (Cert.Kernel6Ideal.Mla.argGk m c) (Cert.Kernel6Ideal.Mla.argK m c)
  · refine (Cert.Reference6Ideal.RefValue.res_keys m' c).trans ?_
    rw [(hagree c).1, (hagree c).2.1, (hagree c).2.2.1, (hagree c).2.2.2.2.2.1, (hagree c).2.2.2.2.2.2]
    exact Cert.Reference6Ideal.RefValue.refK_eq (Cert.Kernel6Ideal.Mla.argX m c) (Cert.Kernel6Ideal.Mla.argP m c) (Cert.Kernel6Ideal.Mla.argIn m c)
      (Cert.Kernel6Ideal.Mla.argGq m c) (Cert.Kernel6Ideal.Mla.argQ m c) (Cert.Kernel6Ideal.Mla.argGk m c) (Cert.Kernel6Ideal.Mla.argK m c)
  · refine Eq.trans (b := Cert.Reference6Ideal.RefValue.refV (Cert.Reference6Ideal.RefValue.keyvals (Cert.Reference6Ideal.RefValue.downs (Cert.Reference2Ideal.RefValue.seqs (m' ((c.tc : Thread _ _).loc Cert.Reference6Ideal.main_arg0))) (m' ((c.tc : Thread _ _).loc Cert.Reference6Ideal.main_arg2)))
      (m' ((c.tc : Thread _ _).loc Cert.Reference6Ideal.main_arg5)) (m' ((c.tc : Thread _ _).loc Cert.Reference6Ideal.main_arg6)))) rfl ?_
    rw [(hagree c).1, (hagree c).2.2.1, (hagree c).2.2.2.2.2.1, (hagree c).2.2.2.2.2.2]
    exact Cert.Reference6Ideal.RefValue.refV_eq (Cert.Kernel6Ideal.Mla.argX m c) (Cert.Kernel6Ideal.Mla.argP m c) (Cert.Kernel6Ideal.Mla.argIn m c)
      (Cert.Kernel6Ideal.Mla.argGq m c) (Cert.Kernel6Ideal.Mla.argQ m c) (Cert.Kernel6Ideal.Mla.argGk m c) (Cert.Kernel6Ideal.Mla.argK m c)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Pre_finite_rows.facts,
  fun m g _ => Cert.Kernel.Run.frame m g, fun m g _ => Cert.KernelIdeal.Run.frame m g,
  fun m g _ => Cert.KernelIdeal.Run.frame m g, frame_ri, fun m g _ => frame_ri m g trivial,
  fun m g _ => Cert.Kernel2.Gen.frame m g, fun m g _ => Cert.Kernel2Ideal.Gen.frame m g, frame_ri2,
  fun m g _ => Cert.Kernel3.Gen.frame m g, fun m g _ => Cert.Kernel3Ideal.Gen.frame m g, frame_ri3,
  fun m g _ => Cert.Kernel4.Gen.frame m g, fun m g _ => Cert.Kernel4Ideal.Gen.frame m g, frame_ri4,
  fun m g _ => Cert.Kernel5.Gen.frame m g, fun m g _ => Cert.Kernel5Ideal.Gen.frame m g, frame_ri5,
  fun m g _ => Cert.Kernel6.Gen.frame m g, fun m g _ => Cert.Kernel6Ideal.Gen.frame m g, frame_ri6,
  trivial, algebraic, trivial, algebraic2, trivial, algebraic3, trivial, algebraic4, trivial, algebraic5,
  trivial, algebraic6⟩

end Cert.Proof

end
